-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384 : Shape := ⟨1, ![16384]⟩
abbrev S16384x256 : Shape := ⟨2, ![16384, 256]⟩
abbrev S1024 : Shape := ⟨1, ![1024]⟩
abbrev S_ : Shape := ⟨0, ![]⟩
abbrev S32x256 : Shape := ⟨2, ![32, 256]⟩
abbrev S32 : Shape := ⟨1, ![32]⟩
abbrev S256x1024 : Shape := ⟨2, ![256, 1024]⟩
abbrev S256 : Shape := ⟨1, ![256]⟩
abbrev S32x64 : Shape := ⟨2, ![32, 64]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : IVec S16384 1) (main_arg1 : IVec S16384 1) (main_arg2 : FVec F S16384x256 .f32) (main_arg3 : FVec F S1024 .f32) (main_arg4 : IVec S_ 32) (main_arg5 : FVec F S32x256 .f32) (main_arg6 : FVec F S32 .f32) (main_arg7 : FVec F S256x1024 .f32) (main_arg8 : FVec F S256 .f32) (main_arg9 : FVec F S32x256 .f32) (main_arg10 : FVec F S32 .f32) (main_arg11 : FVec F S32x64 .f32) (main_arg12 : FVec F S32 .f32) (main_arg13 : FVec F S32x64 .f32) (main_arg14 : FVec F S32 .f32) (main_arg15 : FVec F S32x64 .f32) (main_arg16 : FVec F S32 .f32) (main_arg17 : FVec F S32x64 .f32) (main_arg18 : FVec F S32 .f32) (main_arg19 : FVec F S32 .f32) (main_arg20 : FVec F S32 .f32) : IVec S_ 1 :=
  let main_v0 : FVec F S16384x256 .f32 := Host.absf main_arg2
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S32x256 .f32 := Host.absf main_arg5
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32 .f32 := Host.absf main_arg19
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg20
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S16384 : Shape := ⟨1, ![16384]⟩
abbrev S16384x256 : Shape := ⟨2, ![16384, 256]⟩
abbrev S1024 : Shape := ⟨1, ![1024]⟩
abbrev S_ : Shape := ⟨0, ![]⟩
abbrev S32x256 : Shape := ⟨2, ![32, 256]⟩
abbrev S32 : Shape := ⟨1, ![32]⟩
abbrev S256x1024 : Shape := ⟨2, ![256, 1024]⟩
abbrev S256 : Shape := ⟨1, ![256]⟩
abbrev S32x64 : Shape := ⟨2, ![32, 64]⟩
abbrev S1x16384 : Shape := ⟨2, ![1, 16384]⟩
abbrev S1x1024 : Shape := ⟨2, ![1, 1024]⟩
abbrev S1x32 : Shape := ⟨2, ![1, 32]⟩
abbrev S1x256 : Shape := ⟨2, ![1, 256]⟩
abbrev S2048x256 : Shape := ⟨2, ![2048, 256]⟩
abbrev S8x256 : Shape := ⟨2, ![8, 256]⟩
abbrev S1 : Shape := ⟨1, ![1]⟩
abbrev S3 : Shape := ⟨1, ![3]⟩
abbrev S1x64 : Shape := ⟨2, ![1, 64]⟩
abbrev S1x1x32 : Shape := ⟨3, ![1, 1, 32]⟩
abbrev S1x1x1 : Shape := ⟨3, ![1, 1, 1]⟩
abbrev S1x2048 : Shape := ⟨2, ![1, 2048]⟩
abbrev S1x1x16384 : Shape := ⟨3, ![1, 1, 16384]⟩

abbrev nBuf : Space → Nat
  | .hbm => 36
  | .vmem => 25
  | .smem => 1
  | _ => 0

abbrev bufTy : (tb : Table) → Fin (tcTables nBuf tb) → BufTy
  | .hbm, ⟨0, _⟩ => ⟨S16384, .i1⟩
  | .hbm, ⟨1, _⟩ => ⟨S16384, .i1⟩
  | .hbm, ⟨2, _⟩ => ⟨S16384x256, .f32⟩
  | .hbm, ⟨3, _⟩ => ⟨S1024, .f32⟩
  | .hbm, ⟨4, _⟩ => ⟨S_, .i32⟩
  | .hbm, ⟨5, _⟩ => ⟨S32x256, .f32⟩
  | .hbm, ⟨6, _⟩ => ⟨S32, .f32⟩
  | .hbm, ⟨7, _⟩ => ⟨S256x1024, .f32⟩
  | .hbm, ⟨8, _⟩ => ⟨S256, .f32⟩
  | .hbm, ⟨9, _⟩ => ⟨S32x256, .f32⟩
  | .hbm, ⟨10, _⟩ => ⟨S32, .f32⟩
  | .hbm, ⟨11, _⟩ => ⟨S32x64, .f32⟩
  | .hbm, ⟨12, _⟩ => ⟨S32, .f32⟩
  | .hbm, ⟨13, _⟩ => ⟨S32x64, .f32⟩
  | .hbm, ⟨14, _⟩ => ⟨S32, .f32⟩
  | .hbm, ⟨15, _⟩ => ⟨S32x64, .f32⟩
  | .hbm, ⟨16, _⟩ => ⟨S32, .f32⟩
  | .hbm, ⟨17, _⟩ => ⟨S32x64, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S1x16384, .i1⟩
  | .hbm, ⟨22, _⟩ => ⟨S1x1024, .f32⟩
  | .hbm, ⟨23, _⟩ => ⟨S1x32, .f32⟩
  | .hbm, ⟨24, _⟩ => ⟨S1x256, .f32⟩
  | .hbm, ⟨25, _⟩ => ⟨S1x32, .f32⟩
  | .hbm, ⟨26, _⟩ => ⟨S1x32, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S1x32, .f32⟩
  | .hbm, ⟨31, _⟩ => ⟨S1x32, .f32⟩
  | .hbm, ⟨32, _⟩ => ⟨S1x16384, .i32⟩
  | .hbm, ⟨33, _⟩ => ⟨S1x16384, .f32⟩
  | .hbm, ⟨34, _⟩ => ⟨S1x16384, .f32⟩
  | .hbm, ⟨35, _⟩ => ⟨S16384, .f32⟩
  | .local _ .vmem, ⟨0, _⟩ => ⟨S1x16384, .i32⟩
  | .local _ .vmem, ⟨1, _⟩ => ⟨S1x1024, .f32⟩
  | .local _ .vmem, ⟨2, _⟩ => ⟨S32x256, .f32⟩
  | .local _ .vmem, ⟨3, _⟩ => ⟨S1x32, .f32⟩
  | .local _ .vmem, ⟨4, _⟩ => ⟨S256x1024, .f32⟩
  | .local _ .vmem, ⟨5, _⟩ => ⟨S1x256, .f32⟩
  | .local _ .vmem, ⟨6, _⟩ => ⟨S32x256, .f32⟩
  | .local _ .vmem, ⟨7, _⟩ => ⟨S1x32, .f32⟩
  | .local _ .vmem, ⟨8, _⟩ => ⟨S32x64, .f32⟩
  | .local _ .vmem, ⟨9, _⟩ => ⟨S1x32, .f32⟩
  | .local _ .vmem, ⟨10, _⟩ => ⟨S32x64, .f32⟩
  | .local _ .vmem, ⟨11, _⟩ => ⟨S1x32, .f32⟩
  | .local _ .vmem, ⟨12, _⟩ => ⟨S32x64, .f32⟩
  | .local _ .vmem, ⟨13, _⟩ => ⟨S1x32, .f32⟩
  | .local _ .vmem, ⟨14, _⟩ => ⟨S32x64, .f32⟩
  | .local _ .vmem, ⟨15, _⟩ => ⟨S1x32, .f32⟩
  | .local _ .vmem, ⟨16, _⟩ => ⟨S1x32, .f32⟩
  | .local _ .vmem, ⟨17, _⟩ => ⟨S1x32, .f32⟩
  | .local _ .vmem, ⟨18, _⟩ => ⟨S1x16384, .f32⟩
  | .local _ .vmem, ⟨19, _⟩ => ⟨S1x16384, .f32⟩
  | .local _ .vmem, ⟨20, _⟩ => ⟨S2048x256, .f32⟩
  | .local _ .vmem, ⟨21, _⟩ => ⟨S2048x256, .f32⟩
  | .local _ .vmem, ⟨22, _⟩ => ⟨S2048x256, .f32⟩
  | .local _ .vmem, ⟨23, _⟩ => ⟨S1x16384, .f32⟩
  | .local _ .vmem, ⟨24, _⟩ => ⟨S8x256, .f32⟩
  | .local _ .smem, ⟨0, _⟩ => ⟨S1, .f32⟩
  | _, _ => ⟨S16384, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12_0 : Ref sig .tc := ⟨.hbm, 33, rfl⟩
abbrev main_v12_1 : Ref sig .tc := ⟨.hbm, 34, rfl⟩
abbrev main_v13 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c3_i32 : BitVec 32 := 3#32
  let c0_i32_2 : BitVec 32 := 0#32
  let v4 : BitVec 1 := Scalar.cmpi .eq c3_i32 c0_i32_2
  let c1_i32 : BitVec 32 := 1#32
  let v5 : BitVec 32 := Scalar.select v4 c1_i32 c3_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_6 : BitVec 32 := 0#32
  let v14 : BitVec 1 := Scalar.cmpi .eq v13 c0_i32_6
  let v15 : BitVec 32 := Scalar.extui v14
  let c0_i32_7 : BitVec 32 := 0#32
  let v16 : BitVec 1 := Scalar.cmpi .ne v15 c0_i32_7
  v16

def k0_off1 (i : grid0.Coords) : Fin 2 → Nat :=
  let arg0 : BitVec 32 := BitVec.ofNat 32 (i 0).val
  let c2048_i32 : BitVec 32 := 2048#32
  let v46 : BitVec 32 := Scalar.muli arg0 c2048_i32
  let c0_i32_25 : BitVec 32 := 0#32
  ![v46.toNat, 0]
def k0_cond3 (i : grid0.Coords) : BitVec 1 :=
  let arg0 : BitVec 32 := BitVec.ofNat 32 (i 0).val
  let c2_i32_26 : BitVec 32 := 2#32
  let v50 : BitVec 32 := Scalar.addi arg0 c2_i32_26
  let c8_i32 : BitVec 32 := 8#32
  let v51 : BitVec 1 := Scalar.cmpi .slt v50 c8_i32
  let v52 : BitVec 32 := Scalar.extui v51
  let c0_i32_27 : BitVec 32 := 0#32
  let v53 : BitVec 1 := Scalar.cmpi .ne v52 c0_i32_27
  v53

def k0_off2 (i : grid0.Coords) : Fin 2 → Nat :=
  let arg0 : BitVec 32 := BitVec.ofNat 32 (i 0).val
  let c2_i32_34 : BitVec 32 := 2#32
  let v69 : BitVec 32 := Scalar.addi arg0 c2_i32_34
  let c2048_i32_35 : BitVec 32 := 2048#32
  let v70 : BitVec 32 := Scalar.muli v69 c2048_i32_35
  let c0_i32_37 : BitVec 32 := 0#32
  ![v70.toNat, 0]
def k0_off3 (i : grid0.Coords) : Fin 2 → Nat :=
  let c0_33 : Index := 0#32
  let arg0 : BitVec 32 := BitVec.ofNat 32 (i 0).val
  let c2048_i32_32 : BitVec 32 := 2048#32
  let v64 : BitVec 32 := Scalar.muli arg0 c2048_i32_32
  let v65 : Index := Scalar.indexCast v64
  ![0, v65.toNat]
def k0_cond4 (i : grid0.Coords) : BitVec 1 :=
  let arg0 : BitVec 32 := BitVec.ofNat 32 (i 0).val
  let c3_i32_8 : BitVec 32 := 3#32
  let c0_i32_9 : BitVec 32 := 0#32
  let v17 : BitVec 1 := Scalar.cmpi .eq c3_i32_8 c0_i32_9
  let c1_i32_10 : BitVec 32 := 1#32
  let v18 : BitVec 32 := Scalar.select v17 c1_i32_10 c3_i32_8
  let v19 : BitVec 32 := Scalar.remsi arg0 v18
  let c0_i32_12 : BitVec 32 := 0#32
  let v21 : BitVec 1 := Scalar.cmpi .slt v19 c0_i32_12
  let c0_i32_13 : BitVec 32 := 0#32
  let v22 : BitVec 1 := Scalar.cmpi .slt v18 c0_i32_13
  let v23 : BitVec 1 := Scalar.xori v21 v22
  let c0_i32_11 : BitVec 32 := 0#32
  let v20 : BitVec 1 := Scalar.cmpi .ne v19 c0_i32_11
  let v24 : BitVec 1 := Scalar.andi v23 v20
  let v25 : BitVec 32 := Scalar.addi v19 v18
  let v26 : BitVec 32 := Scalar.select v24 v25 v19
  let c1_i32_14 : BitVec 32 := 1#32
  let v27 : BitVec 1 := Scalar.cmpi .eq v26 c1_i32_14
  let v28 : BitVec 32 := Scalar.extui v27
  let c0_i32_15 : BitVec 32 := 0#32
  let v29 : BitVec 1 := Scalar.cmpi .ne v28 c0_i32_15
  v29

def k0_off4 (i : grid0.Coords) : Fin 2 → Nat :=
  let arg0 : BitVec 32 := BitVec.ofNat 32 (i 0).val
  let c2048_i32 : BitVec 32 := 2048#32
  let v46 : BitVec 32 := Scalar.muli arg0 c2048_i32
  let c0_i32_25 : BitVec 32 := 0#32
  ![v46.toNat, 0]
def k0_cond5 (i : grid0.Coords) : BitVec 1 :=
  let arg0 : BitVec 32 := BitVec.ofNat 32 (i 0).val
  let c2_i32_26 : BitVec 32 := 2#32
  let v50 : BitVec 32 := Scalar.addi arg0 c2_i32_26
  let c8_i32 : BitVec 32 := 8#32
  let v51 : BitVec 1 := Scalar.cmpi .slt v50 c8_i32
  let v52 : BitVec 32 := Scalar.extui v51
  let c0_i32_27 : BitVec 32 := 0#32
  let v53 : BitVec 1 := Scalar.cmpi .ne v52 c0_i32_27
  v53

def k0_off5 (i : grid0.Coords) : Fin 2 → Nat :=
  let arg0 : BitVec 32 := BitVec.ofNat 32 (i 0).val
  let c2_i32_34 : BitVec 32 := 2#32
  let v69 : BitVec 32 := Scalar.addi arg0 c2_i32_34
  let c2048_i32_35 : BitVec 32 := 2048#32
  let v70 : BitVec 32 := Scalar.muli v69 c2048_i32_35
  let c0_i32_37 : BitVec 32 := 0#32
  ![v70.toNat, 0]
def k0_off6 (i : grid0.Coords) : Fin 2 → Nat :=
  let c0_33 : Index := 0#32
  let arg0 : BitVec 32 := BitVec.ofNat 32 (i 0).val
  let c2048_i32_32 : BitVec 32 := 2048#32
  let v64 : BitVec 32 := Scalar.muli arg0 c2048_i32_32
  let v65 : Index := Scalar.indexCast v64
  ![0, v65.toNat]
def k0_cond6 (i : grid0.Coords) : BitVec 1 :=
  let arg0 : BitVec 32 := BitVec.ofNat 32 (i 0).val
  let c3_i32_16 : BitVec 32 := 3#32
  let c0_i32_17 : BitVec 32 := 0#32
  let v30 : BitVec 1 := Scalar.cmpi .eq c3_i32_16 c0_i32_17
  let c1_i32_18 : BitVec 32 := 1#32
  let v31 : BitVec 32 := Scalar.select v30 c1_i32_18 c3_i32_16
  let v32 : BitVec 32 := Scalar.remsi arg0 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c2_i32 : BitVec 32 := 2#32
  let v40 : BitVec 1 := Scalar.cmpi .eq v39 c2_i32
  let v41 : BitVec 32 := Scalar.extui v40
  let c0_i32_22 : BitVec 32 := 0#32
  let v42 : BitVec 1 := Scalar.cmpi .ne v41 c0_i32_22
  v42

def k0_off7 (i : grid0.Coords) : Fin 2 → Nat :=
  let arg0 : BitVec 32 := BitVec.ofNat 32 (i 0).val
  let c2048_i32 : BitVec 32 := 2048#32
  let v46 : BitVec 32 := Scalar.muli arg0 c2048_i32
  let c0_i32_25 : BitVec 32 := 0#32
  ![v46.toNat, 0]
def k0_cond7 (i : grid0.Coords) : BitVec 1 :=
  let arg0 : BitVec 32 := BitVec.ofNat 32 (i 0).val
  let c2_i32_26 : BitVec 32 := 2#32
  let v50 : BitVec 32 := Scalar.addi arg0 c2_i32_26
  let c8_i32 : BitVec 32 := 8#32
  let v51 : BitVec 1 := Scalar.cmpi .slt v50 c8_i32
  let v52 : BitVec 32 := Scalar.extui v51
  let c0_i32_27 : BitVec 32 := 0#32
  let v53 : BitVec 1 := Scalar.cmpi .ne v52 c0_i32_27
  v53

def k0_off8 (i : grid0.Coords) : Fin 2 → Nat :=
  let arg0 : BitVec 32 := BitVec.ofNat 32 (i 0).val
  let c2_i32_34 : BitVec 32 := 2#32
  let v69 : BitVec 32 := Scalar.addi arg0 c2_i32_34
  let c2048_i32_35 : BitVec 32 := 2048#32
  let v70 : BitVec 32 := Scalar.muli v69 c2048_i32_35
  let c0_i32_37 : BitVec 32 := 0#32
  ![v70.toNat, 0]
def k0_off9 (i : grid0.Coords) : Fin 2 → Nat :=
  let c0_33 : Index := 0#32
  let arg0 : BitVec 32 := BitVec.ofNat 32 (i 0).val
  let c2048_i32_32 : BitVec 32 := 2048#32
  let v64 : BitVec 32 := Scalar.muli arg0 c2048_i32_32
  let v65 : Index := Scalar.indexCast v64
  ![0, v65.toNat]
def k0_cond8 (i : grid0.Coords) : BitVec 1 :=
  let arg0 : BitVec 32 := BitVec.ofNat 32 (i 0).val
  let c7_i32 : BitVec 32 := 7#32
  let v43 : BitVec 1 := Scalar.cmpi .eq arg0 c7_i32
  let v44 : BitVec 32 := Scalar.extui v43
  let c0_i32_23 : BitVec 32 := 0#32
  let v45 : BitVec 1 := Scalar.cmpi .ne v44 c0_i32_23
  v45

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x16384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x16384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x16384 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S16384 : Shape := ⟨1, ![16384]⟩
abbrev S16384x256 : Shape := ⟨2, ![16384, 256]⟩
abbrev S1024 : Shape := ⟨1, ![1024]⟩
abbrev S_ : Shape := ⟨0, ![]⟩
abbrev S32x256 : Shape := ⟨2, ![32, 256]⟩
abbrev S32 : Shape := ⟨1, ![32]⟩
abbrev S256x1024 : Shape := ⟨2, ![256, 1024]⟩
abbrev S256 : Shape := ⟨1, ![256]⟩
abbrev S32x64 : Shape := ⟨2, ![32, 64]⟩
abbrev S256x32 : Shape := ⟨2, ![256, 32]⟩
abbrev S16384x32 : Shape := ⟨2, ![16384, 32]⟩
abbrev S1x32 : Shape := ⟨2, ![1, 32]⟩
abbrev S32x16384 : Shape := ⟨2, ![32, 16384]⟩
abbrev S1024x256 : Shape := ⟨2, ![1024, 256]⟩
abbrev S64 : Shape := ⟨1, ![64]⟩
abbrev S64x32 : Shape := ⟨2, ![64, 32]⟩
abbrev S1x16384 : Shape := ⟨2, ![1, 16384]⟩
abbrev S1 : Shape := ⟨1, ![1]⟩

abbrev nBuf : Space → Nat
  | .hbm => 211
  | .vmem => 0
  | .smem => 0
  | _ => 0

abbrev hbmTy0_0 (i : Nat) : BufTy := match i % 128 with
  | 0 => ⟨S16384, .i1⟩
  | 1 => ⟨S16384, .i1⟩
  | 2 => ⟨S16384x256, .f32⟩
  | 3 => ⟨S1024, .f32⟩
  | 4 => ⟨S_, .i32⟩
  | 5 => ⟨S32x256, .f32⟩
  | 6 => ⟨S32, .f32⟩
  | 7 => ⟨S256x1024, .f32⟩
  | 8 => ⟨S256, .f32⟩
  | 9 => ⟨S32x256, .f32⟩
  | 10 => ⟨S32, .f32⟩
  | 11 => ⟨S32x64, .f32⟩
  | 12 => ⟨S32, .f32⟩
  | 13 => ⟨S32x64, .f32⟩
  | 14 => ⟨S32, .f32⟩
  | 15 => ⟨S32x64, .f32⟩
  | 16 => ⟨S32, .f32⟩
  | 17 => ⟨S32x64, .f32⟩
  | 18 => ⟨S32, .f32⟩
  | 19 => ⟨S32, .f32⟩
  | 20 => ⟨S32, .f32⟩
  | 21 => ⟨S16384, .i1⟩
  | 22 => ⟨S16384, .f32⟩
  | 23 => ⟨S256x32, .f32⟩
  | 24 => ⟨S16384x32, .f32⟩
  | 25 => ⟨S1x32, .f32⟩
  | 26 => ⟨S16384x32, .f32⟩
  | 27 => ⟨S16384x32, .f32⟩
  | 28 => ⟨S32x16384, .f32⟩
  | 29 => ⟨S_, .f32⟩
  | 30 => ⟨S32, .f32⟩
  | 31 => ⟨S_, .f32⟩
  | 32 => ⟨S32, .f32⟩
  | 33 => ⟨S_, .f32⟩
  | 34 => ⟨S16384, .f32⟩
  | 35 => ⟨S1024x256, .f32⟩
  | 36 => ⟨S256, .f32⟩
  | 37 => ⟨S256, .f32⟩
  | 38 => ⟨S_, .f32⟩
  | 39 => ⟨S256, .f32⟩
  | 40 => ⟨S256, .f32⟩
  | 41 => ⟨S256x32, .f32⟩
  | 42 => ⟨S32, .f32⟩
  | 43 => ⟨S32, .f32⟩
  | 44 => ⟨S_, .f32⟩
  | 45 => ⟨S32, .f32⟩
  | 46 => ⟨S32, .f32⟩
  | 47 => ⟨S64, .f32⟩
  | 48 => ⟨S64x32, .f32⟩
  | 49 => ⟨S32, .f32⟩
  | 50 => ⟨S32, .f32⟩
  | 51 => ⟨S32, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S_, .f32⟩
  | 60 => ⟨S_, .f32⟩
  | 61 => ⟨S_, .f32⟩
  | 62 => ⟨S_, .f32⟩
  | 63 => ⟨S32, .f32⟩
  | 64 => ⟨S32, .f32⟩
  | 65 => ⟨S32, .f32⟩
  | 66 => ⟨S_, .f32⟩
  | 67 => ⟨S_, .f32⟩
  | 68 => ⟨S_, .f32⟩
  | 69 => ⟨S_, .f32⟩
  | 70 => ⟨S32, .f32⟩
  | 71 => ⟨S32, .f32⟩
  | 72 => ⟨S_, .f32⟩
  | 73 => ⟨S_, .f32⟩
  | 74 => ⟨S_, .f32⟩
  | 75 => ⟨S32, .f32⟩
  | 76 => ⟨S32, .f32⟩
  | 77 => ⟨S32, .f32⟩
  | 78 => ⟨S32, .f32⟩
  | 79 => ⟨S32, .f32⟩
  | 80 => ⟨S64x32, .f32⟩
  | 81 => ⟨S32, .f32⟩
  | 82 => ⟨S32, .f32⟩
  | 83 => ⟨S32, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S64x32, .f32⟩
  | 92 => ⟨S32, .f32⟩
  | 93 => ⟨S32, .f32⟩
  | 94 => ⟨S32, .f32⟩
  | 95 => ⟨S32, .f32⟩
  | 96 => ⟨S_, .f32⟩
  | 97 => ⟨S_, .f32⟩
  | 98 => ⟨S_, .f32⟩
  | 99 => ⟨S_, .f32⟩
  | 100 => ⟨S32, .f32⟩
  | 101 => ⟨S32, .f32⟩
  | 102 => ⟨S32, .f32⟩
  | 103 => ⟨S_, .f32⟩
  | 104 => ⟨S_, .f32⟩
  | 105 => ⟨S_, .f32⟩
  | 106 => ⟨S_, .f32⟩
  | 107 => ⟨S32, .f32⟩
  | 108 => ⟨S32, .f32⟩
  | 109 => ⟨S_, .f32⟩
  | 110 => ⟨S_, .f32⟩
  | 111 => ⟨S_, .f32⟩
  | 112 => ⟨S32, .f32⟩
  | 113 => ⟨S32, .f32⟩
  | 114 => ⟨S32, .f32⟩
  | 115 => ⟨S32, .f32⟩
  | 116 => ⟨S32, .f32⟩
  | 117 => ⟨S32, .f32⟩
  | 118 => ⟨S64x32, .f32⟩
  | 119 => ⟨S32, .f32⟩
  | 120 => ⟨S32, .f32⟩
  | 121 => ⟨S32, .f32⟩
  | 122 => ⟨S32, .f32⟩
  | 123 => ⟨S_, .f32⟩
  | 124 => ⟨S32, .f32⟩
  | 125 => ⟨S32, .f32⟩
  | 126 => ⟨S_, .f32⟩
  | 127 => ⟨S32, .f32⟩
  | _ => ⟨S16384, .i1⟩

abbrev hbmTy0_1 (i : Nat) : BufTy := match i % 128 with
  | 0 => ⟨S32, .f32⟩
  | 1 => ⟨S_, .f32⟩
  | 2 => ⟨S_, .f32⟩
  | 3 => ⟨S_, .f32⟩
  | 4 => ⟨S_, .f32⟩
  | 5 => ⟨S32, .f32⟩
  | 6 => ⟨S32, .f32⟩
  | 7 => ⟨S32, .f32⟩
  | 8 => ⟨S_, .f32⟩
  | 9 => ⟨S_, .f32⟩
  | 10 => ⟨S_, .f32⟩
  | 11 => ⟨S_, .f32⟩
  | 12 => ⟨S32, .f32⟩
  | 13 => ⟨S32, .f32⟩
  | 14 => ⟨S_, .f32⟩
  | 15 => ⟨S_, .f32⟩
  | 16 => ⟨S_, .f32⟩
  | 17 => ⟨S32, .f32⟩
  | 18 => ⟨S32, .f32⟩
  | 19 => ⟨S32, .f32⟩
  | 20 => ⟨S32, .f32⟩
  | 21 => ⟨S32, .f32⟩
  | 22 => ⟨S1x32, .f32⟩
  | 23 => ⟨S1x16384, .f32⟩
  | 24 => ⟨S1x16384, .f32⟩
  | 25 => ⟨S1x16384, .f32⟩
  | 26 => ⟨S_, .f32⟩
  | 27 => ⟨S1x16384, .f32⟩
  | 28 => ⟨S1x16384, .f32⟩
  | 29 => ⟨S_, .f32⟩
  | 30 => ⟨S1x16384, .f32⟩
  | 31 => ⟨S1x16384, .f32⟩
  | 32 => ⟨S1x16384, .f32⟩
  | 33 => ⟨S_, .f32⟩
  | 34 => ⟨S1x16384, .f32⟩
  | 35 => ⟨S1x16384, .f32⟩
  | 36 => ⟨S1x16384, .f32⟩
  | 37 => ⟨S1x16384, .i1⟩
  | 38 => ⟨S_, .f32⟩
  | 39 => ⟨S1x16384, .f32⟩
  | 40 => ⟨S1x16384, .f32⟩
  | 41 => ⟨S_, .f32⟩
  | 42 => ⟨S1x16384, .f32⟩
  | 43 => ⟨S1x16384, .i1⟩
  | 44 => ⟨S_, .f32⟩
  | 45 => ⟨S1x16384, .f32⟩
  | 46 => ⟨S1x16384, .f32⟩
  | 47 => ⟨S_, .f32⟩
  | 48 => ⟨S1x16384, .f32⟩
  | 49 => ⟨S1x16384, .i1⟩
  | 50 => ⟨S_, .f32⟩
  | 51 => ⟨S1x16384, .f32⟩
  | 52 => ⟨S1x16384, .f32⟩
  | 53 => ⟨S_, .f32⟩
  | 54 => ⟨S_, .f32⟩
  | 55 => ⟨S_, .f32⟩
  | 56 => ⟨S_, .i1⟩
  | 57 => ⟨S1x16384, .f32⟩
  | 58 => ⟨S1x16384, .f32⟩
  | 59 => ⟨S1x16384, .f32⟩
  | 60 => ⟨S16384, .f32⟩
  | 61 => ⟨S16384, .i32⟩
  | 62 => ⟨S_, .f32⟩
  | 63 => ⟨S_, .i32⟩
  | 64 => ⟨S_, .f32⟩
  | 65 => ⟨S_, .i32⟩
  | 66 => ⟨S_, .f32⟩
  | 67 => ⟨S16384, .f32⟩
  | 68 => ⟨S_, .i32⟩
  | 69 => ⟨S_, .i1⟩
  | 70 => ⟨S_, .i32⟩
  | 71 => ⟨S_, .i32⟩
  | 72 => ⟨S_, .i32⟩
  | 73 => ⟨S1, .i32⟩
  | 74 => ⟨S_, .f32⟩
  | 75 => ⟨S16384, .f32⟩
  | 76 => ⟨S16384, .f32⟩
  | 77 => ⟨S_, .f32⟩
  | 78 => ⟨S16384, .f32⟩
  | 79 => ⟨S16384, .i1⟩
  | 80 => ⟨S_, .i1⟩
  | 81 => ⟨S_, .i1⟩
  | 82 => ⟨S16384, .f32⟩
  | _ => ⟨S16384, .i1⟩

abbrev hbmTy (i : Nat) : BufTy := match i / 128 with
  | 0 => hbmTy0_0 i
  | 1 => hbmTy0_1 i
  | _ => ⟨S16384, .i1⟩

abbrev bufTy : (tb : Table) → Fin (tcTables nBuf tb) → BufTy
  | .hbm, ⟨i, _⟩ => hbmTy i
  | _, _ => ⟨S16384, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_cst_0 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call0_cst : Ref sig .tc := ⟨.hbm, 38, rfl⟩
abbrev main_call0_v0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_call1_cst : Ref sig .tc := ⟨.hbm, 44, rfl⟩
abbrev main_call1_v0 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_2 : Ref sig .tc := ⟨.hbm, 53, rfl⟩
abbrev main_v25 : Ref sig .tc := ⟨.hbm, 54, rfl⟩
abbrev main_v26 : Ref sig .tc := ⟨.hbm, 55, rfl⟩
abbrev main_cst_3 : Ref sig .tc := ⟨.hbm, 56, rfl⟩
abbrev main_v27 : Ref sig .tc := ⟨.hbm, 57, rfl⟩
abbrev main_v28 : Ref sig .tc := ⟨.hbm, 58, rfl⟩
abbrev main_cst_4 : Ref sig .tc := ⟨.hbm, 59, rfl⟩
abbrev main_v29 : Ref sig .tc := ⟨.hbm, 60, rfl⟩
abbrev main_cst_5 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_6 : Ref sig .tc := ⟨.hbm, 66, rfl⟩
abbrev main_v34 : Ref sig .tc := ⟨.hbm, 67, rfl⟩
abbrev main_cst_7 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_8 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_9 : Ref sig .tc := ⟨.hbm, 85, rfl⟩
abbrev main_v50 : Ref sig .tc := ⟨.hbm, 86, rfl⟩
abbrev main_v51 : Ref sig .tc := ⟨.hbm, 87, rfl⟩
abbrev main_cst_10 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_11 : Ref sig .tc := ⟨.hbm, 96, rfl⟩
abbrev main_v59 : Ref sig .tc := ⟨.hbm, 97, rfl⟩
abbrev main_cst_12 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_13 : Ref sig .tc := ⟨.hbm, 103, rfl⟩
abbrev main_v64 : Ref sig .tc := ⟨.hbm, 104, rfl⟩
abbrev main_cst_14 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_15 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_16 : Ref sig .tc := ⟨.hbm, 123, rfl⟩
abbrev main_v81 : Ref sig .tc := ⟨.hbm, 124, rfl⟩
abbrev main_v82 : Ref sig .tc := ⟨.hbm, 125, rfl⟩
abbrev main_cst_17 : Ref sig .tc := ⟨.hbm, 126, rfl⟩
abbrev main_v83 : Ref sig .tc := ⟨.hbm, 127, rfl⟩
abbrev main_v84 : Ref sig .tc := ⟨.hbm, 128, rfl⟩
abbrev main_cst_18 : Ref sig .tc := ⟨.hbm, 129, rfl⟩
abbrev main_v85 : Ref sig .tc := ⟨.hbm, 130, rfl⟩
abbrev main_cst_19 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_20 : Ref sig .tc := ⟨.hbm, 136, rfl⟩
abbrev main_v90 : Ref sig .tc := ⟨.hbm, 137, rfl⟩
abbrev main_cst_21 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_22 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_23 : Ref sig .tc := ⟨.hbm, 154, rfl⟩
abbrev main_v105 : Ref sig .tc := ⟨.hbm, 155, rfl⟩
abbrev main_v106 : Ref sig .tc := ⟨.hbm, 156, rfl⟩
abbrev main_cst_24 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_25 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_call2_v0 : Ref sig .tc := ⟨.hbm, 165, rfl⟩
abbrev main_call2_cst : Ref sig .tc := ⟨.hbm, 166, rfl⟩
abbrev main_call2_call0_v0 : Ref sig .tc := ⟨.hbm, 167, rfl⟩
abbrev main_call2_v1 : Ref sig .tc := ⟨.hbm, 168, rfl⟩
abbrev main_call2_cst_0 : Ref sig .tc := ⟨.hbm, 169, rfl⟩
abbrev main_call2_v2 : Ref sig .tc := ⟨.hbm, 170, rfl⟩
abbrev main_call2_v3 : Ref sig .tc := ⟨.hbm, 171, rfl⟩
abbrev main_call2_cst_1 : Ref sig .tc := ⟨.hbm, 172, rfl⟩
abbrev main_call2_call1_v0 : Ref sig .tc := ⟨.hbm, 173, rfl⟩
abbrev main_call2_v4 : Ref sig .tc := ⟨.hbm, 174, rfl⟩
abbrev main_call2_cst_2 : Ref sig .tc := ⟨.hbm, 175, rfl⟩
abbrev main_call2_v5 : Ref sig .tc := ⟨.hbm, 176, rfl⟩
abbrev main_call2_v6 : Ref sig .tc := ⟨.hbm, 177, rfl⟩
abbrev main_call2_cst_3 : Ref sig .tc := ⟨.hbm, 178, rfl⟩
abbrev main_call2_call2_v0 : Ref sig .tc := ⟨.hbm, 179, rfl⟩
abbrev main_v113 : Ref sig .tc := ⟨.hbm, 180, rfl⟩
abbrev main_cst_26 : Ref sig .tc := ⟨.hbm, 181, rfl⟩
abbrev main_v114 : Ref sig .tc := ⟨.hbm, 182, rfl⟩
abbrev main_cst_27 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_call4_v0 : Ref sig .tc := ⟨.hbm, 189, rfl⟩
abbrev main_call4_cst : Ref sig .tc := ⟨.hbm, 190, rfl⟩
abbrev main_call4_c : Ref sig .tc := ⟨.hbm, 191, rfl⟩
abbrev main_call4_v1_0 : Ref sig .tc := ⟨.hbm, 192, rfl⟩
abbrev main_v120 : Ref sig .tc := ⟨.hbm, 193, rfl⟩
abbrev main_cst_28 : Ref sig .tc := ⟨.hbm, 194, rfl⟩
abbrev main_v121 : Ref sig .tc := ⟨.hbm, 195, rfl⟩
abbrev main_c : Ref sig .tc := ⟨.hbm, 196, rfl⟩
abbrev main_v122 : Ref sig .tc := ⟨.hbm, 197, rfl⟩
abbrev main_c_29 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_cst_30 : Ref sig .tc := ⟨.hbm, 202, rfl⟩
abbrev main_v126 : Ref sig .tc := ⟨.hbm, 203, rfl⟩
abbrev main_v127 : Ref sig .tc := ⟨.hbm, 204, rfl⟩
abbrev main_cst_31 : Ref sig .tc := ⟨.hbm, 205, rfl⟩
abbrev main_v128 : Ref sig .tc := ⟨.hbm, 206, rfl⟩
abbrev main_v129 : Ref sig .tc := ⟨.hbm, 207, rfl⟩
abbrev main_c_32 : Ref sig .tc := ⟨.hbm, 208, rfl⟩
abbrev main_v130 : Ref sig .tc := ⟨.hbm, 209, rfl⟩
abbrev main_v131 : Ref sig .tc := ⟨.hbm, 210, rfl⟩

abbrev nD : Nat := 1
abbrev τ : Topo := Topo.v7x

variable {F : FTy → Type} [FloatOps F]
-- ==== Proof.Ideal.Setup.lean ====
/- The launch's set-up for the fused kernel, whose entity table is streamed by the body's own copies: the host lines
   around the kernel, the kernel's own semaphore cells, the table left in HBM, the closed forms of the body's conditions
   and row offsets over the eight grid points, and the names of the table's blocks, the three receiving buffers and the
   copies in flight between them. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Dma

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host lines around the kernel -/

set_option maxHeartbeats 800000 in
/-- The program is its host lines, the kernel, then its last host line. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- A buffer that is neither a window's array nor the last host line's result ends as the kernel found it. -/
theorem tail_of (dats : (p : Fin _) → (c : Dev nD) → Dat τ (Elt F) Unit ℕ (Pipeline.UD sig nD τ) ℕ (cfgs p) c) (c : Dev nD)
    (b : Ref sig .tc) (hb : b ≠ main_v13) (ha : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b ha]

/-! ### An input window's staging buffer holds its block at every point, for proof data over the arrays as the kernel
    finds them whose body leaves the input blocks in place -/

/-- Window 0 is an input: before each step it holds its block of the array. -/
theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]) t d).trans
    (by unfold Dat.fetched Dat.blockOf iblk; rw [hA]; try rfl)
/-- Window 1 is an input: before each step it holds its block of the array. -/
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]) t d).trans
    (by unfold Dat.fetched Dat.blockOf iblk; rw [hA]; try rfl)
/-- Window 2 is an input: before each step it holds its block of the array. -/
theorem before_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]) t d).trans
    (by unfold Dat.fetched Dat.blockOf iblk; rw [hA]; try rfl)
/-- Window 3 is an input: before each step it holds its block of the array. -/
theorem before_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]) t d).trans
    (by unfold Dat.fetched Dat.blockOf iblk; rw [hA]; try rfl)
/-- Window 4 is an input: before each step it holds its block of the array. -/
theorem before_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]) t d).trans
    (by unfold Dat.fetched Dat.blockOf iblk; rw [hA]; try rfl)
/-- Window 5 is an input: before each step it holds its block of the array. -/
theorem before_5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]) t d).trans
    (by unfold Dat.fetched Dat.blockOf iblk; rw [hA]; try rfl)
/-- Window 6 is an input: before each step it holds its block of the array. -/
theorem before_6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]) t d).trans
    (by unfold Dat.fetched Dat.blockOf iblk; rw [hA]; try rfl)
/-- Window 7 is an input: before each step it holds its block of the array. -/
theorem before_7 {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]) t d).trans
    (by unfold Dat.fetched Dat.blockOf iblk; rw [hA]; try rfl)
/-- Window 8 is an input: before each step it holds its block of the array. -/
theorem before_8 {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]) t d).trans
    (by unfold Dat.fetched Dat.blockOf iblk; rw [hA]; try rfl)
/-- Window 9 is an input: before each step it holds its block of the array. -/
theorem before_9 {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]) t d).trans
    (by unfold Dat.fetched Dat.blockOf iblk; rw [hA]; try rfl)
/-- Window 10 is an input: before each step it holds its block of the array. -/
theorem before_10 {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]) t d).trans
    (by unfold Dat.fetched Dat.blockOf iblk; rw [hA]; try rfl)
/-- Window 11 is an input: before each step it holds its block of the array. -/
theorem before_11 {c : Dev nD} (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]) t d).trans
    (by unfold Dat.fetched Dat.blockOf iblk; rw [hA]; try rfl)
/-- Window 12 is an input: before each step it holds its block of the array. -/
theorem before_12 {c : Dev nD} (dat : Dat τ (Elt F) Unit ℕ (Pipeline.UD sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]) t d).trans
    (by unfold Dat.fetched Dat.blockOf iblk; rw [hA]; try rfl)
/-- Window 13 is an input: before each step it holds its block of the array. -/
theorem before_13 {c : Dev nD} (dat : Dat τ (Elt F) Unit ℕ (Pipeline.UD sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]) t d).trans
    (by unfold Dat.fetched Dat.blockOf iblk; rw [hA]; try rfl)
/-- Window 14 is an input: before each step it holds its block of the array. -/
theorem before_14 {c : Dev nD} (dat : Dat τ (Elt F) Unit ℕ (Pipeline.UD sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]) t d).trans
    (by unfold Dat.fetched Dat.blockOf iblk; rw [hA]; try rfl)
/-- Window 15 is an input: before each step it holds its block of the array. -/
theorem before_15 {c : Dev nD} (dat : Dat τ (Elt F) Unit ℕ (Pipeline.UD sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]) t d).trans
    (by unfold Dat.fetched Dat.blockOf iblk; rw [hA]; try rfl)
/-- Window 16 is an input: before each step it holds its block of the array. -/
theorem before_16 {c : Dev nD} (dat : Dat τ (Elt F) Unit ℕ (Pipeline.UD sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]) t d).trans
    (by unfold Dat.fetched Dat.blockOf iblk; rw [hA]; try rfl)
/-- Window 17 is an input: before each step it holds its block of the array. -/
theorem before_17 {c : Dev nD} (dat : Dat τ (Elt F) Unit ℕ (Pipeline.UD sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]) t d).trans
    (by unfold Dat.fetched Dat.blockOf iblk; rw [hA]; try rfl)

/-! ## The kernel's own buffers and semaphore cells -/

/-- The three buffers that receive the table's blocks, the row of weights, the folded query and its offset. -/
abbrev scM0 : Memref sig .tc .vmem S2048x256 .f32 := Memref.whole cc0_scratch0
abbrev scM1 : Memref sig .tc .vmem S2048x256 .f32 := Memref.whole cc0_scratch1
abbrev scM2 : Memref sig .tc .vmem S2048x256 .f32 := Memref.whole cc0_scratch2
abbrev scM3 : Memref sig .tc .vmem S1x16384 .f32 := Memref.whole cc0_scratch3
abbrev scM4 : Memref sig .tc .vmem S8x256 .f32 := Memref.whole cc0_scratch4
abbrev scM5 : Memref sig .tc .smem S1 .f32 := Memref.whole cc0_scratch5
/-- The entity table, left in HBM. -/
abbrev hbM : Memref sig .tc .hbm S16384x256 .f32 := Memref.whole main_arg2

/-- The contents of memref `M`'s buffer on core `c`. -/
abbrev BufOf (c : Dev nD) {sp : Space} {S : Shape} {e : EltTy} (M : Memref sig .tc sp S e) : Type := Buf (Elt F) (M.view.loc (c : Thread nD τ))
/-- Memref `M`'s buffer on core `c`, held whole at `f`. -/
abbrev held (c : Dev nD) {sp : Space} {S : Shape} {e : EltTy} (M : Memref sig .tc sp S e) (f : BufOf (F := F) c M) : sProp 𝕄 :=
  M.view.loc (c : Thread nD τ) ↦{fullShare} f

/-- The three cells of the kernel's semaphore array, by their number in the pool. -/
abbrev osem0 : Fin 3 → SemLoc sig := fun j => (![SemLoc.dma 20, SemLoc.dma 21, SemLoc.dma 22] : Fin 3 → SemLoc sig) j
/-- The kernel's own three semaphores meet what the pipeline asks of them. -/
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 20) 0 ∗ semVal ((c : Thread nD τ), SemLoc.dma 21) 0 ∗ semVal ((c : Thread nD τ), SemLoc.dma 22) 0) := by
  rw [Pipeline.ownSems0_eq_of_list c osem0 [0, 1, 2] (by decide) (by decide)]; rfl

/-- The one array the body moves by itself. -/
def H0 : Finset (Ref sig .tc) := {main_arg2}
/-- The table is among the references that no window takes. -/
theorem H0_sub : H0 ⊆ Pipeline.restRefs sig spec0 := by decide
/-- The host line after the kernel does not touch it. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut Pipeline.Prefetch.none spec0 H0 op ((List.forall_iff_forall_mem.mp hostOps1_sub) op hop) (fun j => j.elim0) ?_
  simp only [hostOps1, List.mem_cons, List.mem_nil_iff, or_false] at hop
  subst hop
  intro b hb
  simp only [H0, Finset.mem_singleton] at hb
  subst hb
  simp only [StableHlo.reshape_bufs, Finset.mem_insert, Finset.mem_singleton, not_or]
  and_intros <;> exact StableHlo.devRef_ne_of_ne (by decide)
/-- What is held of it, listed. -/
theorem hbmPts0_eq (c : Dev nD) :
    (bigSep H0 (fun b => ((c : Thread nD τ).loc b) ↦{fullShare} V m c b) : sProp 𝕄) = held c hbM (V m c main_arg2) := by
  rw [BI.bigSep_eq_bigSepL_of_eq [main_arg2] (by decide) (by decide)]; rfl

/-- What the launch hands the kernel beside its windows, piece by piece. -/
theorem PhiD0_eq (c : Dev nD) :
    (Pipeline.ΦD osem0 spec0 H0 (V m) c : sProp 𝕄)
      = iprop(iprop((∃ f, held c scM0 f) ∗ (∃ f, held c scM1 f) ∗ (∃ f, held c scM2 f) ∗ (∃ f, held c scM3 f) ∗ (∃ f, held c scM4 f) ∗ (∃ f, held c scM5 f))
          ∗ (∃ r, prngReg c r)
          ∗ iprop(semVal ((c : Thread nD τ), SemLoc.dma 20) 0 ∗ semVal ((c : Thread nD τ), SemLoc.dma 21) 0 ∗ semVal ((c : Thread nD τ), SemLoc.dma 22) 0)
          ∗ held c hbM (V m c main_arg2)) := by
  rw [Pipeline.ΦD_eq, scopedRest0_eq, ownSems00_eq, hbmPts0_eq]

/-! ## The body's conditions and row offsets, point by point -/

/-- The condition of the body's first branch: the first grid point. -/
abbrev cond1 (i : grid0.Coords) : Prop := (Scalar.cmpi .ne (Scalar.extui (Scalar.cmpi .eq (BitVec.ofNat 32 (i 0).val) 0#32)) 0#32) = 1#1

/-- Condition 1 of the body in terms of the step's number. -/
theorem hcond1 : ∀ t : Fin cfg0.N, cond1 (grid0.coords t) ↔ t.val = 0 :=
  (by decide +kernel : ∀ t : Fin grid0.N, cond1 (grid0.coords t) ↔ t.val = 0)
/-- Condition 2 of the body in terms of the step's number. -/
theorem hcond2 : ∀ t : Fin cfg0.N, k0_cond2 (grid0.coords t) = 1#1 ↔ t.val % 3 = 0 :=
  (by decide +kernel : ∀ t : Fin grid0.N, k0_cond2 (grid0.coords t) = 1#1 ↔ t.val % 3 = 0)
/-- Condition 3 of the body in terms of the step's number. -/
theorem hcond3 : ∀ t : Fin cfg0.N, k0_cond3 (grid0.coords t) = 1#1 ↔ t.val < 6 :=
  (by decide +kernel : ∀ t : Fin grid0.N, k0_cond3 (grid0.coords t) = 1#1 ↔ t.val < 6)
/-- Condition 4 of the body in terms of the step's number. -/
theorem hcond4 : ∀ t : Fin cfg0.N, k0_cond4 (grid0.coords t) = 1#1 ↔ t.val % 3 = 1 :=
  (by decide +kernel : ∀ t : Fin grid0.N, k0_cond4 (grid0.coords t) = 1#1 ↔ t.val % 3 = 1)
/-- Condition 5 of the body in terms of the step's number. -/
theorem hcond5 : ∀ t : Fin cfg0.N, k0_cond5 (grid0.coords t) = 1#1 ↔ t.val < 6 :=
  (by decide +kernel : ∀ t : Fin grid0.N, k0_cond5 (grid0.coords t) = 1#1 ↔ t.val < 6)
/-- Condition 6 of the body in terms of the step's number. -/
theorem hcond6 : ∀ t : Fin cfg0.N, k0_cond6 (grid0.coords t) = 1#1 ↔ t.val % 3 = 2 :=
  (by decide +kernel : ∀ t : Fin grid0.N, k0_cond6 (grid0.coords t) = 1#1 ↔ t.val % 3 = 2)
/-- Condition 7 of the body in terms of the step's number. -/
theorem hcond7 : ∀ t : Fin cfg0.N, k0_cond7 (grid0.coords t) = 1#1 ↔ t.val < 6 :=
  (by decide +kernel : ∀ t : Fin grid0.N, k0_cond7 (grid0.coords t) = 1#1 ↔ t.val < 6)
/-- Condition 8 of the body in terms of the step's number. -/
theorem hcond8 : ∀ t : Fin cfg0.N, k0_cond8 (grid0.coords t) = 1#1 ↔ t.val = 7 :=
  (by decide +kernel : ∀ t : Fin grid0.N, k0_cond8 (grid0.coords t) = 1#1 ↔ t.val = 7)

/-! ## The table's blocks, the cells and the copies in flight -/

/-- A block lies inside the table. -/
theorem inb_src (b : Fin 8) : ∀ a, (![2048 * b.val, 0] : Fin 2 → Nat) a + S2048x256.size a ≤ S16384x256.size a := by
  have := b.isLt; intro a; fin_cases a <;> simp <;> omega
/-- Block `b` of the table: rows `2048·b` up to `2048·(b+1)`. -/
def srcB (b : Fin 8) : Memref sig .tc .hbm S2048x256 .f32 :=
  hbM.slice (Rect.unit (s := S16384x256) ![2048 * b.val, 0] S2048x256.size (inb_src b)) (fun _ => rfl)

/-- The three cells, spelt as the body spells them. -/
def cellA0 : DmaSems sig S_ := (cc0_scratch6.slice (Rect.unit (s := S3) ![0] S1.size inb_S3_S1_0)).squeeze S_ squeezes_S1_S_
def cellA1 : DmaSems sig S_ := (cc0_scratch6.slice (Rect.unit (s := S3) ![1] S1.size inb_S3_S1_1)).squeeze S_ squeezes_S1_S_
def cellA2 : DmaSems sig S_ := (cc0_scratch6.slice (Rect.unit (s := S3) ![2] S1.size inb_S3_S1_2)).squeeze S_ squeezes_S1_S_
abbrev cellR0 : SemLoc sig := SemLoc.dma cellA0.sem
abbrev cellR1 : SemLoc sig := SemLoc.dma cellA1.sem
abbrev cellR2 : SemLoc sig := SemLoc.dma cellA2.sem
/-- Which semaphore buffer 0 uses. -/
theorem cellR0_eq : cellR0 = SemLoc.dma 20 := by decide
/-- Which semaphore buffer 1 uses. -/
theorem cellR1_eq : cellR1 = SemLoc.dma 21 := by decide
/-- Which semaphore buffer 2 uses. -/
theorem cellR2_eq : cellR2 = SemLoc.dma 22 := by decide

/-- The semaphore of buffer 0, in its plain form. -/
@[sl_canon] theorem canon_cell0 : (cc0_scratch6.slice (Rect.unit (s := S3) ![0] S1.size inb_S3_S1_0)).squeeze S_ squeezes_S1_S_ = cellA0 := rfl
@[sl_canon] theorem canon_cell1 : (cc0_scratch6.slice (Rect.unit (s := S3) ![1] S1.size inb_S3_S1_1)).squeeze S_ squeezes_S1_S_ = cellA1 := rfl
@[sl_canon] theorem canon_cell2 : (cc0_scratch6.slice (Rect.unit (s := S3) ![2] S1.size inb_S3_S1_2)).squeeze S_ squeezes_S1_S_ = cellA2 := rfl
@[sl_canon] theorem canon_src0 : hbM.slice (Rect.unit (s := S16384x256) ![0, 0] S2048x256.size inb_S16384x256_S2048x256_0_0) (fun _ => rfl) = srcB (Ring.bk 8 0) := rfl
@[sl_canon] theorem canon_src1 : hbM.slice (Rect.unit (s := S16384x256) ![2048, 0] S2048x256.size inb_S16384x256_S2048x256_2048_0) (fun _ => rfl) = srcB (Ring.bk 8 1) := rfl

/-- Offset 1 of the body in terms of the step's number. -/
theorem coff1 : ∀ t : Fin grid0.N, k0_off1 (grid0.coords t) = ![2048 * (Ring.bk 8 t.val).val, 0] := by decide +kernel
/-- Offset 4 of the body in terms of the step's number. -/
theorem coff4 : ∀ t : Fin grid0.N, k0_off4 (grid0.coords t) = ![2048 * (Ring.bk 8 t.val).val, 0] := by decide +kernel
/-- Offset 7 of the body in terms of the step's number. -/
theorem coff7 : ∀ t : Fin grid0.N, k0_off7 (grid0.coords t) = ![2048 * (Ring.bk 8 t.val).val, 0] := by decide +kernel
/-- Offset 2 of the body in terms of the step's number. -/
theorem coff2 : ∀ t : Fin grid0.N, t.val < 6 → k0_off2 (grid0.coords t) = ![2048 * (Ring.bk 8 (t.val + 2)).val, 0] := by decide +kernel
/-- Offset 5 of the body in terms of the step's number. -/
theorem coff5 : ∀ t : Fin grid0.N, t.val < 6 → k0_off5 (grid0.coords t) = ![2048 * (Ring.bk 8 (t.val + 2)).val, 0] := by decide +kernel
/-- Offset 8 of the body in terms of the step's number. -/
theorem coff8 : ∀ t : Fin grid0.N, t.val < 6 → k0_off8 (grid0.coords t) = ![2048 * (Ring.bk 8 (t.val + 2)).val, 0] := by decide +kernel
/-- Offset 3 of the body in terms of the step's number. -/
theorem coff3 : ∀ t : Fin grid0.N, k0_off3 (grid0.coords t) = ![0, 2048 * t.val] := by decide +kernel
/-- Offset 6 of the body in terms of the step's number. -/
theorem coff6 : ∀ t : Fin grid0.N, k0_off6 (grid0.coords t) = ![0, 2048 * t.val] := by decide +kernel
/-- Offset 9 of the body in terms of the step's number. -/
theorem coff9 : ∀ t : Fin grid0.N, k0_off9 (grid0.coords t) = ![0, 2048 * t.val] := by decide +kernel

/-- The slice at offset 1, in its plain form. -/
@[sl_canon] theorem canon_off1 (t : Fin grid0.N) (h2 : k0_cond2 (grid0.coords t) = 1#1) :
    hbM.slice (Rect.unit (s := S16384x256) (k0_off1 (grid0.coords t)) S2048x256.size (k0_off1_inb (grid0.coords t) h2)) (fun _ => rfl) = srcB (Ring.bk 8 t.val) :=
  Memref.slice_unit_congr _ (coff1 t) _ _ (fun _ => rfl) (fun _ => rfl)
/-- The slice at offset 4, in its plain form. -/
@[sl_canon] theorem canon_off4 (t : Fin grid0.N) (h4 : k0_cond4 (grid0.coords t) = 1#1) :
    hbM.slice (Rect.unit (s := S16384x256) (k0_off4 (grid0.coords t)) S2048x256.size (k0_off4_inb (grid0.coords t) h4)) (fun _ => rfl) = srcB (Ring.bk 8 t.val) :=
  Memref.slice_unit_congr _ (coff4 t) _ _ (fun _ => rfl) (fun _ => rfl)
/-- The slice at offset 7, in its plain form. -/
@[sl_canon] theorem canon_off7 (t : Fin grid0.N) (h6 : k0_cond6 (grid0.coords t) = 1#1) :
    hbM.slice (Rect.unit (s := S16384x256) (k0_off7 (grid0.coords t)) S2048x256.size (k0_off7_inb (grid0.coords t) h6)) (fun _ => rfl) = srcB (Ring.bk 8 t.val) :=
  Memref.slice_unit_congr _ (coff7 t) _ _ (fun _ => rfl) (fun _ => rfl)
/-- The slice at offset 2, in its plain form. -/
@[sl_canon] theorem canon_off2 (t : Fin grid0.N) (h2 : k0_cond2 (grid0.coords t) = 1#1) (h3 : k0_cond3 (grid0.coords t) = 1#1) :
    hbM.slice (Rect.unit (s := S16384x256) (k0_off2 (grid0.coords t)) S2048x256.size (k0_off2_inb (grid0.coords t) h2 h3)) (fun _ => rfl) = srcB (Ring.bk 8 (t.val + 2)) :=
  Memref.slice_unit_congr _ (coff2 t ((hcond3 t).mp h3)) _ _ (fun _ => rfl) (fun _ => rfl)
/-- The slice at offset 5, in its plain form. -/
@[sl_canon] theorem canon_off5 (t : Fin grid0.N) (h4 : k0_cond4 (grid0.coords t) = 1#1) (h5 : k0_cond5 (grid0.coords t) = 1#1) :
    hbM.slice (Rect.unit (s := S16384x256) (k0_off5 (grid0.coords t)) S2048x256.size (k0_off5_inb (grid0.coords t) h4 h5)) (fun _ => rfl) = srcB (Ring.bk 8 (t.val + 2)) :=
  Memref.slice_unit_congr _ (coff5 t ((hcond5 t).mp h5)) _ _ (fun _ => rfl) (fun _ => rfl)
/-- The slice at offset 8, in its plain form. -/
@[sl_canon] theorem canon_off8 (t : Fin grid0.N) (h6 : k0_cond6 (grid0.coords t) = 1#1) (h7 : k0_cond7 (grid0.coords t) = 1#1) :
    hbM.slice (Rect.unit (s := S16384x256) (k0_off8 (grid0.coords t)) S2048x256.size (k0_off8_inb (grid0.coords t) h6 h7)) (fun _ => rfl) = srcB (Ring.bk 8 (t.val + 2)) :=
  Memref.slice_unit_congr _ (coff8 t ((hcond7 t).mp h7)) _ _ (fun _ => rfl) (fun _ => rfl)
/-- The slice at offset 1, written with literals, in its plain form. -/
@[sl_canon] theorem canon_off1_lit (t : Fin grid0.N) (h2 : k0_cond2 (grid0.coords t) = 1#1) :
    hbM.slice (Rect.unit (s := S16384x256) (k0_off1 (grid0.coords t)) ![2048, 256] (k0_off1_inb (grid0.coords t) h2)) (fun _ => rfl) = srcB (Ring.bk 8 t.val) :=
  Memref.slice_unit_congr _ (coff1 t) _ _ (fun _ => rfl) (fun _ => rfl)
/-- The slice at offset 4, written with literals, in its plain form. -/
@[sl_canon] theorem canon_off4_lit (t : Fin grid0.N) (h4 : k0_cond4 (grid0.coords t) = 1#1) :
    hbM.slice (Rect.unit (s := S16384x256) (k0_off4 (grid0.coords t)) ![2048, 256] (k0_off4_inb (grid0.coords t) h4)) (fun _ => rfl) = srcB (Ring.bk 8 t.val) :=
  Memref.slice_unit_congr _ (coff4 t) _ _ (fun _ => rfl) (fun _ => rfl)
/-- The slice at offset 7, written with literals, in its plain form. -/
@[sl_canon] theorem canon_off7_lit (t : Fin grid0.N) (h6 : k0_cond6 (grid0.coords t) = 1#1) :
    hbM.slice (Rect.unit (s := S16384x256) (k0_off7 (grid0.coords t)) ![2048, 256] (k0_off7_inb (grid0.coords t) h6)) (fun _ => rfl) = srcB (Ring.bk 8 t.val) :=
  Memref.slice_unit_congr _ (coff7 t) _ _ (fun _ => rfl) (fun _ => rfl)
/-- The slice at offset 2, written with literals, in its plain form. -/
@[sl_canon] theorem canon_off2_lit (t : Fin grid0.N) (h2 : k0_cond2 (grid0.coords t) = 1#1) (h3 : k0_cond3 (grid0.coords t) = 1#1) :
    hbM.slice (Rect.unit (s := S16384x256) (k0_off2 (grid0.coords t)) ![2048, 256] (k0_off2_inb (grid0.coords t) h2 h3)) (fun _ => rfl) = srcB (Ring.bk 8 (t.val + 2)) :=
  Memref.slice_unit_congr _ (coff2 t ((hcond3 t).mp h3)) _ _ (fun _ => rfl) (fun _ => rfl)
/-- The slice at offset 5, written with literals, in its plain form. -/
@[sl_canon] theorem canon_off5_lit (t : Fin grid0.N) (h4 : k0_cond4 (grid0.coords t) = 1#1) (h5 : k0_cond5 (grid0.coords t) = 1#1) :
    hbM.slice (Rect.unit (s := S16384x256) (k0_off5 (grid0.coords t)) ![2048, 256] (k0_off5_inb (grid0.coords t) h4 h5)) (fun _ => rfl) = srcB (Ring.bk 8 (t.val + 2)) :=
  Memref.slice_unit_congr _ (coff5 t ((hcond5 t).mp h5)) _ _ (fun _ => rfl) (fun _ => rfl)
/-- The slice at offset 8, written with literals, in its plain form. -/
@[sl_canon] theorem canon_off8_lit (t : Fin grid0.N) (h6 : k0_cond6 (grid0.coords t) = 1#1) (h7 : k0_cond7 (grid0.coords t) = 1#1) :
    hbM.slice (Rect.unit (s := S16384x256) (k0_off8 (grid0.coords t)) ![2048, 256] (k0_off8_inb (grid0.coords t) h6 h7)) (fun _ => rfl) = srcB (Ring.bk 8 (t.val + 2)) :=
  Memref.slice_unit_congr _ (coff8 t ((hcond7 t).mp h7)) _ _ (fun _ => rfl) (fun _ => rfl)
instance (priority := high) closedOff3 (t : Fin grid0.N) : ClosedOff (k0_off3 (grid0.coords t)) := ⟨![0, 2048 * t.val], coff3 t⟩
instance (priority := high) closedOff6 (t : Fin grid0.N) : ClosedOff (k0_off6 (grid0.coords t)) := ⟨![0, 2048 * t.val], coff6 t⟩
instance (priority := high) closedOff9 (t : Fin grid0.N) : ClosedOff (k0_off9 (grid0.coords t)) := ⟨![0, 2048 * t.val], coff9 t⟩

section Pieces
variable (c : Dev nD) (W : BufOf (F := F) c hbM)
/-- Block `b` of the table, held. -/
abbrev srcP (b : Fin 8) : sProp 𝕄 := (srcB b).view.loc (c : Thread nD τ) ↦[(srcB b).view.set]{fullShare} W
/-- What block `b` reads of the table. -/
abbrev chunk (b : Fin 8) : Vec F S2048x256 .f32 := ReadAs.same.apply ((srcB b).view.read (Elt F) W)
/-- A receiving buffer once block `b` landed in it over `f`. -/
abbrev landed (M : Memref sig .tc .vmem S2048x256 .f32) (b : Fin 8) (f : BufOf (F := F) c M) : BufOf (F := F) c M :=
  M.view.writes (Elt F) f [⟨Rect.whole S2048x256, chunk c W b⟩]
/-- The copy of block `b` into a receiving buffer, in flight on cell `σ`: it delivers the buffer landed and the block back. -/
abbrev flightP (M : Memref sig .tc .vmem S2048x256 .f32) (σ : SemLoc sig) (b : Fin 8) (f : BufOf (F := F) c M) : sProp 𝕄 :=
  Transfers.Flight countersEmb (c : Thread nD τ) σ default 65536 iprop(held c M (landed c W M b f) ∗ srcP c W b)
/-- A landed copy is a write of the block over the whole buffer. -/
theorem landed_eq (M : Memref sig .tc .vmem S2048x256 .f32) (b : Fin 8) (f : BufOf (F := F) c M) :
    landed c W M b f = M.view.write (Elt F) f (chunk c W b) Finset.univ :=
  (View.write_univ_eq_writes_whole M.view f [] (chunk c W b)).symm
/-- A load of a whole receiving buffer after block `b` landed reads the block. -/
theorem readCov_chunk (M : Memref sig .tc .vmem S2048x256 .f32) (b : Fin 8) :
    M.view.readCov (Val := Elt F) [⟨Rect.whole S2048x256, chunk c W b⟩]
      (Rect.unit (s := S2048x256) ![0, 0] S2048x256.size inb_S2048x256_S2048x256_0_0).toLoadRect = chunk c W b :=
  View.readCov_full M.view (off' := fun _ => 0) inb_S2048x256_S2048x256_0_0 (fun _ => by simp) _ []
/-- The same, over what the buffer held before. -/
theorem readAt_landed (M : Memref sig .tc .vmem S2048x256 .f32) (b : Fin 8) (f : BufOf (F := F) c M) :
    M.view.readAt (Elt F) (Rect.unit (s := S2048x256) ![0, 0] S2048x256.size inb_S2048x256_S2048x256_0_0).toLoadRect
      (M.view.write (Elt F) f (chunk c W b) Finset.univ) = chunk c W b := by
  rw [← landed_eq]
  exact View.readAt_writes_full M.view f (off' := fun _ => 0) inb_S2048x256_S2048x256_0_0 (fun _ => by simp) _ []
end Pieces

section Values
variable (c : Dev nD)
/-- The folded query as the body reads it: the first row of its buffer. -/
abbrev qOf (f4 : BufOf (F := F) c scM4) : Vec F S1x256 .f32 :=
  scM4.view.readAt (Elt F) (Rect.unit (s := S8x256) ![0, 0] S1x256.size inb_S8x256_S1x256_0_0).toLoadRect f4
/-- The offset as the body reads it: its one word. -/
abbrev oOf (f5 : BufOf (F := F) c scM5) : Elt F .f32 :=
  scM5.view.readAt (Elt F) (Rect.unit (s := S1) ![0] S1.size inb_S1_S1_0).toLoadRect f5 (Shape.Idx.first (numel1_S1 ▸ Nat.one_pos))

/-- A stretch of the row lies inside it. -/
theorem inb_row (k : Fin 8) : ∀ a, (![0, 2048 * k.val] : Fin 2 → Nat) a + S1x2048.size a ≤ S1x16384.size a := by
  have := k.isLt; intro a; fin_cases a <;> simp <;> omega
/-- The row of weights with its `k`-th stretch of 2048 set to `v`. -/
def putRow (k : Fin 8) (f3 : BufOf (F := F) c scM3) (v : FVec F S1x2048 .f32) : BufOf (F := F) c scM3 :=
  scM3.view.writes (Elt F) f3 [⟨Rect.unit (s := S1x16384) ![0, 2048 * k.val] S1x2048.size (inb_row k), v⟩]
/-- Writing a stretch of the row, in its plain form. -/
theorem writes_eq_putRow (k : Fin 8) (f3 : BufOf (F := F) c scM3) (v : FVec F S1x2048 .f32) (o : Fin 2 → Nat)
    (ho : o = ![0, 2048 * k.val]) (h : ∀ a, o a + S1x2048.size a ≤ S1x16384.size a) :
    scM3.view.writes (Elt F) f3 [⟨Rect.unit (s := S1x16384) o S1x2048.size h, v⟩] = putRow c k f3 v := by
  subst ho; rfl
/-- The three branches of the body compute the same stretch (payload 14). -/
theorem pay14_eq (v3 : Vec F S1x256 .f32) (v54 : Vec F S2048x256 .f32) (v56 : Elt F .f32) : k0_pay14 v3 v54 v56 = k0_pay1 v3 v54 v56 := rfl
/-- The three branches of the body compute the same stretch (payload 15). -/
theorem pay15_eq (v3 : Vec F S1x256 .f32) (v54 : Vec F S2048x256 .f32) (v56 : Elt F .f32) : k0_pay15 v3 v54 v56 = k0_pay1 v3 v54 v56 := rfl

/-- The folded query the first grid point computes from its operands: the memory cell's output gate times the tanh of its
    normalised memory, then taken through the key weights. -/
def foldQ (x2 : Vec F S1x1024 .f32) (x5 : Vec F S256x1024 .f32) (x6 : Vec F S1x256 .f32) (x7 : Vec F S32x256 .f32) (x8 : Vec F S1x32 .f32)
    (x11 : Vec F S32x64 .f32) (x12 : Vec F S1x32 .f32) (x13 : Vec F S32x64 .f32) (x14 : Vec F S1x32 .f32) (x15 : Vec F S32x64 .f32) (x16 : Vec F S1x32 .f32)
    (x17 : Vec F S1x32 .f32) (x18 : Vec F S1x32 .f32) (x3 : Vec F S32x256 .f32) : FVec F S1x256 .f32 :=
  k0_pay12 (k0_pay5 x17) (k0_pay6 x18)
    (k0_pay8 (k0_pay4 x2 x5 x6 x7 x8) (k0_pay5 x17) (k0_pay6 x18) (k0_pay7 x2 x5 x6 x7 x8 x11) x12 x13 x14)
    (k0_pay9 (k0_pay4 x2 x5 x6 x7 x8) x15 x16) (k0_pay10 (k0_pay4 x2 x5 x6 x7 x8) x15 x16) x3
/-- The offset it computes beside it: the same query against the key bias. -/
def foldO (x2 : Vec F S1x1024 .f32) (x5 : Vec F S256x1024 .f32) (x6 : Vec F S1x256 .f32) (x7 : Vec F S32x256 .f32) (x8 : Vec F S1x32 .f32)
    (x11 : Vec F S32x64 .f32) (x12 : Vec F S1x32 .f32) (x13 : Vec F S32x64 .f32) (x14 : Vec F S1x32 .f32) (x15 : Vec F S32x64 .f32) (x16 : Vec F S1x32 .f32)
    (x17 : Vec F S1x32 .f32) (x18 : Vec F S1x32 .f32) (x4 : Vec F S1x32 .f32) : F .f32 :=
  k0_pay13 (k0_pay5 x17) (k0_pay6 x18)
    (k0_pay8 (k0_pay4 x2 x5 x6 x7 x8) (k0_pay5 x17) (k0_pay6 x18) (k0_pay7 x2 x5 x6 x7 x8 x11) x12 x13 x14)
    (k0_pay9 (k0_pay4 x2 x5 x6 x7 x8) x15 x16) (k0_pay10 (k0_pay4 x2 x5 x6 x7 x8) x15 x16) x4

/-- A row written at a place and read back there is the row written: for the folded query's buffer. -/
theorem qOf_put (f4 : BufOf (F := F) c scM4) (v : FVec F S1x256 .f32) :
    qOf c (scM4.view.writes (Elt F) f4 [⟨Rect.unit (s := S8x256) ![0, 0] S1x256.size inb_S8x256_S1x256_0_0, v⟩]) = v := by
  funext y
  exact View.read_writes_cons_emb scM4.view f4 (Rect.unit (s := S8x256) ![0, 0] S1x256.size inb_S8x256_S1x256_0_0) v [] y
/-- The same for the offset's one word. -/
theorem oOf_put (f5 : BufOf (F := F) c scM5) (v : S1.Idx → Elt F .f32) :
    oOf c (scM5.view.writes (Elt F) f5 [⟨Rect.unit (s := S1) ![0] S1.size inb_S1_S1_0, v⟩]) = v (Shape.Idx.first (numel1_S1 ▸ Nat.one_pos)) :=
  congrFun (View.readAt_writes_full scM5.view f5 inb_S1_S1_0 inb_S1_S1_0 v []) _
/-- A load of an operand's whole staging buffer reads the operand. -/
theorem readAt_own {s : Shape} {e : EltTy} {m : Memref sig .tc .vmem s e} (h : m.IsWhole) (x : s.Idx → Elt F e) {off : Fin s.rank → Nat}
    (inb : ∀ a, off a + s.size a ≤ s.size a) :
    m.view.readAt (Elt F) (Rect.unit off s.size inb).toLoadRect (h.unread x) = x := by
  rw [View.readAt_full, h.read_unread]
end Values

end Cert.KernelIdeal.Dma

end
-- ==== Proof.Ideal.RunB.lean ====
/- The body at the middle grid points and at the one before the last. -/
module

public import proofs.«01_k».proof.Proof.Ideal.Setup

@[expose] public section

set_option maxRecDepth 16384

noncomputable section

namespace Cert.KernelIdeal.Dma

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body at a middle point whose block sits in buffer 0: it waits for that block, starts the copy of the block two ahead
    into buffer 2, and writes the block's stretch of weights. -/
theorem run_B0 (c : Dev nD) (t : Fin cfg0.N) (arg1 : Memref sig .tc .vmem S1x16384 .i32) (harg1 : arg1.IsWhole) (arg2 : Memref sig .tc .vmem S1x1024 .f32) (harg2 : arg2.IsWhole) (arg3 : Memref sig .tc .vmem S32x256 .f32) (harg3 : arg3.IsWhole) (arg4 : Memref sig .tc .vmem S1x32 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S32x64 .f32) (harg13 : arg13.IsWhole) (arg14 : Memref sig .tc .vmem S1x32 .f32) (harg14 : arg14.IsWhole) (arg15 : Memref sig .tc .vmem S32x64 .f32) (harg15 : arg15.IsWhole) (arg16 : Memref sig .tc .vmem S1x32 .f32) (harg16 : arg16.IsWhole) (arg17 : Memref sig .tc .vmem S1x32 .f32) (harg17 : arg17.IsWhole) (arg18 : Memref sig .tc .vmem S1x32 .f32) (harg18 : arg18.IsWhole) (arg20 : Memref sig .tc .vmem S1x16384 .f32) (harg20 : arg20.IsWhole) (arg21 : Memref sig .tc .vmem S1x16384 .f32) (harg21 : arg21.IsWhole)
    (hc1 : ¬cond1 (grid0.coords t)) (hc2 : k0_cond2 (grid0.coords t) = 1#1) (hc3 : k0_cond3 (grid0.coords t) = 1#1) (hc4 : ¬k0_cond4 (grid0.coords t) = 1#1) (hc6 : ¬k0_cond6 (grid0.coords t) = 1#1) (hc8 : ¬k0_cond8 (grid0.coords t) = 1#1)
    (W : BufOf (F := F) c hbM) (f3 : BufOf (F := F) c scM3) (f4 : BufOf (F := F) c scM4) (f5 : BufOf (F := F) c scM5) (fw : BufOf (F := F) c scM0) (fn : BufOf (F := F) c scM2)
    (Ws : Waits sig Unit) (K : PUnit → sProp 𝕄) :
    iprop(flightP c W scM0 cellR0 (Ring.bk 8 t.val) fw ∗ semVal ((c : Thread nD τ), cellR2) 0 ∗ held c scM2 fn ∗ srcP c W (Ring.bk 8 (t.val + 2))
        ∗ held c scM3 f3 ∗ held c scM4 f4 ∗ held c scM5 f5 ∗ owes (c : Thread nD τ) 0 Ws
        ∗ (iprop(semVal ((c : Thread nD τ), cellR0) 0 ∗ held c scM0 (landed c W scM0 (Ring.bk 8 t.val) fw) ∗ srcP c W (Ring.bk 8 t.val)
            ∗ flightP c W scM2 cellR2 (Ring.bk 8 (t.val + 2)) fn
            ∗ held c scM3 (putRow c t f3 (k0_pay1 (qOf c f4) (chunk c W (Ring.bk 8 t.val)) (oOf c f5))) ∗ held c scM4 f4 ∗ held c scM5 f5 ∗ (∃ W', owes (c : Thread nD τ) 0 W')) -∗ K ⟨⟩))
      ⊢ wp frame (wpE (defs₀ (F := F)) Variants.none c none) Set.univ (cc0__fused_kernel (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (Memref.whole main_arg2) (Memref.isWhole_whole _) arg20 harg20 arg21 harg21 scM0 (Memref.isWhole_whole _) scM1 (Memref.isWhole_whole _) scM2 (Memref.isWhole_whole _) scM3 (Memref.isWhole_whole _) scM4 (Memref.isWhole_whole _) scM5 (Memref.isWhole_whole _) cc0_scratch6) K := by
  haveI : Fact (¬cond1 (grid0.coords t)) := ⟨hc1⟩
  haveI : Fact (k0_cond2 (grid0.coords t) = 1#1) := ⟨hc2⟩
  haveI : Fact (k0_cond3 (grid0.coords t) = 1#1) := ⟨hc3⟩
  haveI : Fact (¬k0_cond4 (grid0.coords t) = 1#1) := ⟨hc4⟩
  haveI : Fact (¬k0_cond6 (grid0.coords t) = 1#1) := ⟨hc6⟩
  haveI : Fact (¬k0_cond8 (grid0.coords t) = 1#1) := ⟨hc8⟩
  simp only [cc0__fused_kernel_eq_skeleton]; unfold cc0__fused_kernel_skel
  simp only [k0_part3_eq_skeleton]; unfold k0_part3_skel
  iintro ⟨Hf0, Hc2, H2, Hs2, H3, H4, H5, HW, Hk⟩
  sl_exec (disch := first | sl_exact hc1 | sl_exact hc2 | sl_exact hc3 | sl_exact hc4 | sl_exact hc6 | sl_exact hc8)
  sl_step
  iapply Hk
  isplitl [Hf0]; · iexact Hf0
  isplitl [Hf0_dst]; · iexact Hf0_dst
  isplitl [Hf0_src]; · iexact Hf0_src
  isplitl [Hc2]; · (unfold flightP; rw [landed_eq]; iexact Hc2)
  isplitl [H3]
  · rw [← writes_eq_putRow c t f3 _ (k0_off3 (grid0.coords t)) (coff3 t) (k0_off3_inb (grid0.coords t) hc2), ← pay14_eq, ← readCov_chunk c W scM0]
    iexact H3
  isplitl [H4]; · iexact H4
  isplitl [H5]; · iexact H5
  iexists _; iexact HW

set_option maxHeartbeats 1000000 in
/-- The body at a middle point whose block sits in buffer 1: it waits for that block, starts the copy of the block two ahead
    into buffer 0, and writes the block's stretch of weights. -/
theorem run_B1 (c : Dev nD) (t : Fin cfg0.N) (arg1 : Memref sig .tc .vmem S1x16384 .i32) (harg1 : arg1.IsWhole) (arg2 : Memref sig .tc .vmem S1x1024 .f32) (harg2 : arg2.IsWhole) (arg3 : Memref sig .tc .vmem S32x256 .f32) (harg3 : arg3.IsWhole) (arg4 : Memref sig .tc .vmem S1x32 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S32x64 .f32) (harg13 : arg13.IsWhole) (arg14 : Memref sig .tc .vmem S1x32 .f32) (harg14 : arg14.IsWhole) (arg15 : Memref sig .tc .vmem S32x64 .f32) (harg15 : arg15.IsWhole) (arg16 : Memref sig .tc .vmem S1x32 .f32) (harg16 : arg16.IsWhole) (arg17 : Memref sig .tc .vmem S1x32 .f32) (harg17 : arg17.IsWhole) (arg18 : Memref sig .tc .vmem S1x32 .f32) (harg18 : arg18.IsWhole) (arg20 : Memref sig .tc .vmem S1x16384 .f32) (harg20 : arg20.IsWhole) (arg21 : Memref sig .tc .vmem S1x16384 .f32) (harg21 : arg21.IsWhole)
    (hc1 : ¬cond1 (grid0.coords t)) (hc2 : ¬k0_cond2 (grid0.coords t) = 1#1) (hc4 : k0_cond4 (grid0.coords t) = 1#1) (hc5 : k0_cond5 (grid0.coords t) = 1#1) (hc6 : ¬k0_cond6 (grid0.coords t) = 1#1) (hc8 : ¬k0_cond8 (grid0.coords t) = 1#1)
    (W : BufOf (F := F) c hbM) (f3 : BufOf (F := F) c scM3) (f4 : BufOf (F := F) c scM4) (f5 : BufOf (F := F) c scM5) (fw : BufOf (F := F) c scM1) (fn : BufOf (F := F) c scM0)
    (Ws : Waits sig Unit) (K : PUnit → sProp 𝕄) :
    iprop(flightP c W scM1 cellR1 (Ring.bk 8 t.val) fw ∗ semVal ((c : Thread nD τ), cellR0) 0 ∗ held c scM0 fn ∗ srcP c W (Ring.bk 8 (t.val + 2))
        ∗ held c scM3 f3 ∗ held c scM4 f4 ∗ held c scM5 f5 ∗ owes (c : Thread nD τ) 0 Ws
        ∗ (iprop(semVal ((c : Thread nD τ), cellR1) 0 ∗ held c scM1 (landed c W scM1 (Ring.bk 8 t.val) fw) ∗ srcP c W (Ring.bk 8 t.val)
            ∗ flightP c W scM0 cellR0 (Ring.bk 8 (t.val + 2)) fn
            ∗ held c scM3 (putRow c t f3 (k0_pay1 (qOf c f4) (chunk c W (Ring.bk 8 t.val)) (oOf c f5))) ∗ held c scM4 f4 ∗ held c scM5 f5 ∗ (∃ W', owes (c : Thread nD τ) 0 W')) -∗ K ⟨⟩))
      ⊢ wp frame (wpE (defs₀ (F := F)) Variants.none c none) Set.univ (cc0__fused_kernel (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (Memref.whole main_arg2) (Memref.isWhole_whole _) arg20 harg20 arg21 harg21 scM0 (Memref.isWhole_whole _) scM1 (Memref.isWhole_whole _) scM2 (Memref.isWhole_whole _) scM3 (Memref.isWhole_whole _) scM4 (Memref.isWhole_whole _) scM5 (Memref.isWhole_whole _) cc0_scratch6) K := by
  haveI : Fact (¬cond1 (grid0.coords t)) := ⟨hc1⟩
  haveI : Fact (¬k0_cond2 (grid0.coords t) = 1#1) := ⟨hc2⟩
  haveI : Fact (k0_cond4 (grid0.coords t) = 1#1) := ⟨hc4⟩
  haveI : Fact (k0_cond5 (grid0.coords t) = 1#1) := ⟨hc5⟩
  haveI : Fact (¬k0_cond6 (grid0.coords t) = 1#1) := ⟨hc6⟩
  haveI : Fact (¬k0_cond8 (grid0.coords t) = 1#1) := ⟨hc8⟩
  simp only [cc0__fused_kernel_eq_skeleton]; unfold cc0__fused_kernel_skel
  simp only [k0_part3_eq_skeleton]; unfold k0_part3_skel
  iintro ⟨Hf0, Hc2, H2, Hs2, H3, H4, H5, HW, Hk⟩
  sl_exec (disch := first | sl_exact hc1 | sl_exact hc2 | sl_exact hc4 | sl_exact hc5 | sl_exact hc6 | sl_exact hc8)
  sl_step
  iapply Hk
  isplitl [Hf0]; · iexact Hf0
  isplitl [Hf0_dst]; · iexact Hf0_dst
  isplitl [Hf0_src]; · iexact Hf0_src
  isplitl [Hc2]; · (unfold flightP; rw [landed_eq]; iexact Hc2)
  isplitl [H3]
  · rw [← writes_eq_putRow c t f3 _ (k0_off6 (grid0.coords t)) (coff6 t) (k0_off6_inb (grid0.coords t) hc4), ← pay15_eq, ← readCov_chunk c W scM1]
    iexact H3
  isplitl [H4]; · iexact H4
  isplitl [H5]; · iexact H5
  iexists _; iexact HW

set_option maxHeartbeats 1000000 in
/-- The body at a middle point whose block sits in buffer 2: it waits for that block, starts the copy of the block two ahead
    into buffer 1, and writes the block's stretch of weights. -/
theorem run_B2 (c : Dev nD) (t : Fin cfg0.N) (arg1 : Memref sig .tc .vmem S1x16384 .i32) (harg1 : arg1.IsWhole) (arg2 : Memref sig .tc .vmem S1x1024 .f32) (harg2 : arg2.IsWhole) (arg3 : Memref sig .tc .vmem S32x256 .f32) (harg3 : arg3.IsWhole) (arg4 : Memref sig .tc .vmem S1x32 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S32x64 .f32) (harg13 : arg13.IsWhole) (arg14 : Memref sig .tc .vmem S1x32 .f32) (harg14 : arg14.IsWhole) (arg15 : Memref sig .tc .vmem S32x64 .f32) (harg15 : arg15.IsWhole) (arg16 : Memref sig .tc .vmem S1x32 .f32) (harg16 : arg16.IsWhole) (arg17 : Memref sig .tc .vmem S1x32 .f32) (harg17 : arg17.IsWhole) (arg18 : Memref sig .tc .vmem S1x32 .f32) (harg18 : arg18.IsWhole) (arg20 : Memref sig .tc .vmem S1x16384 .f32) (harg20 : arg20.IsWhole) (arg21 : Memref sig .tc .vmem S1x16384 .f32) (harg21 : arg21.IsWhole)
    (hc1 : ¬cond1 (grid0.coords t)) (hc2 : ¬k0_cond2 (grid0.coords t) = 1#1) (hc4 : ¬k0_cond4 (grid0.coords t) = 1#1) (hc6 : k0_cond6 (grid0.coords t) = 1#1) (hc7 : k0_cond7 (grid0.coords t) = 1#1) (hc8 : ¬k0_cond8 (grid0.coords t) = 1#1)
    (W : BufOf (F := F) c hbM) (f3 : BufOf (F := F) c scM3) (f4 : BufOf (F := F) c scM4) (f5 : BufOf (F := F) c scM5) (fw : BufOf (F := F) c scM2) (fn : BufOf (F := F) c scM1)
    (Ws : Waits sig Unit) (K : PUnit → sProp 𝕄) :
    iprop(flightP c W scM2 cellR2 (Ring.bk 8 t.val) fw ∗ semVal ((c : Thread nD τ), cellR1) 0 ∗ held c scM1 fn ∗ srcP c W (Ring.bk 8 (t.val + 2))
        ∗ held c scM3 f3 ∗ held c scM4 f4 ∗ held c scM5 f5 ∗ owes (c : Thread nD τ) 0 Ws
        ∗ (iprop(semVal ((c : Thread nD τ), cellR2) 0 ∗ held c scM2 (landed c W scM2 (Ring.bk 8 t.val) fw) ∗ srcP c W (Ring.bk 8 t.val)
            ∗ flightP c W scM1 cellR1 (Ring.bk 8 (t.val + 2)) fn
            ∗ held c scM3 (putRow c t f3 (k0_pay1 (qOf c f4) (chunk c W (Ring.bk 8 t.val)) (oOf c f5))) ∗ held c scM4 f4 ∗ held c scM5 f5 ∗ (∃ W', owes (c : Thread nD τ) 0 W')) -∗ K ⟨⟩))
      ⊢ wp frame (wpE (defs₀ (F := F)) Variants.none c none) Set.univ (cc0__fused_kernel (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (Memref.whole main_arg2) (Memref.isWhole_whole _) arg20 harg20 arg21 harg21 scM0 (Memref.isWhole_whole _) scM1 (Memref.isWhole_whole _) scM2 (Memref.isWhole_whole _) scM3 (Memref.isWhole_whole _) scM4 (Memref.isWhole_whole _) scM5 (Memref.isWhole_whole _) cc0_scratch6) K := by
  haveI : Fact (¬cond1 (grid0.coords t)) := ⟨hc1⟩
  haveI : Fact (¬k0_cond2 (grid0.coords t) = 1#1) := ⟨hc2⟩
  haveI : Fact (¬k0_cond4 (grid0.coords t) = 1#1) := ⟨hc4⟩
  haveI : Fact (k0_cond6 (grid0.coords t) = 1#1) := ⟨hc6⟩
  haveI : Fact (k0_cond7 (grid0.coords t) = 1#1) := ⟨hc7⟩
  haveI : Fact (¬k0_cond8 (grid0.coords t) = 1#1) := ⟨hc8⟩
  simp only [cc0__fused_kernel_eq_skeleton]; unfold cc0__fused_kernel_skel
  simp only [k0_part3_eq_skeleton]; unfold k0_part3_skel
  iintro ⟨Hf0, Hc2, H2, Hs2, H3, H4, H5, HW, Hk⟩
  sl_exec (disch := first | sl_exact hc1 | sl_exact hc2 | sl_exact hc4 | sl_exact hc6 | sl_exact hc7 | sl_exact hc8)
  sl_step
  iapply Hk
  isplitl [Hf0]; · iexact Hf0
  isplitl [Hf0_dst]; · iexact Hf0_dst
  isplitl [Hf0_src]; · iexact Hf0_src
  isplitl [Hc2]; · (unfold flightP; rw [landed_eq]; iexact Hc2)
  isplitl [H3]
  · rw [← writes_eq_putRow c t f3 _ (k0_off9 (grid0.coords t)) (coff9 t) (k0_off9_inb (grid0.coords t) hc6), ← readCov_chunk c W scM2]
    iexact H3
  isplitl [H4]; · iexact H4
  isplitl [H5]; · iexact H5
  iexists _; iexact HW

set_option maxHeartbeats 1000000 in
/-- The body at the point before the last: it waits for its block in buffer 0, starts no further copy, and writes the block's
    stretch of weights. -/
theorem run_C (c : Dev nD) (t : Fin cfg0.N) (arg1 : Memref sig .tc .vmem S1x16384 .i32) (harg1 : arg1.IsWhole) (arg2 : Memref sig .tc .vmem S1x1024 .f32) (harg2 : arg2.IsWhole) (arg3 : Memref sig .tc .vmem S32x256 .f32) (harg3 : arg3.IsWhole) (arg4 : Memref sig .tc .vmem S1x32 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S32x64 .f32) (harg13 : arg13.IsWhole) (arg14 : Memref sig .tc .vmem S1x32 .f32) (harg14 : arg14.IsWhole) (arg15 : Memref sig .tc .vmem S32x64 .f32) (harg15 : arg15.IsWhole) (arg16 : Memref sig .tc .vmem S1x32 .f32) (harg16 : arg16.IsWhole) (arg17 : Memref sig .tc .vmem S1x32 .f32) (harg17 : arg17.IsWhole) (arg18 : Memref sig .tc .vmem S1x32 .f32) (harg18 : arg18.IsWhole) (arg20 : Memref sig .tc .vmem S1x16384 .f32) (harg20 : arg20.IsWhole) (arg21 : Memref sig .tc .vmem S1x16384 .f32) (harg21 : arg21.IsWhole)
    (hc1 : ¬cond1 (grid0.coords t)) (hc2 : k0_cond2 (grid0.coords t) = 1#1) (hc3 : ¬k0_cond3 (grid0.coords t) = 1#1) (hc4 : ¬k0_cond4 (grid0.coords t) = 1#1) (hc6 : ¬k0_cond6 (grid0.coords t) = 1#1) (hc8 : ¬k0_cond8 (grid0.coords t) = 1#1)
    (W : BufOf (F := F) c hbM) (f3 : BufOf (F := F) c scM3) (f4 : BufOf (F := F) c scM4) (f5 : BufOf (F := F) c scM5) (fw : BufOf (F := F) c scM0)
    (Ws : Waits sig Unit) (K : PUnit → sProp 𝕄) :
    iprop(flightP c W scM0 cellR0 (Ring.bk 8 t.val) fw
        ∗ held c scM3 f3 ∗ held c scM4 f4 ∗ held c scM5 f5 ∗ owes (c : Thread nD τ) 0 Ws
        ∗ (iprop(semVal ((c : Thread nD τ), cellR0) 0 ∗ held c scM0 (landed c W scM0 (Ring.bk 8 t.val) fw) ∗ srcP c W (Ring.bk 8 t.val)
            ∗ held c scM3 (putRow c t f3 (k0_pay1 (qOf c f4) (chunk c W (Ring.bk 8 t.val)) (oOf c f5))) ∗ held c scM4 f4 ∗ held c scM5 f5 ∗ (∃ W', owes (c : Thread nD τ) 0 W')) -∗ K ⟨⟩))
      ⊢ wp frame (wpE (defs₀ (F := F)) Variants.none c none) Set.univ (cc0__fused_kernel (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (Memref.whole main_arg2) (Memref.isWhole_whole _) arg20 harg20 arg21 harg21 scM0 (Memref.isWhole_whole _) scM1 (Memref.isWhole_whole _) scM2 (Memref.isWhole_whole _) scM3 (Memref.isWhole_whole _) scM4 (Memref.isWhole_whole _) scM5 (Memref.isWhole_whole _) cc0_scratch6) K := by
  haveI : Fact (¬cond1 (grid0.coords t)) := ⟨hc1⟩
  haveI : Fact (k0_cond2 (grid0.coords t) = 1#1) := ⟨hc2⟩
  haveI : Fact (¬k0_cond3 (grid0.coords t) = 1#1) := ⟨hc3⟩
  haveI : Fact (¬k0_cond4 (grid0.coords t) = 1#1) := ⟨hc4⟩
  haveI : Fact (¬k0_cond6 (grid0.coords t) = 1#1) := ⟨hc6⟩
  haveI : Fact (¬k0_cond8 (grid0.coords t) = 1#1) := ⟨hc8⟩
  simp only [cc0__fused_kernel_eq_skeleton]; unfold cc0__fused_kernel_skel
  simp only [k0_part3_eq_skeleton]; unfold k0_part3_skel
  iintro ⟨Hf0, H3, H4, H5, HW, Hk⟩
  sl_exec (disch := first | sl_exact hc1 | sl_exact hc2 | sl_exact hc3 | sl_exact hc4 | sl_exact hc6 | sl_exact hc8)
  sl_step
  iapply Hk
  isplitl [Hf0]; · iexact Hf0
  isplitl [Hf0_dst]; · iexact Hf0_dst
  isplitl [Hf0_src]; · iexact Hf0_src
  isplitl [H3]
  · rw [← writes_eq_putRow c t f3 _ (k0_off3 (grid0.coords t)) (coff3 t) (k0_off3_inb (grid0.coords t) hc2), ← pay14_eq, ← readCov_chunk c W scM0]
    iexact H3
  isplitl [H4]; · iexact H4
  isplitl [H5]; · iexact H5
  iexists _; iexact HW

end Cert.KernelIdeal.Dma

end
-- ==== Proof.Ideal.Stream.lean ====
/- The three receiving buffers as one ring: which blocks of the table are at home, in flight or landed before each grid
   point, and one triple for the body at every middle point, whichever buffer its block sits in. -/
module

public import proofs.«01_k».proof.Proof.Ideal.RunB

@[expose] public section

set_option maxRecDepth 16384

noncomputable section

namespace Cert.KernelIdeal.Dma

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The ring's pieces, by buffer -/

section Families
variable (c : Dev nD) (W : BufOf (F := F) c hbM)

/-- Receiving buffer `s`'s semaphore cell, at zero. -/
def cellP (c : Dev nD) : Fin 3 → sProp 𝕄
  | 0 => semVal ((c : Thread nD τ), cellR0) 0
  | 1 => semVal ((c : Thread nD τ), cellR1) 0
  | 2 => semVal ((c : Thread nD τ), cellR2) 0
/-- What buffer `s` can hold. -/
def Conts (c : Dev nD) : Fin 3 → Type
  | 0 => BufOf (F := F) c scM0
  | 1 => BufOf (F := F) c scM1
  | 2 => BufOf (F := F) c scM2
/-- Buffer `s`, held. -/
def slotP (c : Dev nD) : (s : Fin 3) → Conts (F := F) c s → sProp 𝕄
  | 0 => fun f => held c scM0 f
  | 1 => fun f => held c scM1 f
  | 2 => fun f => held c scM2 f
/-- Block `b` on its way into buffer `s`. -/
def flyP (s : Fin 3) (b : Fin 8) : Conts (F := F) c s → sProp 𝕄 :=
  match s with
  | 0 => fun f => flightP c W scM0 cellR0 b f
  | 1 => fun f => flightP c W scM1 cellR1 b f
  | 2 => fun f => flightP c W scM2 cellR2 b f
/-- Block `b` at home. -/
abbrev homeP (b : Fin 8) : sProp 𝕄 := srcP c W b

/-- A free buffer: its cell at zero and the buffer at some contents. -/
abbrev freeP (s : Fin 3) : sProp 𝕄 := Ring.free (cellP c) (slotP (F := F) c) s
/-- A buffer with block `b` on its way into it. -/
abbrev goingP (s : Fin 3) (b : Fin 8) : sProp 𝕄 := Ring.inflight (flyP c W) s b
/-- The ring before point `p`. -/
def ringP (p : ℕ) : sProp 𝕄 :=
  if p = 0 then Ring.At₀ (cellP c) (slotP (F := F) c) (homeP c W) else Ring.At 2 (cellP c) (slotP (F := F) c) (homeP c W) (flyP c W) p

/-- What a free buffer 0 is: its semaphore at zero and the buffer. -/
theorem free_0 : Ring.free (cellP c) (slotP (F := F) c) 0 = iprop(semVal ((c : Thread nD τ), cellR0) 0 ∗ ∃ f, held c scM0 f) := rfl
/-- What a free buffer 1 is: its semaphore at zero and the buffer. -/
theorem free_1 : Ring.free (cellP c) (slotP (F := F) c) 1 = iprop(semVal ((c : Thread nD τ), cellR1) 0 ∗ ∃ f, held c scM1 f) := rfl
/-- What a free buffer 2 is: its semaphore at zero and the buffer. -/
theorem free_2 : Ring.free (cellP c) (slotP (F := F) c) 2 = iprop(semVal ((c : Thread nD τ), cellR2) 0 ∗ ∃ f, held c scM2 f) := rfl
/-- What a copy in flight to buffer 0 is. -/
theorem going_0 (b : Fin 8) : Ring.inflight (flyP c W) 0 b = iprop(∃ f, flightP c W scM0 cellR0 b f) := rfl
/-- What a copy in flight to buffer 1 is. -/
theorem going_1 (b : Fin 8) : Ring.inflight (flyP c W) 1 b = iprop(∃ f, flightP c W scM1 cellR1 b f) := rfl
/-- What a copy in flight to buffer 2 is. -/
theorem going_2 (b : Fin 8) : Ring.inflight (flyP c W) 2 b = iprop(∃ f, flightP c W scM2 cellR2 b f) := rfl

end Families

/-- The buffer a step uses, from the step's remainder. -/
theorem sl_of (k r : ℕ) (hr : r < 3) (h : k % 3 = r) : Ring.sl 3 k = ⟨r, hr⟩ := Fin.ext (by simp [Ring.sl, Fin.ofNat, h])

/-- What the body adds to the row at point `t`. -/
abbrev rowAdd (c : Dev nD) (W : BufOf (F := F) c hbM) (t : Fin cfg0.N) (f3 : BufOf (F := F) c scM3) (f4 : BufOf (F := F) c scM4)
    (f5 : BufOf (F := F) c scM5) : BufOf (F := F) c scM3 :=
  putRow c t f3 (k0_pay1 (qOf c f4) (chunk c W (Ring.bk 8 t.val)) (oOf c f5))

set_option maxHeartbeats 1600000 in
/-- The body at a middle point `t`, whichever buffer its block is on its way into: the block is back home and its buffer free, the
    block two ahead is on its way into the buffer two on, and the row holds the point's stretch of weights. -/
theorem run_mid (c : Dev nD) (t : Fin cfg0.N) (h1 : 1 ≤ t.val) (h6 : t.val < 6) (W : BufOf (F := F) c hbM)
    (f3 : BufOf (F := F) c scM3) (f4 : BufOf (F := F) c scM4) (f5 : BufOf (F := F) c scM5) (Ws : Waits sig Unit) (K : PUnit → sProp 𝕄) :
    iprop(goingP c W (Ring.sl 3 t.val) (Ring.bk 8 t.val) ∗ freeP (F := F) c (Ring.sl 3 (t.val + 2)) ∗ homeP c W (Ring.bk 8 (t.val + 2))
        ∗ held c scM3 f3 ∗ held c scM4 f4 ∗ held c scM5 f5 ∗ owes (c : Thread nD τ) 0 Ws
        ∗ (iprop(freeP (F := F) c (Ring.sl 3 t.val) ∗ homeP c W (Ring.bk 8 t.val) ∗ goingP c W (Ring.sl 3 (t.val + 2)) (Ring.bk 8 (t.val + 2))
            ∗ held c scM3 (rowAdd c W t f3 f4 f5) ∗ held c scM4 f4 ∗ held c scM5 f5 ∗ (∃ W', owes (c : Thread nD τ) 0 W')) -∗ K ⟨⟩))
      ⊢ wp frame (wpE (defs₀ (F := F)) Variants.none c none) Set.univ (bodyAt0 t) K := by
  have n1 : ¬cond1 (grid0.coords t) := fun h => by have := (hcond1 t).mp h; omega
  have n8 : ¬k0_cond8 (grid0.coords t) = 1#1 := fun h => by have := (hcond8 t).mp h; omega
  have n2 : t.val % 3 ≠ 0 → ¬k0_cond2 (grid0.coords t) = 1#1 := fun h h' => h ((hcond2 t).mp h')
  have n4 : t.val % 3 ≠ 1 → ¬k0_cond4 (grid0.coords t) = 1#1 := fun h h' => h ((hcond4 t).mp h')
  have n6 : t.val % 3 ≠ 2 → ¬k0_cond6 (grid0.coords t) = 1#1 := fun h h' => h ((hcond6 t).mp h')
  unfold homeP freeP goingP
  rcases (by omega : t.val % 3 = 0 ∨ t.val % 3 = 1 ∨ t.val % 3 = 2) with h | h | h
  · rw [show Ring.sl 3 t.val = 0 from sl_of _ 0 (by decide) h, show Ring.sl 3 (t.val + 2) = 2 from sl_of _ 2 (by decide) (by omega),
      going_0, going_2, free_2, free_0]
    iintro ⟨⟨%fw, Hf⟩, ⟨Hc, ⟨%fn, Hb⟩⟩, Hs, H3, H4, H5, HW, Hk⟩
    iapply (run_B0 c t _ _ _ _ _ _ _ _ _ _ _ _ _ _ _ _ _ _ _ _ _ _ _ _ _ _ _ _ _ _ _ _ _ _ _ _ _ _ _ _ n1 ((hcond2 t).mpr h) ((hcond3 t).mpr h6) (n4 (by omega)) (n6 (by omega)) n8 W f3 f4 f5 fw fn Ws K)
    isplitl [Hf]; · iexact Hf
    isplitl [Hc]; · iexact Hc
    isplitl [Hb]; · iexact Hb
    isplitl [Hs]; · iexact Hs
    isplitl [H3]; · iexact H3
    isplitl [H4]; · iexact H4
    isplitl [H5]; · iexact H5
    isplitl [HW]; · iexact HW
    iintro ⟨Hc, Hb, Hs, Hf, H3, H4, H5, HW⟩
    iapply Hk
    isplitl [Hc Hb]
    · isplitl [Hc]; · iexact Hc
      iexists _; iexact Hb
    isplitl [Hs]; · iexact Hs
    isplitl [Hf]; · (iexists _; iexact Hf)
    isplitl [H3]; · iexact H3
    isplitl [H4]; · iexact H4
    isplitl [H5]; · iexact H5
    iexact HW
  · rw [show Ring.sl 3 t.val = 1 from sl_of _ 1 (by decide) h, show Ring.sl 3 (t.val + 2) = 0 from sl_of _ 0 (by decide) (by omega),
      going_1, going_0, free_0, free_1]
    iintro ⟨⟨%fw, Hf⟩, ⟨Hc, ⟨%fn, Hb⟩⟩, Hs, H3, H4, H5, HW, Hk⟩
    iapply (run_B1 c t _ _ _ _ _ _ _ _ _ _ _ _ _ _ _ _ _ _ _ _ _ _ _ _ _ _ _ _ _ _ _ _ _ _ _ _ _ _ _ _ n1 (n2 (by omega)) ((hcond4 t).mpr h) ((hcond5 t).mpr h6) (n6 (by omega)) n8 W f3 f4 f5 fw fn Ws K)
    isplitl [Hf]; · iexact Hf
    isplitl [Hc]; · iexact Hc
    isplitl [Hb]; · iexact Hb
    isplitl [Hs]; · iexact Hs
    isplitl [H3]; · iexact H3
    isplitl [H4]; · iexact H4
    isplitl [H5]; · iexact H5
    isplitl [HW]; · iexact HW
    iintro ⟨Hc, Hb, Hs, Hf, H3, H4, H5, HW⟩
    iapply Hk
    isplitl [Hc Hb]
    · isplitl [Hc]; · iexact Hc
      iexists _; iexact Hb
    isplitl [Hs]; · iexact Hs
    isplitl [Hf]; · (iexists _; iexact Hf)
    isplitl [H3]; · iexact H3
    isplitl [H4]; · iexact H4
    isplitl [H5]; · iexact H5
    iexact HW
  · rw [show Ring.sl 3 t.val = 2 from sl_of _ 2 (by decide) h, show Ring.sl 3 (t.val + 2) = 1 from sl_of _ 1 (by decide) (by omega),
      going_2, going_1, free_1, free_2]
    iintro ⟨⟨%fw, Hf⟩, ⟨Hc, ⟨%fn, Hb⟩⟩, Hs, H3, H4, H5, HW, Hk⟩
    iapply (run_B2 c t _ _ _ _ _ _ _ _ _ _ _ _ _ _ _ _ _ _ _ _ _ _ _ _ _ _ _ _ _ _ _ _ _ _ _ _ _ _ _ _ n1 (n2 (by omega)) (n4 (by omega)) ((hcond6 t).mpr h) ((hcond7 t).mpr h6) n8 W f3 f4 f5 fw fn Ws K)
    isplitl [Hf]; · iexact Hf
    isplitl [Hc]; · iexact Hc
    isplitl [Hb]; · iexact Hb
    isplitl [Hs]; · iexact Hs
    isplitl [H3]; · iexact H3
    isplitl [H4]; · iexact H4
    isplitl [H5]; · iexact H5
    isplitl [HW]; · iexact HW
    iintro ⟨Hc, Hb, Hs, Hf, H3, H4, H5, HW⟩
    iapply Hk
    isplitl [Hc Hb]
    · isplitl [Hc]; · iexact Hc
      iexists _; iexact Hb
    isplitl [Hs]; · iexact Hs
    isplitl [Hf]; · (iexists _; iexact Hf)
    isplitl [H3]; · iexact H3
    isplitl [H4]; · iexact H4
    isplitl [H5]; · iexact H5
    iexact HW

end Cert.KernelIdeal.Dma

end
-- ==== Proof.Ideal.RunA.lean ====
/- The body at the first grid point, which computes the query and starts the first copies. -/
module

public import proofs.«01_k».proof.Proof.Ideal.Setup

@[expose] public section

set_option maxRecDepth 16384

noncomputable section

namespace Cert.KernelIdeal.Dma

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The body at the first point: it starts the copies of blocks 0 and 1, computes the folded query and its offset, waits for
    block 0, starts the copy of block 2, and writes block 0's stretch of weights. -/
theorem run_A (c : Dev nD) (t : Fin cfg0.N) (arg1 : Memref sig .tc .vmem S1x16384 .i32) (harg1 : arg1.IsWhole) (arg2 : Memref sig .tc .vmem S1x1024 .f32) (harg2 : arg2.IsWhole) (arg3 : Memref sig .tc .vmem S32x256 .f32) (harg3 : arg3.IsWhole) (arg4 : Memref sig .tc .vmem S1x32 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S32x64 .f32) (harg13 : arg13.IsWhole) (arg14 : Memref sig .tc .vmem S1x32 .f32) (harg14 : arg14.IsWhole) (arg15 : Memref sig .tc .vmem S32x64 .f32) (harg15 : arg15.IsWhole) (arg16 : Memref sig .tc .vmem S1x32 .f32) (harg16 : arg16.IsWhole) (arg17 : Memref sig .tc .vmem S1x32 .f32) (harg17 : arg17.IsWhole) (arg18 : Memref sig .tc .vmem S1x32 .f32) (harg18 : arg18.IsWhole) (arg20 : Memref sig .tc .vmem S1x16384 .f32) (harg20 : arg20.IsWhole) (arg21 : Memref sig .tc .vmem S1x16384 .f32) (harg21 : arg21.IsWhole)
    (hc1 : cond1 (grid0.coords t)) (hc2 : k0_cond2 (grid0.coords t) = 1#1) (hc3 : k0_cond3 (grid0.coords t) = 1#1) (hc4 : ¬k0_cond4 (grid0.coords t) = 1#1) (hc6 : ¬k0_cond6 (grid0.coords t) = 1#1) (hc8 : ¬k0_cond8 (grid0.coords t) = 1#1)
    (W : BufOf (F := F) c hbM) (f3 : BufOf (F := F) c scM3) (f4 : BufOf (F := F) c scM4) (f5 : BufOf (F := F) c scM5) (g0 : BufOf (F := F) c scM0) (g1 : BufOf (F := F) c scM1) (g2 : BufOf (F := F) c scM2)
    (x2 : Vec F S1x1024 .f32) (x3 : Vec F S32x256 .f32) (x4 : Vec F S1x32 .f32) (x5 : Vec F S256x1024 .f32) (x6 : Vec F S1x256 .f32) (x7 : Vec F S32x256 .f32) (x8 : Vec F S1x32 .f32) (x11 : Vec F S32x64 .f32) (x12 : Vec F S1x32 .f32) (x13 : Vec F S32x64 .f32) (x14 : Vec F S1x32 .f32) (x15 : Vec F S32x64 .f32) (x16 : Vec F S1x32 .f32) (x17 : Vec F S1x32 .f32) (x18 : Vec F S1x32 .f32)
    (Ws : Waits sig Unit) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18
        ∗ semVal ((c : Thread nD τ), cellR0) 0 ∗ semVal ((c : Thread nD τ), cellR1) 0 ∗ semVal ((c : Thread nD τ), cellR2) 0
        ∗ held c scM0 g0 ∗ held c scM1 g1 ∗ held c scM2 g2
        ∗ srcP c W (Ring.bk 8 0) ∗ srcP c W (Ring.bk 8 1) ∗ srcP c W (Ring.bk 8 (t.val + 2))
        ∗ held c scM3 f3 ∗ held c scM4 f4 ∗ held c scM5 f5 ∗ owes (c : Thread nD τ) 0 Ws
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18
            ∗ semVal ((c : Thread nD τ), cellR0) 0 ∗ held c scM0 (landed c W scM0 (Ring.bk 8 0) g0) ∗ srcP c W (Ring.bk 8 0)
            ∗ flightP c W scM1 cellR1 (Ring.bk 8 1) g1 ∗ flightP c W scM2 cellR2 (Ring.bk 8 (t.val + 2)) g2
            ∗ held c scM3 (putRow c t f3 (k0_pay1 (foldQ x2 x5 x6 x7 x8 x11 x12 x13 x14 x15 x16 x17 x18 x3) (chunk c W (Ring.bk 8 0)) (foldO x2 x5 x6 x7 x8 x11 x12 x13 x14 x15 x16 x17 x18 x4)))
            ∗ (∃ f4', ⌜qOf c f4' = (foldQ x2 x5 x6 x7 x8 x11 x12 x13 x14 x15 x16 x17 x18 x3)⌝ ∗ held c scM4 f4') ∗ (∃ f5', ⌜oOf c f5' = (foldO x2 x5 x6 x7 x8 x11 x12 x13 x14 x15 x16 x17 x18 x4)⌝ ∗ held c scM5 f5') ∗ (∃ W', owes (c : Thread nD τ) 0 W')) -∗ K ⟨⟩))
      ⊢ wp frame (wpE (defs₀ (F := F)) Variants.none c none) Set.univ (cc0__fused_kernel (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (Memref.whole main_arg2) (Memref.isWhole_whole _) arg20 harg20 arg21 harg21 scM0 (Memref.isWhole_whole _) scM1 (Memref.isWhole_whole _) scM2 (Memref.isWhole_whole _) scM3 (Memref.isWhole_whole _) scM4 (Memref.isWhole_whole _) scM5 (Memref.isWhole_whole _) cc0_scratch6) K := by
  haveI : Fact (cond1 (grid0.coords t)) := ⟨hc1⟩
  haveI : Fact (k0_cond2 (grid0.coords t) = 1#1) := ⟨hc2⟩
  haveI : Fact (k0_cond3 (grid0.coords t) = 1#1) := ⟨hc3⟩
  haveI : Fact (¬k0_cond4 (grid0.coords t) = 1#1) := ⟨hc4⟩
  haveI : Fact (¬k0_cond6 (grid0.coords t) = 1#1) := ⟨hc6⟩
  haveI : Fact (¬k0_cond8 (grid0.coords t) = 1#1) := ⟨hc8⟩
  simp only [cc0__fused_kernel_eq_skeleton]; unfold cc0__fused_kernel_skel
  simp only [k0_part3_eq_skeleton]; unfold k0_part3_skel
  simp only [k0_part1_eq_skeleton, k0_part2_eq_skeleton]; unfold k0_part1_skel k0_part2_skel
  unfold owns
  iintro ⟨⟨%y2, %hy2, H2⟩, ⟨%y3, %hy3, H3⟩, ⟨%y4, %hy4, H4⟩, ⟨%y5, %hy5, H5⟩, ⟨%y6, %hy6, H6⟩, ⟨%y7, %hy7, H7⟩, ⟨%y8, %hy8, H8⟩, ⟨%y11, %hy11, H11⟩, ⟨%y12, %hy12, H12⟩, ⟨%y13, %hy13, H13⟩, ⟨%y14, %hy14, H14⟩, ⟨%y15, %hy15, H15⟩, ⟨%y16, %hy16, H16⟩, ⟨%y17, %hy17, H17⟩, ⟨%y18, %hy18, H18⟩, Hc0, Hc1, Hc2, Hb0, Hb1, Hb2, Hs0, Hs1, Hs2, Hr3, Hr4, Hr5, HW, Hk⟩
  obtain rfl := harg2.eq_unread hy2
  obtain rfl := harg3.eq_unread hy3
  obtain rfl := harg4.eq_unread hy4
  obtain rfl := harg5.eq_unread hy5
  obtain rfl := harg6.eq_unread hy6
  obtain rfl := harg7.eq_unread hy7
  obtain rfl := harg8.eq_unread hy8
  obtain rfl := harg11.eq_unread hy11
  obtain rfl := harg12.eq_unread hy12
  obtain rfl := harg13.eq_unread hy13
  obtain rfl := harg14.eq_unread hy14
  obtain rfl := harg15.eq_unread hy15
  obtain rfl := harg16.eq_unread hy16
  obtain rfl := harg17.eq_unread hy17
  obtain rfl := harg18.eq_unread hy18
  sl_exec (disch := first | sl_exact hc1 | sl_exact hc2 | sl_exact hc3 | sl_exact hc4 | sl_exact hc6 | sl_exact hc8)
  sl_step
  iapply Hk
  isplitl [H2]
  · iexists _
    isplitr
    · ipureintro; exact harg2.read_unread _
    · iexact H2
  isplitl [H3]
  · iexists _
    isplitr
    · ipureintro; exact harg3.read_unread _
    · iexact H3
  isplitl [H4]
  · iexists _
    isplitr
    · ipureintro; exact harg4.read_unread _
    · iexact H4
  isplitl [H5]
  · iexists _
    isplitr
    · ipureintro; exact harg5.read_unread _
    · iexact H5
  isplitl [H6]
  · iexists _
    isplitr
    · ipureintro; exact harg6.read_unread _
    · iexact H6
  isplitl [H7]
  · iexists _
    isplitr
    · ipureintro; exact harg7.read_unread _
    · iexact H7
  isplitl [H8]
  · iexists _
    isplitr
    · ipureintro; exact harg8.read_unread _
    · iexact H8
  isplitl [H11]
  · iexists _
    isplitr
    · ipureintro; exact harg11.read_unread _
    · iexact H11
  isplitl [H12]
  · iexists _
    isplitr
    · ipureintro; exact harg12.read_unread _
    · iexact H12
  isplitl [H13]
  · iexists _
    isplitr
    · ipureintro; exact harg13.read_unread _
    · iexact H13
  isplitl [H14]
  · iexists _
    isplitr
    · ipureintro; exact harg14.read_unread _
    · iexact H14
  isplitl [H15]
  · iexists _
    isplitr
    · ipureintro; exact harg15.read_unread _
    · iexact H15
  isplitl [H16]
  · iexists _
    isplitr
    · ipureintro; exact harg16.read_unread _
    · iexact H16
  isplitl [H17]
  · iexists _
    isplitr
    · ipureintro; exact harg17.read_unread _
    · iexact H17
  isplitl [H18]
  · iexists _
    isplitr
    · ipureintro; exact harg18.read_unread _
    · iexact H18
  have e2 := readAt_own (F := F) harg2 x2 (off := ![0, 0]) inb_S1x1024_S1x1024_0_0
  have e3 := readAt_own (F := F) harg3 x3 (off := ![0, 0]) inb_S32x256_S32x256_0_0
  have e4 := readAt_own (F := F) harg4 x4 (off := ![0, 0]) inb_S1x32_S1x32_0_0
  have e5 := readAt_own (F := F) harg5 x5 (off := ![0, 0]) inb_S256x1024_S256x1024_0_0
  have e6 := readAt_own (F := F) harg6 x6 (off := ![0, 0]) inb_S1x256_S1x256_0_0
  have e7 := readAt_own (F := F) harg7 x7 (off := ![0, 0]) inb_S32x256_S32x256_0_0
  have e8 := readAt_own (F := F) harg8 x8 (off := ![0, 0]) inb_S1x32_S1x32_0_0
  have e11 := readAt_own (F := F) harg11 x11 (off := ![0, 0]) inb_S32x64_S32x64_0_0
  have e12 := readAt_own (F := F) harg12 x12 (off := ![0, 0]) inb_S1x32_S1x32_0_0
  have e13 := readAt_own (F := F) harg13 x13 (off := ![0, 0]) inb_S32x64_S32x64_0_0
  have e14 := readAt_own (F := F) harg14 x14 (off := ![0, 0]) inb_S1x32_S1x32_0_0
  have e15 := readAt_own (F := F) harg15 x15 (off := ![0, 0]) inb_S32x64_S32x64_0_0
  have e16 := readAt_own (F := F) harg16 x16 (off := ![0, 0]) inb_S1x32_S1x32_0_0
  have e17 := readAt_own (F := F) harg17 x17 (off := ![0, 0]) inb_S1x32_S1x32_0_0
  have e18 := readAt_own (F := F) harg18 x18 (off := ![0, 0]) inb_S1x32_S1x32_0_0
  have hq : foldQ (arg2.view.readAt (Elt F) (Rect.unit ![0, 0] S1x1024.size inb_S1x1024_S1x1024_0_0).toLoadRect (harg2.unread x2)) (arg5.view.readAt (Elt F) (Rect.unit ![0, 0] S256x1024.size inb_S256x1024_S256x1024_0_0).toLoadRect (harg5.unread x5)) (arg6.view.readAt (Elt F) (Rect.unit ![0, 0] S1x256.size inb_S1x256_S1x256_0_0).toLoadRect (harg6.unread x6)) (arg7.view.readAt (Elt F) (Rect.unit ![0, 0] S32x256.size inb_S32x256_S32x256_0_0).toLoadRect (harg7.unread x7)) (arg8.view.readAt (Elt F) (Rect.unit ![0, 0] S1x32.size inb_S1x32_S1x32_0_0).toLoadRect (harg8.unread x8)) (arg11.view.readAt (Elt F) (Rect.unit ![0, 0] S32x64.size inb_S32x64_S32x64_0_0).toLoadRect (harg11.unread x11)) (arg12.view.readAt (Elt F) (Rect.unit ![0, 0] S1x32.size inb_S1x32_S1x32_0_0).toLoadRect (harg12.unread x12)) (arg13.view.readAt (Elt F) (Rect.unit ![0, 0] S32x64.size inb_S32x64_S32x64_0_0).toLoadRect (harg13.unread x13)) (arg14.view.readAt (Elt F) (Rect.unit ![0, 0] S1x32.size inb_S1x32_S1x32_0_0).toLoadRect (harg14.unread x14)) (arg15.view.readAt (Elt F) (Rect.unit ![0, 0] S32x64.size inb_S32x64_S32x64_0_0).toLoadRect (harg15.unread x15)) (arg16.view.readAt (Elt F) (Rect.unit ![0, 0] S1x32.size inb_S1x32_S1x32_0_0).toLoadRect (harg16.unread x16)) (arg17.view.readAt (Elt F) (Rect.unit ![0, 0] S1x32.size inb_S1x32_S1x32_0_0).toLoadRect (harg17.unread x17)) (arg18.view.readAt (Elt F) (Rect.unit ![0, 0] S1x32.size inb_S1x32_S1x32_0_0).toLoadRect (harg18.unread x18)) (arg3.view.readAt (Elt F) (Rect.unit ![0, 0] S32x256.size inb_S32x256_S32x256_0_0).toLoadRect (harg3.unread x3))
      = foldQ x2 x5 x6 x7 x8 x11 x12 x13 x14 x15 x16 x17 x18 x3 := by
    rw [e2, e5, e6, e7, e8, e11, e12, e13, e14, e15, e16, e17, e18, e3]
  have ho : foldO (arg2.view.readAt (Elt F) (Rect.unit ![0, 0] S1x1024.size inb_S1x1024_S1x1024_0_0).toLoadRect (harg2.unread x2)) (arg5.view.readAt (Elt F) (Rect.unit ![0, 0] S256x1024.size inb_S256x1024_S256x1024_0_0).toLoadRect (harg5.unread x5)) (arg6.view.readAt (Elt F) (Rect.unit ![0, 0] S1x256.size inb_S1x256_S1x256_0_0).toLoadRect (harg6.unread x6)) (arg7.view.readAt (Elt F) (Rect.unit ![0, 0] S32x256.size inb_S32x256_S32x256_0_0).toLoadRect (harg7.unread x7)) (arg8.view.readAt (Elt F) (Rect.unit ![0, 0] S1x32.size inb_S1x32_S1x32_0_0).toLoadRect (harg8.unread x8)) (arg11.view.readAt (Elt F) (Rect.unit ![0, 0] S32x64.size inb_S32x64_S32x64_0_0).toLoadRect (harg11.unread x11)) (arg12.view.readAt (Elt F) (Rect.unit ![0, 0] S1x32.size inb_S1x32_S1x32_0_0).toLoadRect (harg12.unread x12)) (arg13.view.readAt (Elt F) (Rect.unit ![0, 0] S32x64.size inb_S32x64_S32x64_0_0).toLoadRect (harg13.unread x13)) (arg14.view.readAt (Elt F) (Rect.unit ![0, 0] S1x32.size inb_S1x32_S1x32_0_0).toLoadRect (harg14.unread x14)) (arg15.view.readAt (Elt F) (Rect.unit ![0, 0] S32x64.size inb_S32x64_S32x64_0_0).toLoadRect (harg15.unread x15)) (arg16.view.readAt (Elt F) (Rect.unit ![0, 0] S1x32.size inb_S1x32_S1x32_0_0).toLoadRect (harg16.unread x16)) (arg17.view.readAt (Elt F) (Rect.unit ![0, 0] S1x32.size inb_S1x32_S1x32_0_0).toLoadRect (harg17.unread x17)) (arg18.view.readAt (Elt F) (Rect.unit ![0, 0] S1x32.size inb_S1x32_S1x32_0_0).toLoadRect (harg18.unread x18)) (arg4.view.readAt (Elt F) (Rect.unit ![0, 0] S1x32.size inb_S1x32_S1x32_0_0).toLoadRect (harg4.unread x4))
      = foldO x2 x5 x6 x7 x8 x11 x12 x13 x14 x15 x16 x17 x18 x4 := by
    rw [e2, e5, e6, e7, e8, e11, e12, e13, e14, e15, e16, e17, e18, e4]
  isplitl [Hc0]; · iexact Hc0
  isplitl [Hb0]; · (rw [landed_eq]; iexact Hb0)
  isplitl [Hs0]; · iexact Hs0
  isplitl [Hc1]; · (unfold flightP; rw [landed_eq]; iexact Hc1)
  isplitl [Hc2]; · (unfold flightP; rw [landed_eq]; iexact Hc2)
  isplitl [Hr3]
  · rw [← writes_eq_putRow c t f3 _ (k0_off3 (grid0.coords t)) (coff3 t) (k0_off3_inb (grid0.coords t) hc2), ← pay14_eq]
    rw [← readAt_landed c W scM0 (Ring.bk 8 0) g0, ← hq, ← ho, ← qOf_put c scM4.view.junk (foldQ (arg2.view.readAt (Elt F) (Rect.unit ![0, 0] S1x1024.size inb_S1x1024_S1x1024_0_0).toLoadRect (harg2.unread x2)) (arg5.view.readAt (Elt F) (Rect.unit ![0, 0] S256x1024.size inb_S256x1024_S256x1024_0_0).toLoadRect (harg5.unread x5)) (arg6.view.readAt (Elt F) (Rect.unit ![0, 0] S1x256.size inb_S1x256_S1x256_0_0).toLoadRect (harg6.unread x6)) (arg7.view.readAt (Elt F) (Rect.unit ![0, 0] S32x256.size inb_S32x256_S32x256_0_0).toLoadRect (harg7.unread x7)) (arg8.view.readAt (Elt F) (Rect.unit ![0, 0] S1x32.size inb_S1x32_S1x32_0_0).toLoadRect (harg8.unread x8)) (arg11.view.readAt (Elt F) (Rect.unit ![0, 0] S32x64.size inb_S32x64_S32x64_0_0).toLoadRect (harg11.unread x11)) (arg12.view.readAt (Elt F) (Rect.unit ![0, 0] S1x32.size inb_S1x32_S1x32_0_0).toLoadRect (harg12.unread x12)) (arg13.view.readAt (Elt F) (Rect.unit ![0, 0] S32x64.size inb_S32x64_S32x64_0_0).toLoadRect (harg13.unread x13)) (arg14.view.readAt (Elt F) (Rect.unit ![0, 0] S1x32.size inb_S1x32_S1x32_0_0).toLoadRect (harg14.unread x14)) (arg15.view.readAt (Elt F) (Rect.unit ![0, 0] S32x64.size inb_S32x64_S32x64_0_0).toLoadRect (harg15.unread x15)) (arg16.view.readAt (Elt F) (Rect.unit ![0, 0] S1x32.size inb_S1x32_S1x32_0_0).toLoadRect (harg16.unread x16)) (arg17.view.readAt (Elt F) (Rect.unit ![0, 0] S1x32.size inb_S1x32_S1x32_0_0).toLoadRect (harg17.unread x17)) (arg18.view.readAt (Elt F) (Rect.unit ![0, 0] S1x32.size inb_S1x32_S1x32_0_0).toLoadRect (harg18.unread x18)) (arg3.view.readAt (Elt F) (Rect.unit ![0, 0] S32x256.size inb_S32x256_S32x256_0_0).toLoadRect (harg3.unread x3))), ← oOf_put c scM5.view.junk (fun _ => foldO (arg2.view.readAt (Elt F) (Rect.unit ![0, 0] S1x1024.size inb_S1x1024_S1x1024_0_0).toLoadRect (harg2.unread x2)) (arg5.view.readAt (Elt F) (Rect.unit ![0, 0] S256x1024.size inb_S256x1024_S256x1024_0_0).toLoadRect (harg5.unread x5)) (arg6.view.readAt (Elt F) (Rect.unit ![0, 0] S1x256.size inb_S1x256_S1x256_0_0).toLoadRect (harg6.unread x6)) (arg7.view.readAt (Elt F) (Rect.unit ![0, 0] S32x256.size inb_S32x256_S32x256_0_0).toLoadRect (harg7.unread x7)) (arg8.view.readAt (Elt F) (Rect.unit ![0, 0] S1x32.size inb_S1x32_S1x32_0_0).toLoadRect (harg8.unread x8)) (arg11.view.readAt (Elt F) (Rect.unit ![0, 0] S32x64.size inb_S32x64_S32x64_0_0).toLoadRect (harg11.unread x11)) (arg12.view.readAt (Elt F) (Rect.unit ![0, 0] S1x32.size inb_S1x32_S1x32_0_0).toLoadRect (harg12.unread x12)) (arg13.view.readAt (Elt F) (Rect.unit ![0, 0] S32x64.size inb_S32x64_S32x64_0_0).toLoadRect (harg13.unread x13)) (arg14.view.readAt (Elt F) (Rect.unit ![0, 0] S1x32.size inb_S1x32_S1x32_0_0).toLoadRect (harg14.unread x14)) (arg15.view.readAt (Elt F) (Rect.unit ![0, 0] S32x64.size inb_S32x64_S32x64_0_0).toLoadRect (harg15.unread x15)) (arg16.view.readAt (Elt F) (Rect.unit ![0, 0] S1x32.size inb_S1x32_S1x32_0_0).toLoadRect (harg16.unread x16)) (arg17.view.readAt (Elt F) (Rect.unit ![0, 0] S1x32.size inb_S1x32_S1x32_0_0).toLoadRect (harg17.unread x17)) (arg18.view.readAt (Elt F) (Rect.unit ![0, 0] S1x32.size inb_S1x32_S1x32_0_0).toLoadRect (harg18.unread x18)) (arg4.view.readAt (Elt F) (Rect.unit ![0, 0] S1x32.size inb_S1x32_S1x32_0_0).toLoadRect (harg4.unread x4)))]
    iexact Hr3
  isplitl [Hr4]
  · iexists _
    isplitr [Hr4]
    swap
    · iexact Hr4
    · ipureintro
      exact (qOf_put c f4 _).trans hq
  isplitl [Hr5]
  · iexists _
    isplitr [Hr5]
    swap
    · iexact Hr5
    · ipureintro
      exact (oOf_put c f5 _).trans ho
  iexists _; iexact HW

end Cert.KernelIdeal.Dma

end
-- ==== Proof.Ideal.RunD.lean ====
/- The body at the last grid point, where both results are written. -/
module

public import proofs.«01_k».proof.Proof.Ideal.Setup

@[expose] public section

set_option maxRecDepth 16384

noncomputable section

namespace Cert.KernelIdeal.Dma

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body at the last point: it waits for the last block in buffer 1, writes its stretch of weights, and from the whole row
    of weights and the mask writes both results. -/
theorem run_D (c : Dev nD) (t : Fin cfg0.N) (arg1 : Memref sig .tc .vmem S1x16384 .i32) (harg1 : arg1.IsWhole) (arg2 : Memref sig .tc .vmem S1x1024 .f32) (harg2 : arg2.IsWhole) (arg3 : Memref sig .tc .vmem S32x256 .f32) (harg3 : arg3.IsWhole) (arg4 : Memref sig .tc .vmem S1x32 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S32x64 .f32) (harg13 : arg13.IsWhole) (arg14 : Memref sig .tc .vmem S1x32 .f32) (harg14 : arg14.IsWhole) (arg15 : Memref sig .tc .vmem S32x64 .f32) (harg15 : arg15.IsWhole) (arg16 : Memref sig .tc .vmem S1x32 .f32) (harg16 : arg16.IsWhole) (arg17 : Memref sig .tc .vmem S1x32 .f32) (harg17 : arg17.IsWhole) (arg18 : Memref sig .tc .vmem S1x32 .f32) (harg18 : arg18.IsWhole) (arg20 : Memref sig .tc .vmem S1x16384 .f32) (harg20 : arg20.IsWhole) (arg21 : Memref sig .tc .vmem S1x16384 .f32) (harg21 : arg21.IsWhole)
    (hc1 : ¬cond1 (grid0.coords t)) (hc2 : ¬k0_cond2 (grid0.coords t) = 1#1) (hc4 : k0_cond4 (grid0.coords t) = 1#1) (hc5 : ¬k0_cond5 (grid0.coords t) = 1#1) (hc6 : ¬k0_cond6 (grid0.coords t) = 1#1) (hc8 : k0_cond8 (grid0.coords t) = 1#1)
    (W : BufOf (F := F) c hbM) (f3 : BufOf (F := F) c scM3) (f4 : BufOf (F := F) c scM4) (f5 : BufOf (F := F) c scM5) (fw : BufOf (F := F) c scM1) (x1 : Vec F S1x16384 .i32)
    (Ws : Waits sig Unit) (K : PUnit → sProp 𝕄) :
    iprop(flightP c W scM1 cellR1 (Ring.bk 8 t.val) fw
        ∗ owns (c : Thread nD τ) arg1 fullShare x1 ∗ (∃ d, owns (c : Thread nD τ) arg20 fullShare d) ∗ (∃ d, owns (c : Thread nD τ) arg21 fullShare d)
        ∗ held c scM3 f3 ∗ held c scM4 f4 ∗ held c scM5 f5 ∗ owes (c : Thread nD τ) 0 Ws
        ∗ (iprop(semVal ((c : Thread nD τ), cellR1) 0 ∗ held c scM1 (landed c W scM1 (Ring.bk 8 t.val) fw) ∗ srcP c W (Ring.bk 8 t.val)
            ∗ owns (c : Thread nD τ) arg1 fullShare x1
            ∗ owns (c : Thread nD τ) arg20 fullShare (k0_pay2 (scM3.view.read (Elt F) (putRow c t f3 (k0_pay1 (qOf c f4) (chunk c W (Ring.bk 8 t.val)) (oOf c f5)))))
            ∗ owns (c : Thread nD τ) arg21 fullShare (k0_pay3 (scM3.view.read (Elt F) (putRow c t f3 (k0_pay1 (qOf c f4) (chunk c W (Ring.bk 8 t.val)) (oOf c f5)))) x1)
            ∗ held c scM3 (putRow c t f3 (k0_pay1 (qOf c f4) (chunk c W (Ring.bk 8 t.val)) (oOf c f5))) ∗ held c scM4 f4 ∗ held c scM5 f5 ∗ (∃ W', owes (c : Thread nD τ) 0 W')) -∗ K ⟨⟩))
      ⊢ wp frame (wpE (defs₀ (F := F)) Variants.none c none) Set.univ (cc0__fused_kernel (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (Memref.whole main_arg2) (Memref.isWhole_whole _) arg20 harg20 arg21 harg21 scM0 (Memref.isWhole_whole _) scM1 (Memref.isWhole_whole _) scM2 (Memref.isWhole_whole _) scM3 (Memref.isWhole_whole _) scM4 (Memref.isWhole_whole _) scM5 (Memref.isWhole_whole _) cc0_scratch6) K := by
  haveI : Fact (¬cond1 (grid0.coords t)) := ⟨hc1⟩
  haveI : Fact (¬k0_cond2 (grid0.coords t) = 1#1) := ⟨hc2⟩
  haveI : Fact (k0_cond4 (grid0.coords t) = 1#1) := ⟨hc4⟩
  haveI : Fact (¬k0_cond5 (grid0.coords t) = 1#1) := ⟨hc5⟩
  haveI : Fact (¬k0_cond6 (grid0.coords t) = 1#1) := ⟨hc6⟩
  haveI : Fact (k0_cond8 (grid0.coords t) = 1#1) := ⟨hc8⟩
  simp only [cc0__fused_kernel_eq_skeleton]; unfold cc0__fused_kernel_skel
  simp only [k0_part3_eq_skeleton]; unfold k0_part3_skel
  unfold owns
  iintro ⟨Hf0, ⟨%g1, %hg1, H1⟩, ⟨%d20, %g20, -, H20⟩, ⟨%d21, %g21, -, H21⟩, H3, H4, H5, HW, Hk⟩
  obtain rfl := harg1.eq_unread hg1
  sl_exec (disch := first | sl_exact hc1 | sl_exact hc2 | sl_exact hc4 | sl_exact hc5 | sl_exact hc6 | sl_exact hc8)
  sl_step
  iapply Hk
  have hrow : putRow c t f3 (k0_pay1 (qOf c f4) (chunk c W (Ring.bk 8 t.val)) (oOf c f5))
      = scM3.view.writes (Elt F) f3 [⟨Rect.unit (s := S1x16384) (k0_off6 (grid0.coords t)) S1x2048.size (k0_off6_inb (grid0.coords t) hc4),
          k0_pay15 (qOf c f4) (scM1.view.readCov (Val := Elt F) [⟨Rect.whole S2048x256, chunk c W (Ring.bk 8 t.val)⟩]
            (Rect.unit (s := S2048x256) ![0, 0] S2048x256.size inb_S2048x256_S2048x256_0_0).toLoadRect) (oOf c f5)⟩] := by
    rw [writes_eq_putRow c t f3 _ (k0_off6 (grid0.coords t)) (coff6 t) (k0_off6_inb (grid0.coords t) hc4), pay15_eq, readCov_chunk c W scM1]
  have hrd := fun g => View.readAt_full (Val := Elt F) scM3.view g (off := ![0, 0]) inb_S1x16384_S1x16384_0_0
  isplitl [Hf0]; · iexact Hf0
  isplitl [Hf0_dst]; · iexact Hf0_dst
  isplitl [Hf0_src]; · iexact Hf0_src
  isplitl [H1]
  · iexists _
    isplitr
    · ipureintro; exact harg1.read_unread _
    · iexact H1
  isplitl [H20]
  · iexists _
    isplitr [H20]
    swap
    · iexact H20
    · ipureintro
      refine (View.read_writes_full arg20.view g20 (off := ![0, 0]) inb_S1x16384_S1x16384_0_0 _ []).trans ?_
      rw [hrow, ← hrd]
      rfl
  isplitl [H21]
  · iexists _
    isplitr [H21]
    swap
    · iexact H21
    · ipureintro
      refine (View.read_writes_full arg21.view g21 (off := ![0, 0]) inb_S1x16384_S1x16384_0_0 _ []).trans ?_
      rw [hrow, ← hrd, readAt_own harg1 x1 (off := ![0, 0]) inb_S1x16384_S1x16384_0_0]
      rfl
  isplitl [H3]
  · rw [hrow]
    iexact H3
  isplitl [H4]; · iexact H4
  isplitl [H5]; · iexact H5
  iexists _; iexact HW

end Cert.KernelIdeal.Dma

end
-- ==== Proof.Ideal.Body.lean ====
/- The pipeline's proof data: what the body keeps between grid points and leaves in its windows, and the triple for the body at
   every point. -/
module

public import proofs.«01_k».proof.Proof.Ideal.Stream
public import proofs.«01_k».proof.Proof.Ideal.RunA
public import proofs.«01_k».proof.Proof.Ideal.RunD
public import Idealize.ShloMosaic.Lib.WritesUnit
public import Idealize.ShloMosaic.Lib.ValueIdxCoords

@[expose] public section

set_option maxRecDepth 16384

noncomputable section

namespace Cert.KernelIdeal.Dma

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (Pipeline.UD sig nD τ) ℕ

/-! ## The values -/

/-- The folded query, from the operands' blocks. -/
def qv (c : Dev nD) : FVec F S1x256 .f32 :=
  foldQ (iblk m c 1 t0_0) (iblk m c 4 t0_0) (iblk m c 5 t0_0) (iblk m c 6 t0_0) (iblk m c 7 t0_0) (iblk m c 10 t0_0) (iblk m c 11 t0_0) (iblk m c 12 t0_0) (iblk m c 13 t0_0) (iblk m c 14 t0_0) (iblk m c 15 t0_0) (iblk m c 16 t0_0) (iblk m c 17 t0_0) (iblk m c 2 t0_0)
/-- Its offset. -/
def bv (c : Dev nD) : F .f32 :=
  foldO (iblk m c 1 t0_0) (iblk m c 4 t0_0) (iblk m c 5 t0_0) (iblk m c 6 t0_0) (iblk m c 7 t0_0) (iblk m c 10 t0_0) (iblk m c 11 t0_0) (iblk m c 12 t0_0) (iblk m c 13 t0_0) (iblk m c 14 t0_0) (iblk m c 15 t0_0) (iblk m c 16 t0_0) (iblk m c 17 t0_0) (iblk m c 3 t0_0)
/-- The table as the kernel finds it. -/
abbrev tabV (c : Dev nD) : BufOf (F := F) c hbM := V m c main_arg2
/-- The row of weights: entity `y` gets what its block of the table gives at its place there. -/
def rowV (c : Dev nD) : FVec F S1x16384 .f32 := fun y =>
  k0_pay1 (qv m c) (chunk c (tabV m c) (Ring.bk 8 ((y 1).val / 2048))) (bv m c)
    (ValueIdx.ix2 (0 : Fin 1) (⟨(y 1).val % 2048, Nat.mod_lt _ (by decide)⟩ : Fin 2048))

/-- The row's buffer holds the weights of the blocks before `p`. -/
def RowOk (c : Dev nD) (p : ℕ) (f3 : BufOf (F := F) c scM3) : Prop :=
  ∀ y : S1x16384.Idx, (y 1).val < 2048 * p → scM3.view.read (Elt F) f3 y = rowV m c y

/-- Before the first step nothing is asked of the row. -/
theorem rowOk_zero (c : Dev nD) (f3 : BufOf (F := F) c scM3) : RowOk m c 0 f3 := fun y h => absurd h (by omega)

/-- Writing block `p`'s stretch keeps the earlier ones and adds its own. -/
theorem rowOk_put (c : Dev nD) (k : Fin 8) (f3 : BufOf (F := F) c scM3) (h : RowOk m c k.val f3) :
    RowOk m c (k.val + 1) (putRow c k f3 (k0_pay1 (qv m c) (chunk c (tabV m c) (Ring.bk 8 k.val)) (bv m c))) := by
  intro y hy
  have y0 : (y 0).val = 0 := by have := (y 0).isLt; simp at this; omega
  unfold putRow
  by_cases hlt : (y 1).val < 2048 * k.val
  · rw [View.read_writes_cons_unit_of_not_mem scM3.view f3 (inb_row k) _ [] y rfl 1 (Or.inl (by simpa using hlt))]
    exact h y hlt
  · have hm : (y 1).val % 2048 = (y 1).val - 2048 * k.val := by omega
    have hd : (y 1).val / 2048 = k.val := by omega
    have hx : ∀ a, (y a).val = (![0, 2048 * k.val] : Fin 2 → Nat) a
        + ((ValueIdx.ix2 (0 : Fin 1) (⟨(y 1).val % 2048, Nat.mod_lt _ (by decide)⟩ : Fin 2048) : S1x2048.Idx) a).val := by
      intro a
      fin_cases a
      · simpa using y0
      · show (y 1).val = 2048 * k.val + (y 1).val % 2048
        omega
    rw [View.read_writes_cons_unit_of_mem scM3.view f3 (inb_row k) _ [] y _ rfl hx]
    unfold rowV
    rw [hd]

/-- After the eighth step the row is whole. -/
theorem rowOk_all (c : Dev nD) (p : ℕ) (hp : p = 8) (f3 : BufOf (F := F) c scM3) (h : RowOk m c p f3) : scM3.view.read (Elt F) f3 = rowV m c :=
  funext fun y => h y (by subst hp; have : (y 1).val < 16384 := (y 1).isLt; omega)

/-! ## The proof data -/

/-- What the body keeps before point `p`: the ring, the row as far as written, the folded query and its offset once computed, and
    the generator register. -/
def PhiR (c : Dev nD) (p : ℕ) : sProp 𝕄 :=
  iprop(ringP c (tabV m c) p ∗ (∃ f3, ⌜RowOk m c p f3⌝ ∗ held c scM3 f3) ∗ (∃ f4, ⌜0 < p → qOf c f4 = qv m c⌝ ∗ held c scM4 f4)
    ∗ (∃ f5, ⌜0 < p → oOf c f5 = bv m c⌝ ∗ held c scM5 f5) ∗ ∃ r, prngReg c r)

/-- The proof data: the arrays as the kernel finds them, the inputs' blocks left in place, the two results, `PhiR` between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => k0_pay2 (rowV m c)
    | ⟨19, _⟩ => k0_pay3 (rowV m c) (iblk m c 0 t)
    | ⟨_ + 20, h⟩ => absurd h (Nat.not_lt.2 (Nat.le_add_left _ _))
  Φ t := PhiR m c t.val
  q _ := fullShare
  owed _ := 0

/-- The array behind a window is what the memory holds at the start of the call. -/
theorem A_eq (c : Dev nD) (w : Fin cfg0.W) : (dats m 0 c).A w = V m c (Pipeline.arrRef spec0 w) := by
  dsimp only [dats]
/-- The invariant before a step. -/
theorem PhiR_castSucc (c : Dev nD) (t : Fin cfg0.N) : (dats m 0 c).Φ t.castSucc = PhiR m c t.val := by
  dsimp only [dats]; simp only [Fin.coe_castSucc]
/-- The invariant after a step. -/
theorem PhiR_succ (c : Dev nD) (t : Fin cfg0.N) : (dats m 0 c).Φ t.succ = PhiR m c (t.val + 1) := by
  dsimp only [dats]; simp only [Fin.val_succ]
/-- The contents of window 0 after a step. -/
theorem after_0 (c : Dev nD) (t : Fin cfg0.N) : (dats m 0 c).after 0 t = iblk m c 0 t := by dsimp only [dats]
/-- The contents of window 1 after a step. -/
theorem after_1 (c : Dev nD) (t : Fin cfg0.N) : (dats m 0 c).after 1 t = iblk m c 1 t := by dsimp only [dats]
/-- The contents of window 2 after a step. -/
theorem after_2 (c : Dev nD) (t : Fin cfg0.N) : (dats m 0 c).after 2 t = iblk m c 2 t := by dsimp only [dats]
/-- The contents of window 3 after a step. -/
theorem after_3 (c : Dev nD) (t : Fin cfg0.N) : (dats m 0 c).after 3 t = iblk m c 3 t := by dsimp only [dats]
/-- The contents of window 4 after a step. -/
theorem after_4 (c : Dev nD) (t : Fin cfg0.N) : (dats m 0 c).after 4 t = iblk m c 4 t := by dsimp only [dats]
/-- The contents of window 5 after a step. -/
theorem after_5 (c : Dev nD) (t : Fin cfg0.N) : (dats m 0 c).after 5 t = iblk m c 5 t := by dsimp only [dats]
/-- The contents of window 6 after a step. -/
theorem after_6 (c : Dev nD) (t : Fin cfg0.N) : (dats m 0 c).after 6 t = iblk m c 6 t := by dsimp only [dats]
/-- The contents of window 7 after a step. -/
theorem after_7 (c : Dev nD) (t : Fin cfg0.N) : (dats m 0 c).after 7 t = iblk m c 7 t := by dsimp only [dats]
/-- The contents of window 8 after a step. -/
theorem after_8 (c : Dev nD) (t : Fin cfg0.N) : (dats m 0 c).after 8 t = iblk m c 8 t := by dsimp only [dats]
/-- The contents of window 9 after a step. -/
theorem after_9 (c : Dev nD) (t : Fin cfg0.N) : (dats m 0 c).after 9 t = iblk m c 9 t := by dsimp only [dats]
/-- The contents of window 10 after a step. -/
theorem after_10 (c : Dev nD) (t : Fin cfg0.N) : (dats m 0 c).after 10 t = iblk m c 10 t := by dsimp only [dats]
/-- The contents of window 11 after a step. -/
theorem after_11 (c : Dev nD) (t : Fin cfg0.N) : (dats m 0 c).after 11 t = iblk m c 11 t := by dsimp only [dats]
/-- The contents of window 12 after a step. -/
theorem after_12 (c : Dev nD) (t : Fin cfg0.N) : (dats m 0 c).after 12 t = iblk m c 12 t := by dsimp only [dats]
/-- The contents of window 13 after a step. -/
theorem after_13 (c : Dev nD) (t : Fin cfg0.N) : (dats m 0 c).after 13 t = iblk m c 13 t := by dsimp only [dats]
/-- The contents of window 14 after a step. -/
theorem after_14 (c : Dev nD) (t : Fin cfg0.N) : (dats m 0 c).after 14 t = iblk m c 14 t := by dsimp only [dats]
/-- The contents of window 15 after a step. -/
theorem after_15 (c : Dev nD) (t : Fin cfg0.N) : (dats m 0 c).after 15 t = iblk m c 15 t := by dsimp only [dats]
/-- The contents of window 16 after a step. -/
theorem after_16 (c : Dev nD) (t : Fin cfg0.N) : (dats m 0 c).after 16 t = iblk m c 16 t := by dsimp only [dats]
/-- The contents of window 17 after a step. -/
theorem after_17 (c : Dev nD) (t : Fin cfg0.N) : (dats m 0 c).after 17 t = iblk m c 17 t := by dsimp only [dats]
/-- The contents of window 18 after a step. -/
theorem after_18 (c : Dev nD) (t : Fin cfg0.N) : (dats m 0 c).after 18 t = k0_pay2 (rowV m c) := by dsimp only [dats]
/-- The contents of window 19 after a step. -/
theorem after_19 (c : Dev nD) (t : Fin cfg0.N) : (dats m 0 c).after 19 t = k0_pay3 (rowV m c) (iblk m c 0 t) := by dsimp only [dats]

/-! ## The body's triple at every point -/

/-- The input windows at point `t`: each staging buffer at its block. -/
def insP (c : Dev nD) (t : Fin cfg0.N) : sProp 𝕄 :=
  iprop(owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ owns (c : Thread nD τ) (st0_7 t) fullShare (iblk m c 7 t)
        ∗ owns (c : Thread nD τ) (st0_8 t) fullShare (iblk m c 8 t)
        ∗ owns (c : Thread nD τ) (st0_9 t) fullShare (iblk m c 9 t)
        ∗ owns (c : Thread nD τ) (st0_10 t) fullShare (iblk m c 10 t)
        ∗ owns (c : Thread nD τ) (st0_11 t) fullShare (iblk m c 11 t)
        ∗ owns (c : Thread nD τ) (st0_12 t) fullShare (iblk m c 12 t)
        ∗ owns (c : Thread nD τ) (st0_13 t) fullShare (iblk m c 13 t)
        ∗ owns (c : Thread nD τ) (st0_14 t) fullShare (iblk m c 14 t)
        ∗ owns (c : Thread nD τ) (st0_15 t) fullShare (iblk m c 15 t)
        ∗ owns (c : Thread nD τ) (st0_16 t) fullShare (iblk m c 16 t)
        ∗ owns (c : Thread nD τ) (st0_17 t) fullShare (iblk m c 17 t))
/-- The two output windows as the body finds them. -/
def outPre (c : Dev nD) (t : Fin cfg0.N) : sProp 𝕄 :=
  iprop((∃ d, owns (c : Thread nD τ) (st0_18 t) fullShare ((dats m 0 c).before 18 t d)) ∗ (∃ d, owns (c : Thread nD τ) (st0_19 t) fullShare ((dats m 0 c).before 19 t d)))
/-- The two output windows at the results. -/
def outDone (c : Dev nD) (t : Fin cfg0.N) : sProp 𝕄 :=
  iprop(owns (c : Thread nD τ) (st0_18 t) fullShare ((dats m 0 c).after 18 t) ∗ owns (c : Thread nD τ) (st0_19 t) fullShare ((dats m 0 c).after 19 t))
/-- The two output windows as the body leaves them: at the results after the last point, as found before. -/
def outPost (c : Dev nD) (t : Fin cfg0.N) : sProp 𝕄 := if t.val = 7 then outDone m c t else outPre m c t

/-- The body's precondition at point `t`, and its postcondition. -/
def preB (c : Dev nD) (t : Fin cfg0.N) (Ws : Waits sig Unit) : sProp 𝕄 :=
  iprop(PhiR m c t.val ∗ owes (c : Thread nD τ) 0 Ws ∗ insP m c t ∗ outPre m c t)
def postB (c : Dev nD) (t : Fin cfg0.N) : sProp 𝕄 :=
  iprop(PhiR m c (t.val + 1) ∗ (∃ W', owes (c : Thread nD τ) 0 W') ∗ insP m c t ∗ outPost m c t)

/-- The triple at a point. -/
def Sound (c : Dev nD) (t : Fin cfg0.N) : Prop :=
  ∀ Ws, preB m c t Ws ⊢ wp frame (wpE (defs₀ (F := F)) Variants.none c none) Set.univ (bodyAt0 t) (fun _ => postB m c t)

set_option maxHeartbeats 1600000 in
/-- A middle point. -/
theorem sound_mid (c : Dev nD) (t : Fin cfg0.N) (h1 : 1 ≤ t.val) (h6 : t.val < 6) : Sound m c t := by
  intro Ws
  unfold preB postB PhiR ringP outPost
  rw [if_neg (show ¬t.val = 0 by omega), if_neg (show ¬t.val + 1 = 0 by omega), if_neg (show ¬t.val = 7 by omega),
    Ring.At3_here _ _ _ _ t.val (by omega), Ring.At3_next _ _ _ _ t.val (by omega), Ring.slotAt3_next0 _ _ _ t.val (by omega),
    Ring.slotAt3_next1 _ _ _ t.val (by omega)]
  iintro ⟨⟨⟨⟨Hs, Hr⟩, Hf, Hg, Hb⟩, ⟨%f3, %h3, H3⟩, ⟨%f4, %h4, H4⟩, ⟨%f5, %h5, H5⟩, Hp⟩, HW, HI, HO⟩
  iapply (run_mid c t h1 h6 (tabV m c) f3 f4 f5 Ws _)
  isplitl [Hf]; · iexact Hf
  isplitl [Hb]; · iexact Hb
  isplitl [Hs]; · iexact Hs
  isplitl [H3]; · iexact H3
  isplitl [H4]; · iexact H4
  isplitl [H5]; · iexact H5
  isplitl [HW]; · iexact HW
  iintro ⟨Hb, Hs, Hf, H3, H4, H5, HW⟩
  have q4 := h4 (by omega)
  have q5 := h5 (by omega)
  isplitr [HW HI HO]
  · isplitl [Hs Hr Hf Hg Hb]
    · isplitl [Hs Hr]
      · isplitl [Hs]; · iexact Hs
        iexact Hr
      isplitl [Hg]; · iexact Hg
      isplitl [Hf]; · iexact Hf
      iexact Hb
    isplitl [H3]
    · iexists _
      isplitr [H3]
      swap
      · iexact H3
      · ipureintro
        unfold rowAdd
        rw [q4, q5]
        exact rowOk_put m c t f3 h3
    isplitl [H4]
    · iexists f4
      isplitr; · (ipureintro; exact fun _ => q4)
      iexact H4
    isplitl [H5]
    · iexists f5
      isplitr; · (ipureintro; exact fun _ => q5)
      iexact H5
    iexact Hp
  isplitl [HW]; · iexact HW
  isplitl [HI]; · iexact HI
  iexact HO

set_option maxHeartbeats 1600000 in
/-- The point before the last. -/
theorem sound_C (c : Dev nD) (t : Fin cfg0.N) (ht : t.val = 6) : Sound m c t := by
  intro Ws
  unfold preB postB PhiR ringP outPost
  rw [if_neg (show ¬t.val = 0 by omega), if_neg (show ¬t.val + 1 = 0 by omega), if_neg (show ¬t.val = 7 by omega),
    Ring.At3_here_tail _ _ _ _ t.val (by omega), Ring.At3_next_tail _ _ _ _ t.val (by omega) (by omega), Ring.slotAt3_tail_role,
    show Ring.sl 3 t.val = 0 from sl_of _ 0 (by decide) (by omega), going_0, free_0]
  iintro ⟨⟨⟨Hr, ⟨%fw, Hf⟩, Hg, Hb⟩, ⟨%f3, %h3, H3⟩, ⟨%f4, %h4, H4⟩, ⟨%f5, %h5, H5⟩, Hp⟩, HW, HI, HO⟩
  iapply (run_C c t _ _ _ _ _ _ _ _ _ _ _ _ _ _ _ _ _ _ _ _ _ _ _ _ _ _ _ _ _ _ _ _ _ _ _ _ _ _ _ _ (fun h => by have := (hcond1 t).mp h; omega) ((hcond2 t).mpr (by omega)) (fun h => by have := (hcond3 t).mp h; omega)
    (fun h => by have := (hcond4 t).mp h; omega) (fun h => by have := (hcond6 t).mp h; omega) (fun h => by have := (hcond8 t).mp h; omega)
    (tabV m c) f3 f4 f5 fw Ws _)
  isplitl [Hf]; · iexact Hf
  isplitl [H3]; · iexact H3
  isplitl [H4]; · iexact H4
  isplitl [H5]; · iexact H5
  isplitl [HW]; · iexact HW
  iintro ⟨Hc, Hw, Hs, H3, H4, H5, HW⟩
  have q4 := h4 (by omega)
  have q5 := h5 (by omega)
  isplitr [HW HI HO]
  · isplitl [Hs Hr Hg Hb Hc Hw]
    · isplitl [Hs Hr]
      · isplitl [Hs]; · iexact Hs
        iexact Hr
      isplitl [Hg]; · iexact Hg
      isplitl [Hb]; · iexact Hb
      isplitl [Hc]; · iexact Hc
      iexists _; iexact Hw
    isplitl [H3]
    · iexists _
      isplitr [H3]
      swap
      · iexact H3
      · ipureintro
        rw [q4, q5]
        exact rowOk_put m c t f3 h3
    isplitl [H4]
    · iexists f4
      isplitr; · (ipureintro; exact fun _ => q4)
      iexact H4
    isplitl [H5]
    · iexists f5
      isplitr; · (ipureintro; exact fun _ => q5)
      iexact H5
    iexact Hp
  isplitl [HW]; · iexact HW
  isplitl [HI]; · iexact HI
  iexact HO

set_option maxHeartbeats 3200000 in
/-- The last point. -/
theorem sound_D (c : Dev nD) (t : Fin cfg0.N) (ht : t.val = 7) : Sound m c t := by
  intro Ws
  unfold preB postB PhiR ringP outPost outPre outDone insP
  rw [if_neg (show ¬t.val = 0 by omega), if_neg (show ¬t.val + 1 = 0 by omega), if_pos ht, after_18, after_19,
    Ring.At3_here_tail _ _ _ _ t.val (by omega), Ring.At3_next_tail _ _ _ _ t.val (by omega) (by omega), Ring.slotAt3_tail_role,
    show Ring.sl 3 t.val = 1 from sl_of _ 1 (by decide) (by omega), going_1, free_1]
  iintro ⟨⟨⟨Hr, ⟨%fw, Hf⟩, Hg, Hb⟩, ⟨%f3, %h3, H3⟩, ⟨%f4, %h4, H4⟩, ⟨%f5, %h5, H5⟩, Hp⟩, HW, ⟨I0, I1, I2, I3, I4, I5, I6, I7, I8, I9, I10, I11, I12, I13, I14, I15, I16, I17⟩, ⟨%d18, O18⟩, ⟨%d19, O19⟩⟩
  have q4 := h4 (by omega)
  have q5 := h5 (by omega)
  have hrow : RowOk m c (t.val + 1) (putRow c t f3 (k0_pay1 (qOf c f4) (chunk c (tabV m c) (Ring.bk 8 t.val)) (oOf c f5))) := by
    rw [q4, q5]
    exact rowOk_put m c t f3 h3
  have hread := rowOk_all m c _ (by rw [ht]) _ hrow
  iapply (run_D c t _ _ _ _ _ _ _ _ _ _ _ _ _ _ _ _ _ _ _ _ _ _ _ _ _ _ _ _ _ _ _ _ _ _ _ _ _ _ _ _ (fun h => by have := (hcond1 t).mp h; omega) (fun h => by have := (hcond2 t).mp h; omega) ((hcond4 t).mpr (by omega))
    (fun h => by have := (hcond5 t).mp h; omega) (fun h => by have := (hcond6 t).mp h; omega) ((hcond8 t).mpr ht)
    (tabV m c) f3 f4 f5 fw (iblk m c 0 t) Ws _)
  isplitl [Hf]; · iexact Hf
  isplitl [I0]; · iexact I0
  isplitl [O18]; · (iexists _; iexact O18)
  isplitl [O19]; · (iexists _; iexact O19)
  isplitl [H3]; · iexact H3
  isplitl [H4]; · iexact H4
  isplitl [H5]; · iexact H5
  isplitl [HW]; · iexact HW
  rw [hread]
  iintro ⟨Hc, Hw, Hs, I0, O18, O19, H3, H4, H5, HW⟩
  isplitr [HW O18 O19 I0 I1 I2 I3 I4 I5 I6 I7 I8 I9 I10 I11 I12 I13 I14 I15 I16 I17]
  · isplitl [Hs Hr Hg Hb Hc Hw]
    · isplitl [Hs Hr]
      · isplitl [Hs]; · iexact Hs
        iexact Hr
      isplitl [Hg]; · iexact Hg
      isplitl [Hb]; · iexact Hb
      isplitl [Hc]; · iexact Hc
      iexists _; iexact Hw
    isplitl [H3]
    · iexists _
      isplitr [H3]
      swap
      · iexact H3
      · ipureintro; exact hrow
    isplitl [H4]
    · iexists f4
      isplitr; · (ipureintro; exact fun _ => q4)
      iexact H4
    isplitl [H5]
    · iexists f5
      isplitr; · (ipureintro; exact fun _ => q5)
      iexact H5
    iexact Hp
  isplitl [HW]; · iexact HW
  isplitl [I0 I1 I2 I3 I4 I5 I6 I7 I8 I9 I10 I11 I12 I13 I14 I15 I16 I17]
  · isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    isplitl [I10]; · iexact I10
    isplitl [I11]; · iexact I11
    isplitl [I12]; · iexact I12
    isplitl [I13]; · iexact I13
    isplitl [I14]; · iexact I14
    isplitl [I15]; · iexact I15
    isplitl [I16]; · iexact I16
    iexact I17
  isplitl [O18]; · iexact O18
  iexact O19

set_option maxHeartbeats 3200000 in
/-- The first point. -/
theorem sound_A (c : Dev nD) : Sound m c t0_0 := by
  intro Ws
  unfold preB postB PhiR ringP outPost insP
  rw [if_pos (show t0_0.val = 0 from rfl), if_neg (show ¬t0_0.val + 1 = 0 by omega), if_neg (show ¬t0_0.val = 7 by decide),
    Ring.At₀_eq3' _ _ _ t0_0.val rfl (by decide), Ring.At3_one' _ _ _ _ t0_0.val rfl (by decide),
    show Ring.sl 3 t0_0.val = 0 from rfl, show Ring.sl 3 (t0_0.val + 1) = 1 from rfl, show Ring.sl 3 (t0_0.val + 2) = 2 from rfl,
    free_0, free_1, free_2, going_1, going_2, show Ring.bk 8 t0_0.val = Ring.bk 8 0 from rfl, show Ring.bk 8 (t0_0.val + 1) = Ring.bk 8 1 from rfl]
  iintro ⟨⟨⟨⟨Hs0, Hs1, Hs2, Hr⟩, ⟨Hc0, ⟨%g0, Hb0⟩⟩, ⟨Hc1, ⟨%g1, Hb1⟩⟩, ⟨Hc2, ⟨%g2, Hb2⟩⟩⟩, ⟨%f3, %h3, H3⟩, ⟨%f4, -, H4⟩, ⟨%f5, -, H5⟩, Hp⟩, HW, ⟨I0, I1, I2, I3, I4, I5, I6, I7, I8, I9, I10, I11, I12, I13, I14, I15, I16, I17⟩, HO⟩
  iapply (run_A c t0_0 _ _ _ _ _ _ _ _ _ _ _ _ _ _ _ _ _ _ _ _ _ _ _ _ _ _ _ _ _ _ _ _ _ _ _ _ _ _ _ _ ((hcond1 t0_0).mpr rfl) ((hcond2 t0_0).mpr rfl) ((hcond3 t0_0).mpr (by decide))
    (fun h => absurd ((hcond4 t0_0).mp h) (by decide)) (fun h => absurd ((hcond6 t0_0).mp h) (by decide)) (fun h => absurd ((hcond8 t0_0).mp h) (by decide))
    (tabV m c) f3 f4 f5 g0 g1 g2 (iblk m c 1 t0_0) (iblk m c 2 t0_0) (iblk m c 3 t0_0) (iblk m c 4 t0_0) (iblk m c 5 t0_0) (iblk m c 6 t0_0) (iblk m c 7 t0_0) (iblk m c 10 t0_0) (iblk m c 11 t0_0) (iblk m c 12 t0_0) (iblk m c 13 t0_0) (iblk m c 14 t0_0) (iblk m c 15 t0_0) (iblk m c 16 t0_0) (iblk m c 17 t0_0) Ws _)
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I10]; · iexact I10
  isplitl [I11]; · iexact I11
  isplitl [I12]; · iexact I12
  isplitl [I13]; · iexact I13
  isplitl [I14]; · iexact I14
  isplitl [I15]; · iexact I15
  isplitl [I16]; · iexact I16
  isplitl [I17]; · iexact I17
  isplitl [Hc0]; · iexact Hc0
  isplitl [Hc1]; · iexact Hc1
  isplitl [Hc2]; · iexact Hc2
  isplitl [Hb0]; · iexact Hb0
  isplitl [Hb1]; · iexact Hb1
  isplitl [Hb2]; · iexact Hb2
  isplitl [Hs0]; · iexact Hs0
  isplitl [Hs1]; · iexact Hs1
  isplitl [Hs2]; · iexact Hs2
  isplitl [H3]; · iexact H3
  isplitl [H4]; · iexact H4
  isplitl [H5]; · iexact H5
  isplitl [HW]; · iexact HW
  iintro ⟨I1, I2, I3, I4, I5, I6, I7, I10, I11, I12, I13, I14, I15, I16, I17, Hc0, Hb0, Hs0, Hf1, Hf2, H3, ⟨%f4', %q4, H4⟩, ⟨%f5', %q5, H5⟩, HW⟩
  isplitr [HW HO I0 I1 I2 I3 I4 I5 I6 I7 I8 I9 I10 I11 I12 I13 I14 I15 I16 I17]
  · isplitl [Hs0 Hr Hf1 Hf2 Hc0 Hb0]
    · isplitl [Hs0 Hr]
      · isplitl [Hs0]; · iexact Hs0
        iexact Hr
      isplitl [Hf1]; · (iexists _; iexact Hf1)
      isplitl [Hf2]; · (iexists _; iexact Hf2)
      isplitl [Hc0]; · iexact Hc0
      iexists _; iexact Hb0
    isplitl [H3]
    · iexists _
      isplitr [H3]
      swap
      · iexact H3
      · ipureintro
        exact rowOk_put m c (0 : Fin 8) f3 h3
    isplitl [H4]
    · iexists f4'
      isplitr; · (ipureintro; exact fun _ => q4)
      iexact H4
    isplitl [H5]
    · iexists f5'
      isplitr; · (ipureintro; exact fun _ => q5)
      iexact H5
    iexact Hp
  isplitl [HW]; · iexact HW
  isplitl [I0 I1 I2 I3 I4 I5 I6 I7 I8 I9 I10 I11 I12 I13 I14 I15 I16 I17]
  · isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    isplitl [I10]; · iexact I10
    isplitl [I11]; · iexact I11
    isplitl [I12]; · iexact I12
    isplitl [I13]; · iexact I13
    isplitl [I14]; · iexact I14
    isplitl [I15]; · iexact I15
    isplitl [I16]; · iexact I16
    iexact I17
  iexact HO

/-- Every point. -/
theorem sound (c : Dev nD) (t : Fin cfg0.N) : Sound m c t := by
  have hN : t.val < 8 := lt_of_lt_of_eq t.isLt (show cfg0.N = 8 from N_0)
  rcases (by omega : t.val = 0 ∨ (1 ≤ t.val ∧ t.val < 6) ∨ t.val = 6 ∨ t.val = 7) with h | ⟨h1, h6⟩ | h | h
  · obtain rfl : t = t0_0 := Fin.ext h
    exact sound_A m c
  · exact sound_mid m c t h1 h6
  · exact sound_C m c t h
  · exact sound_D m c t h

end Cert.KernelIdeal.Dma

end
-- ==== Proof.Ideal.Final.lean ====
/- The library's obligation for the body, what the ring starts from and ends as, and the run of the whole program: the frame, and
   the two results. -/
module

public import proofs.«01_k».proof.Proof.Ideal.Body
public import Idealize.ShloMosaic.Lib.Claim

@[expose] public section

set_option maxRecDepth 16384

noncomputable section

namespace Cert.KernelIdeal.Dma

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (Pipeline.UD sig nD τ) ℕ

/-! ## The body's obligation -/

/-- An output window as the library takes it back: untouched where the body leaves it alone, at the result where it is stored. -/
def outAt (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

/-- A step leaves a window that isn't idle with its contents after the step. -/
theorem outAt_last (c : Dev nD) (w : Fin cfg0.W) (t : Fin cfg0.N) (h : cfg0.idle w (cfg0.grid.coords t) = false) :
    outAt m c w t = owns (c : Thread nD τ) ((cfg0.win w).stage (cfg0.slots t w)) fullShare ((dats m 0 c).after w t) := by
  unfold outAt; rw [h]
/-- A step leaves an idle window that isn't flushed with the contents it had. -/
theorem outAt_before (c : Dev nD) (w : Fin cfg0.W) (t : Fin cfg0.N) (h : cfg0.idle w (cfg0.grid.coords t) = true)
    (hf : (cfg0.win w).flush t = false) :
    outAt m c w t = iprop(∃ d, owns (c : Thread nD τ) ((cfg0.win w).stage (cfg0.slots t w)) fullShare ((dats m 0 c).before w t d)) := by
  unfold outAt; rw [h, hf]

/-- At the last step the outputs aren't idle. -/
theorem idle_last (t : Fin cfg0.N) (h : t.val = 7) : cfg0.idle 18 (cfg0.grid.coords t) = false ∧ cfg0.idle 19 (cfg0.grid.coords t) = false := by
  have h8 : k0_cond8 (grid0.coords t) = 1#1 := (hcond8 t).mpr h
  refine ⟨?_, ?_⟩
  · show (!(k0_cond8 (grid0.coords t) == 1#1)) = false
    rw [h8]; rfl
  · show (!(k0_cond8 (grid0.coords t) == 1#1)) = false
    rw [h8]; rfl
/-- Before the last step the outputs are idle. -/
theorem idle_before (t : Fin cfg0.N) (h : ¬t.val = 7) : cfg0.idle 18 (cfg0.grid.coords t) = true ∧ cfg0.idle 19 (cfg0.grid.coords t) = true := by
  have h8 : ¬k0_cond8 (grid0.coords t) = 1#1 := fun e => h ((hcond8 t).mp e)
  have h9 : (k0_cond8 (grid0.coords t) == 1#1) = false := beq_eq_false_iff_ne.mpr h8
  refine ⟨?_, ?_⟩
  · show (!(k0_cond8 (grid0.coords t) == 1#1)) = true
    rw [h9]; rfl
  · show (!(k0_cond8 (grid0.coords t) == 1#1)) = true
    rw [h9]; rfl

/-- The output windows as the triple leaves them are the output windows as the library takes them back. -/
theorem outPost_out (c : Dev nD) (t : Fin cfg0.N) : outPost m c t = iprop(outAt m c 18 t ∗ outAt m c 19 t) := by
  have hN : t.val < 8 := lt_of_lt_of_eq t.isLt (show cfg0.N = 8 from N_0)
  unfold outPost
  by_cases h : t.val = 7
  · rw [if_pos h, outAt_last m c 18 t (idle_last t h).1, outAt_last m c 19 t (idle_last t h).2]; rfl
  · have f8 : (cfg0.win 18).flush t = false := by
      rw [Bool.eq_false_iff]; intro e; have := (flush0_18 t).mp e; omega
    have f9 : (cfg0.win 19).flush t = false := by
      rw [Bool.eq_false_iff]; intro e; have := (flush0_19 t).mp e; omega
    rw [if_neg h, outAt_before m c 18 t (idle_before t h).1 f8, outAt_before m c 19 t (idle_before t h).2 f9]; rfl

/-- What the library hands the body at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))
/-- What it takes back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ outAt m c 18 t ∗ outAt m c 19 t)
/-- Window 0 before a step holds its block of the array. -/
theorem beforeD_0 (c : Dev nD) (t : Fin cfg0.N) (d) : (dats m 0 c).before 0 t d = iblk m c 0 t :=
  before_0 m (dats m 0 c) (A_eq m c 0) (after_0 m c) t d
/-- Window 1 before a step holds its block of the array. -/
theorem beforeD_1 (c : Dev nD) (t : Fin cfg0.N) (d) : (dats m 0 c).before 1 t d = iblk m c 1 t :=
  before_1 m (dats m 0 c) (A_eq m c 1) (after_1 m c) t d
/-- Window 2 before a step holds its block of the array. -/
theorem beforeD_2 (c : Dev nD) (t : Fin cfg0.N) (d) : (dats m 0 c).before 2 t d = iblk m c 2 t :=
  before_2 m (dats m 0 c) (A_eq m c 2) (after_2 m c) t d
/-- Window 3 before a step holds its block of the array. -/
theorem beforeD_3 (c : Dev nD) (t : Fin cfg0.N) (d) : (dats m 0 c).before 3 t d = iblk m c 3 t :=
  before_3 m (dats m 0 c) (A_eq m c 3) (after_3 m c) t d
/-- Window 4 before a step holds its block of the array. -/
theorem beforeD_4 (c : Dev nD) (t : Fin cfg0.N) (d) : (dats m 0 c).before 4 t d = iblk m c 4 t :=
  before_4 m (dats m 0 c) (A_eq m c 4) (after_4 m c) t d
/-- Window 5 before a step holds its block of the array. -/
theorem beforeD_5 (c : Dev nD) (t : Fin cfg0.N) (d) : (dats m 0 c).before 5 t d = iblk m c 5 t :=
  before_5 m (dats m 0 c) (A_eq m c 5) (after_5 m c) t d
/-- Window 6 before a step holds its block of the array. -/
theorem beforeD_6 (c : Dev nD) (t : Fin cfg0.N) (d) : (dats m 0 c).before 6 t d = iblk m c 6 t :=
  before_6 m (dats m 0 c) (A_eq m c 6) (after_6 m c) t d
/-- Window 7 before a step holds its block of the array. -/
theorem beforeD_7 (c : Dev nD) (t : Fin cfg0.N) (d) : (dats m 0 c).before 7 t d = iblk m c 7 t :=
  before_7 m (dats m 0 c) (A_eq m c 7) (after_7 m c) t d
/-- Window 8 before a step holds its block of the array. -/
theorem beforeD_8 (c : Dev nD) (t : Fin cfg0.N) (d) : (dats m 0 c).before 8 t d = iblk m c 8 t :=
  before_8 m (dats m 0 c) (A_eq m c 8) (after_8 m c) t d
/-- Window 9 before a step holds its block of the array. -/
theorem beforeD_9 (c : Dev nD) (t : Fin cfg0.N) (d) : (dats m 0 c).before 9 t d = iblk m c 9 t :=
  before_9 m (dats m 0 c) (A_eq m c 9) (after_9 m c) t d
/-- Window 10 before a step holds its block of the array. -/
theorem beforeD_10 (c : Dev nD) (t : Fin cfg0.N) (d) : (dats m 0 c).before 10 t d = iblk m c 10 t :=
  before_10 m (dats m 0 c) (A_eq m c 10) (after_10 m c) t d
/-- Window 11 before a step holds its block of the array. -/
theorem beforeD_11 (c : Dev nD) (t : Fin cfg0.N) (d) : (dats m 0 c).before 11 t d = iblk m c 11 t :=
  before_11 m (dats m 0 c) (A_eq m c 11) (after_11 m c) t d
/-- Window 12 before a step holds its block of the array. -/
theorem beforeD_12 (c : Dev nD) (t : Fin cfg0.N) (d) : (dats m 0 c).before 12 t d = iblk m c 12 t :=
  before_12 m (dats m 0 c) (A_eq m c 12) (after_12 m c) t d
/-- Window 13 before a step holds its block of the array. -/
theorem beforeD_13 (c : Dev nD) (t : Fin cfg0.N) (d) : (dats m 0 c).before 13 t d = iblk m c 13 t :=
  before_13 m (dats m 0 c) (A_eq m c 13) (after_13 m c) t d
/-- Window 14 before a step holds its block of the array. -/
theorem beforeD_14 (c : Dev nD) (t : Fin cfg0.N) (d) : (dats m 0 c).before 14 t d = iblk m c 14 t :=
  before_14 m (dats m 0 c) (A_eq m c 14) (after_14 m c) t d
/-- Window 15 before a step holds its block of the array. -/
theorem beforeD_15 (c : Dev nD) (t : Fin cfg0.N) (d) : (dats m 0 c).before 15 t d = iblk m c 15 t :=
  before_15 m (dats m 0 c) (A_eq m c 15) (after_15 m c) t d
/-- Window 16 before a step holds its block of the array. -/
theorem beforeD_16 (c : Dev nD) (t : Fin cfg0.N) (d) : (dats m 0 c).before 16 t d = iblk m c 16 t :=
  before_16 m (dats m 0 c) (A_eq m c 16) (after_16 m c) t d
/-- Window 17 before a step holds its block of the array. -/
theorem beforeD_17 (c : Dev nD) (t : Fin cfg0.N) (d) : (dats m 0 c).before 17 t d = iblk m c 17 t :=
  before_17 m (dats m 0 c) (A_eq m c 17) (after_17 m c) t d
set_option maxHeartbeats 1600000 in
/-- What the library hands over is the triple's precondition, for the waits it has recorded. -/
theorem pre_of (c : Dev nD) (t : Fin cfg0.N) : bodyPre m c t ⊢ iprop(∃ Ws, preB m c t Ws) := by
  unfold bodyPre preB insP outPre
  simp only [PhiR_castSucc, beforeD_0, beforeD_1, beforeD_2, beforeD_3, beforeD_4, beforeD_5, beforeD_6, beforeD_7, beforeD_8, beforeD_9, beforeD_10, beforeD_11, beforeD_12, beforeD_13, beforeD_14, beforeD_15, beforeD_16, beforeD_17]
  unfold Dat.owesAt Pipeline.owesWithin
  rw [show (dats m 0 c).owed t.castSucc = 0 from rfl]
  iintro ⟨HP, ⟨%W, -, HW⟩, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, I9⟩, ⟨%d10, I10⟩, ⟨%d11, I11⟩, ⟨%d12, I12⟩, ⟨%d13, I13⟩, ⟨%d14, I14⟩, ⟨%d15, I15⟩, ⟨%d16, I16⟩, ⟨%d17, I17⟩, HO⟩
  iexists W
  isplitl [HP]; · iexact HP
  isplitl [HW]; · iexact HW
  isplitr [HO]
  · isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    isplitl [I10]; · iexact I10
    isplitl [I11]; · iexact I11
    isplitl [I12]; · iexact I12
    isplitl [I13]; · iexact I13
    isplitl [I14]; · iexact I14
    isplitl [I15]; · iexact I15
    isplitl [I16]; · iexact I16
    iexact I17
  iexact HO

set_option maxHeartbeats 1600000 in
/-- And the triple's postcondition is what it takes back. -/
theorem post_of (c : Dev nD) (t : Fin cfg0.N) : postB m c t ⊢ bodyPost m c t := by
  unfold bodyPost postB insP
  simp only [PhiR_succ, outPost_out, after_0, after_1, after_2, after_3, after_4, after_5, after_6, after_7, after_8, after_9, after_10, after_11, after_12, after_13, after_14, after_15, after_16, after_17]
  unfold Dat.owesAt Pipeline.owesWithin
  rw [show (dats m 0 c).owed t.succ = 0 from rfl]
  iintro ⟨HP, ⟨%W, HW⟩, ⟨I0, I1, I2, I3, I4, I5, I6, I7, I8, I9, I10, I11, I12, I13, I14, I15, I16, I17⟩, HO⟩
  isplitl [HP]; · iexact HP
  isplitl [HW]
  · iexists W
    isplitr; · (ipureintro; exact fun _ _ => Or.inl trivial)
    iexact HW
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  isplitl [I10]; · iexact I10
  isplitl [I11]; · iexact I11
  isplitl [I12]; · iexact I12
  isplitl [I13]; · iexact I13
  isplitl [I14]; · iexact I14
  isplitl [I15]; · iexact I15
  isplitl [I16]; · iexact I16
  isplitl [I17]; · iexact I17
  iexact HO

/-- The triple between the two. -/
theorem sound_body (c : Dev nD) (t : Fin cfg0.N) :
    bodyPre m c t ⊢ wp frame (wpE (defs₀ (F := F)) Variants.none c none) Set.univ (bodyAt0 t) (fun _ => bodyPost m c t) := by
  refine (pre_of m c t).trans ?_
  iintro ⟨%Ws, H⟩
  iapply (triple_restated (sound m c t Ws) rfl .rfl fun _ => post_of m c t)
  iexact H

/-- The body of the call at a step, unfolded. -/
theorem defs₀_row (t : Fin cfg0.N) : defs₀ (F := F) .tc cfg0.body (cfg0.bodyArgs t (cfg0.slots t)) = bodyAt0 t := by
  unfold defs₀; rw [Defs.onTc_tc]

set_option maxHeartbeats 1600000 in
/-- The library's obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The table, block by block -/

/-- Block `b`'s entries of the table. -/
def blkSet (b : Fin 8) : Finset S16384x256.Idx := (Rect.unit (s := S16384x256) ![2048 * b.val, 0] S2048x256.size (inb_src b)).set
/-- The places of one block of the table. -/
theorem srcB_set (b : Fin 8) : (srcB b).view.set = blkSet b := View.set_slice_whole _ _
/-- Two different blocks of the table don't meet. -/
theorem blk_disjoint (b b' : Fin 8) (h : b ≠ b') : Disjoint (blkSet b) (blkSet b') :=
  Ring.lead_disjoint (s := S16384x256) (0 : Fin 2) 2048 (fun b : Fin 8 => (![2048 * b.val, 0] : Fin 2 → Nat)) S2048x256.size inb_src
    (fun b => by simp) rfl b b' h
/-- The eight blocks cover the table. -/
theorem blk_cover : Finset.univ.biUnion blkSet = Finset.univ :=
  Ring.lead_cover (s := S16384x256) (0 : Fin 2) 2048 (fun b : Fin 8 => (![2048 * b.val, 0] : Fin 2 → Nat)) S2048x256.size inb_src
    (fun b => by simp) (fun b a ha => by fin_cases a <;> simp_all) rfl (fun a ha => by fin_cases a <;> simp_all) rfl
/-- The table held whole is its eight blocks held. -/
theorem table_blocks (c : Dev nD) (W : BufOf (F := F) c hbM) :
    (held c hbM W : sProp 𝕄) = bigSep Finset.univ (homeP c W) := by
  rw [show homeP (F := F) c W = fun b => (((c : Thread nD τ).loc main_arg2) ↦[blkSet b]{fullShare} W : sProp 𝕄) from
    funext fun b => by show ((srcB b).view.loc (c : Thread nD τ) ↦[(srcB b).view.set]{fullShare} W : sProp 𝕄) = _; rw [srcB_set]; rfl]
  exact Ring.pointsTo_blocks (ℓ := (c : Thread nD τ).loc main_arg2) blkSet blk_disjoint blk_cover W

/-! ## What the launch hands over and takes back -/

/-- The launch's hand-over starts the ring: every block at home, every buffer free. -/
theorem hin (c : Dev nD) : Pipeline.ΦD osem0 spec0 H0 (V m) c ⊢ (dats m 0 c).Φ 0 := by
  rw [PhiD0_eq, show (dats m 0 c).Φ 0 = PhiR m c 0 from rfl]
  unfold PhiR ringP
  rw [if_pos rfl]
  unfold Ring.At₀
  rw [Ring.bigSep_fin3, free_0, free_1, free_2, cellR0_eq, cellR1_eq, cellR2_eq, table_blocks]
  iintro ⟨⟨S0, S1, S2, ⟨%f3, S3⟩, ⟨%f4, S4⟩, ⟨%f5, S5⟩⟩, Hr, ⟨C0, C1, C2⟩, HT⟩
  isplitl [S0 S1 S2 C0 C1 C2 HT]
  · isplitl [HT]; · iexact HT
    isplitl [C0 S0]
    · isplitl [C0]; · iexact C0
      iexact S0
    isplitl [C1 S1]
    · isplitl [C1]; · iexact C1
      iexact S1
    isplitl [C2]; · iexact C2
    iexact S2
  isplitl [S3]
  · iexists f3
    isplitr; · (ipureintro; exact rowOk_zero m c f3)
    iexact S3
  isplitl [S4]
  · iexists f4
    isplitr; · (ipureintro; exact fun h => absurd h (lt_irrefl 0))
    iexact S4
  isplitl [S5]
  · iexists f5
    isplitr; · (ipureintro; exact fun h => absurd h (lt_irrefl 0))
    iexact S5
  iexact Hr

/-- And the ring ends with every block home again and every buffer free. -/
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl, show grid0.N = 8 from N_0]
  unfold PhiR ringP
  rw [if_neg (by decide)]
  have hfree := Ring.free3_of_At_last (cell := cellP c) (slot := slotP (F := F) c) (home := homeP c (tabV m c)) (flight := flyP c (tabV m c))
  rw [free_0, free_1, free_2, cellR0_eq, cellR1_eq, cellR2_eq, ← table_blocks] at hfree
  iintro ⟨HR, ⟨%f3, -, S3⟩, ⟨%f4, -, S4⟩, ⟨%f5, -, S5⟩, Hr⟩
  ihave HB := hfree $$ HR
  icases HB with ⟨HT, ⟨C0, S0⟩, ⟨C1, S1⟩, ⟨C2, S2⟩⟩
  isplitl [S0 S1 S2 S3 S4 S5]
  · isplitl [S0]; · iexact S0
    isplitl [S1]; · iexact S1
    isplitl [S2]; · iexact S2
    isplitl [S3]; · (iexists f3; iexact S3)
    isplitl [S4]; · (iexists f4; iexact S4)
    iexists f5; iexact S5
  isplitl [Hr]; · iexact Hr
  isplitl [C0 C1 C2]
  · isplitl [C0]; · iexact C0
    isplitl [C1]; · iexact C1
    iexact C2
  iexact HT

/-! ## The run -/

set_option backward.isDefEq.respectTransparency.types false in
set_option maxHeartbeats 800000 in
/-- The whole program runs, its arrays ending as the proof data name them and every semaphore at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmainD m Variants.none) (hA := A_eq m) (hin := hin m) (hout := hout m)

/-- The arguments at a final state. -/
abbrev Kept (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)

set_option maxHeartbeats 1260000 in
/-- Every argument ends as it started. -/
theorem kept {r} (h : Pipeline.FramePost cfgs (dats m) 0 (Pipeline.afterTail₀ cfgs (dats m) 0 (V0 m) [hostOps1]) r) (c : Dev nD) : Kept m r c :=
  ⟨((h c).2 main_arg0 (Pipeline.mem_restRefs_of main_arg0 (by decide) (by decide))).trans ((tail_of m (dats m) c main_arg0 (by decide) (by decide)).trans (V_main_arg0 m c)),
    ((h c).2 main_arg1 (Pipeline.mem_restRefs_of main_arg1 (by decide) (by decide))).trans ((tail_of m (dats m) c main_arg1 (by decide) (by decide)).trans (V_main_arg1 m c)),
    ((h c).2 main_arg2 (Pipeline.mem_restRefs_of main_arg2 (by decide) (by decide))).trans ((tail_of m (dats m) c main_arg2 (by decide) (by decide)).trans (V_main_arg2 m c)),
    ((h c).2 main_arg3 (Pipeline.mem_restRefs_of main_arg3 (by decide) (by decide))).trans ((tail_of m (dats m) c main_arg3 (by decide) (by decide)).trans (V_main_arg3 m c)),
    ((h c).2 main_arg4 (Pipeline.mem_restRefs_of main_arg4 (by decide) (by decide))).trans ((tail_of m (dats m) c main_arg4 (by decide) (by decide)).trans (V_main_arg4 m c)),
    ((h c).1 2).trans (((dats m 0 c).arrAt_in 2 rfl _).trans ((A_eq m c 2).trans (V_main_arg5 m c))),
    ((h c).2 main_arg6 (Pipeline.mem_restRefs_of main_arg6 (by decide) (by decide))).trans ((tail_of m (dats m) c main_arg6 (by decide) (by decide)).trans (V_main_arg6 m c)),
    ((h c).1 4).trans (((dats m 0 c).arrAt_in 4 rfl _).trans ((A_eq m c 4).trans (V_main_arg7 m c))),
    ((h c).2 main_arg8 (Pipeline.mem_restRefs_of main_arg8 (by decide) (by decide))).trans ((tail_of m (dats m) c main_arg8 (by decide) (by decide)).trans (V_main_arg8 m c)),
    ((h c).1 6).trans (((dats m 0 c).arrAt_in 6 rfl _).trans ((A_eq m c 6).trans (V_main_arg9 m c))),
    ((h c).2 main_arg10 (Pipeline.mem_restRefs_of main_arg10 (by decide) (by decide))).trans ((tail_of m (dats m) c main_arg10 (by decide) (by decide)).trans (V_main_arg10 m c)),
    ((h c).1 8).trans (((dats m 0 c).arrAt_in 8 rfl _).trans ((A_eq m c 8).trans (V_main_arg11 m c))),
    ((h c).2 main_arg12 (Pipeline.mem_restRefs_of main_arg12 (by decide) (by decide))).trans ((tail_of m (dats m) c main_arg12 (by decide) (by decide)).trans (V_main_arg12 m c)),
    ((h c).1 10).trans (((dats m 0 c).arrAt_in 10 rfl _).trans ((A_eq m c 10).trans (V_main_arg13 m c))),
    ((h c).2 main_arg14 (Pipeline.mem_restRefs_of main_arg14 (by decide) (by decide))).trans ((tail_of m (dats m) c main_arg14 (by decide) (by decide)).trans (V_main_arg14 m c)),
    ((h c).1 12).trans (((dats m 0 c).arrAt_in 12 rfl _).trans ((A_eq m c 12).trans (V_main_arg15 m c))),
    ((h c).2 main_arg16 (Pipeline.mem_restRefs_of main_arg16 (by decide) (by decide))).trans ((tail_of m (dats m) c main_arg16 (by decide) (by decide)).trans (V_main_arg16 m c)),
    ((h c).1 14).trans (((dats m 0 c).arrAt_in 14 rfl _).trans ((A_eq m c 14).trans (V_main_arg17 m c))),
    ((h c).2 main_arg18 (Pipeline.mem_restRefs_of main_arg18 (by decide) (by decide))).trans ((tail_of m (dats m) c main_arg18 (by decide) (by decide)).trans (V_main_arg18 m c)),
    ((h c).2 main_arg19 (Pipeline.mem_restRefs_of main_arg19 (by decide) (by decide))).trans ((tail_of m (dats m) c main_arg19 (by decide) (by decide)).trans (V_main_arg19 m c)),
    ((h c).2 main_arg20 (Pipeline.mem_restRefs_of main_arg20 (by decide) (by decide))).trans ((tail_of m (dats m) c main_arg20 (by decide) (by decide)).trans (V_main_arg20 m c))⟩

/-- The frame: the program runs, its arguments end unchanged, every semaphore is at zero again. -/
theorem frame : θ_run defs (onTc (τ := τ) (main (F := F))) ⟨m, fun _ => 0, ρ⟩ (fun r => (∀ c : Dev nD, Kept m r c) ∧ r.2.sem = fun _ => 0) :=
  (θ_run defs _ _).mono (fun _ h => ⟨kept m h.1, h.2⟩) (run_main m ρ)

end Cert.KernelIdeal.Dma

end
-- ==== Proof.Ref.Run.lean ====
/- The reference's run: its operations in order, in eight stretches, what each stretch leaves, and the run of the whole. -/
module

public import proofs.«01_k».proof.Proof.Gen.ReferenceIdeal
public import Idealize.ShloMosaic.Adequacy
public import Idealize.ShloMosaic.Init
public import Idealize.ShloMosaic.Lib.Quiescent
public import Idealize.ShloMosaic.Lib.StableHlo.Run

@[expose] public section

set_option maxRecDepth 16384

noncomputable section

namespace Cert.ReferenceIdeal.Straight

open Cert.ReferenceIdeal Cert.ReferenceIdeal.Gen
open Idealize.ShloMosaic Idealize.ShloMosaic.TcCoe Idealize.ShloMosaic.StableHlo Idealize.SL.Sem

variable {F : FTy → Type} [FloatOps F]

/-! ## The operations -/

/-- The mask as floats, the keys of the entities and the zero vectors. -/
def opsKeys : List (HloOp τ sig (Elt F)) :=
  [ unary main_arg1 main_v0 (noti : (⟨S16384, .i1⟩ : BufTy).Contents (Elt F) → (⟨S16384, .i1⟩ : BufTy).Contents (Elt F)),
    unary main_v0 main_v1 (uitofp .f32 : (⟨S16384, .i1⟩ : BufTy).Contents (Elt F) → (⟨S16384, .f32⟩ : BufTy).Contents (Elt F)),
    unary main_arg5 main_v2 ((transpose S256x32 [1, 0] · transposes_S32x256_S256x32_1_0) : (⟨S32x256, .f32⟩ : BufTy).Contents (Elt F) → (⟨S256x32, .f32⟩ : BufTy).Contents (Elt F)),
    binary main_arg2 main_v2 main_v3 ((fun l r => Host.dotGeneral dot_S16384x256_S256x32_S16384x32_1_0_0_1_n_n none l r) : (⟨S16384x256, .f32⟩ : BufTy).Contents (Elt F) → (⟨S256x32, .f32⟩ : BufTy).Contents (Elt F) → (⟨S16384x32, .f32⟩ : BufTy).Contents (Elt F)),
    unary main_arg6 main_v4 (broadcastInDim S1x32 ![1] bcast_S32_S1x32_1 : (⟨S32, .f32⟩ : BufTy).Contents (Elt F) → (⟨S1x32, .f32⟩ : BufTy).Contents (Elt F)),
    unary main_v4 main_v5 (broadcastInDim S16384x32 ![0, 1] bcast_S1x32_S16384x32_0_1 : (⟨S1x32, .f32⟩ : BufTy).Contents (Elt F) → (⟨S16384x32, .f32⟩ : BufTy).Contents (Elt F)),
    binary main_v3 main_v5 main_v6 (addf : (⟨S16384x32, .f32⟩ : BufTy).Contents (Elt F) → (⟨S16384x32, .f32⟩ : BufTy).Contents (Elt F) → (⟨S16384x32, .f32⟩ : BufTy).Contents (Elt F)),
    unary main_v6 main_v7 ((transpose S32x16384 [1, 0] · transposes_S16384x32_S32x16384_1_0) : (⟨S16384x32, .f32⟩ : BufTy).Contents (Elt F) → (⟨S32x16384, .f32⟩ : BufTy).Contents (Elt F)),
    nullary main_cst (constant S_ .f32 0x00000000#32),
    unary main_cst main_v8 (broadcastInDim S32 ![] bcast_S_S32 : (⟨S_, .f32⟩ : BufTy).Contents (Elt F) → (⟨S32, .f32⟩ : BufTy).Contents (Elt F)),
    nullary main_cst_0 (constant S_ .f32 0x00000000#32),
    unary main_cst_0 main_v9 (broadcastInDim S32 ![] bcast_S_S32 : (⟨S_, .f32⟩ : BufTy).Contents (Elt F) → (⟨S32, .f32⟩ : BufTy).Contents (Elt F)),
    nullary main_cst_1 (constant S_ .f32 0x00000000#32),
    unary main_cst_1 main_v10 (broadcastInDim S16384 ![] bcast_S_S16384 : (⟨S_, .f32⟩ : BufTy).Contents (Elt F) → (⟨S16384, .f32⟩ : BufTy).Contents (Elt F)) ]

/-- The operations of the stage `Keys` touch only the reference's own buffers. -/
theorem opsKeys_sub : (opsKeys : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., unary_bufs_sub .., nullary_bufs_sub .., unary_bufs_sub .., nullary_bufs_sub .., unary_bufs_sub .., nullary_bufs_sub .., unary_bufs_sub ..⟩

/-- The two linear layers and their concatenation with the zeros. -/
def opsX : List (HloOp τ sig (Elt F)) :=
  [ unary main_arg7 main_v11 ((transpose S1024x256 [1, 0] · transposes_S256x1024_S1024x256_1_0) : (⟨S256x1024, .f32⟩ : BufTy).Contents (Elt F) → (⟨S1024x256, .f32⟩ : BufTy).Contents (Elt F)),
    binary main_arg3 main_v11 main_v12 ((fun l r => Host.dotGeneral dot_S1024_S1024x256_S256_0_0_n_1_n_n none l r) : (⟨S1024, .f32⟩ : BufTy).Contents (Elt F) → (⟨S1024x256, .f32⟩ : BufTy).Contents (Elt F) → (⟨S256, .f32⟩ : BufTy).Contents (Elt F)),
    binary main_v12 main_arg8 main_v13 (addf : (⟨S256, .f32⟩ : BufTy).Contents (Elt F) → (⟨S256, .f32⟩ : BufTy).Contents (Elt F) → (⟨S256, .f32⟩ : BufTy).Contents (Elt F)),
    TRef.nullary main_call0.cst (constant S_ .f32 0x00000000#32),
    TRef.unary main_call0.cst main_call0.v0 (broadcastInDim S256 ![] bcast_S_S256),
    TRef.binary (.of main_v13) main_call0.v0 main_call0.v1 maximumf,
    unary main_arg9 main_v15 ((transpose S256x32 [1, 0] · transposes_S32x256_S256x32_1_0) : (⟨S32x256, .f32⟩ : BufTy).Contents (Elt F) → (⟨S256x32, .f32⟩ : BufTy).Contents (Elt F)),
    binary main_v14 main_v15 main_v16 ((fun l r => Host.dotGeneral dot_S256_S256x32_S32_0_0_n_1_n_n none l r) : (⟨S256, .f32⟩ : BufTy).Contents (Elt F) → (⟨S256x32, .f32⟩ : BufTy).Contents (Elt F) → (⟨S32, .f32⟩ : BufTy).Contents (Elt F)),
    binary main_v16 main_arg10 main_v17 (addf : (⟨S32, .f32⟩ : BufTy).Contents (Elt F) → (⟨S32, .f32⟩ : BufTy).Contents (Elt F) → (⟨S32, .f32⟩ : BufTy).Contents (Elt F)),
    TRef.nullary main_call1.cst (constant S_ .f32 0x00000000#32),
    TRef.unary main_call1.cst main_call1.v0 (broadcastInDim S32 ![] bcast_S_S32),
    TRef.binary (.of main_v17) main_call1.v0 main_call1.v1 maximumf,
    binary main_v18 main_v9 main_v19 ((fun a b => concatenate S64 0 [⟨S32, a⟩, ⟨S32, b⟩] concatenates_S32_S32_S64_d0) : (⟨S32, .f32⟩ : BufTy).Contents (Elt F) → (⟨S32, .f32⟩ : BufTy).Contents (Elt F) → (⟨S64, .f32⟩ : BufTy).Contents (Elt F)) ]

/-- The operations of the stage `X` touch only the reference's own buffers. -/
theorem opsX_sub : (opsX : List (HloOp τ sig (Elt F))).Forall fun op => op.bufs ⊆ tcRefs τ sig :=
  ⟨unary_bufs_sub .., binary_bufs_sub .., binary_bufs_sub .., nullary_bufs_sub .., unary_bufs_sub .., binary_bufs_sub .., unary_bufs_sub .., binary_bufs_sub .., binary_bufs_sub .., nullary_bufs_sub .., unary_bufs_sub .., binary_bufs_sub .., binary_bufs_sub ..⟩

/-- The forget gate times the hidden state. -/
def opsForget : List (HloOp τ sig (Elt F)) :=
  [ unary main_arg11 main_v20 ((transpose S64x32 [1, 0] · transposes_S32x64_S64x32_1_0) : (⟨S32x64, .f32⟩ : BufTy).Contents (Elt F) → (⟨S64x32, .f32⟩ : BufTy).Contents (Elt F)),
    binary main_v19 main_v20 main_v21 ((fun l r => Host.dotGeneral dot_S64_S64x32_S32_0_0_n_1_n_n none l r) : (⟨S64, .f32⟩ : BufTy).Contents (Elt F) → (⟨S64x32, .f32⟩ : BufTy).Contents (Elt F) → (⟨S32, .f32⟩ : BufTy).Contents (Elt F)),
    binary main_v21 main_arg12 main_v22 (addf : (⟨S32, .f32⟩ : BufTy).Contents (Elt F) → (⟨S32, .f32⟩ : BufTy).Contents (Elt F) → (⟨S32, .f32⟩ : BufTy).Contents (Elt F)),
    unary main_v22 main_v23 (Host.negf : (⟨S32, .f32⟩ : BufTy).Contents (Elt F) → (⟨S32, .f32⟩ : BufTy).Contents (Elt F)),
    unary main_v23 main_v24 (Host.exp : (⟨S32, .f32⟩ : BufTy).Contents (Elt F) → (⟨S32, .f32⟩ : BufTy).Contents (Elt F)),
    nullary main_cst_2 (constant S_ .f32 0x3F800000#32),
    unary main_cst_2 main_v25 (broadcastInDim S32 ![] bcast_S_S32 : (⟨S_, .f32⟩ : BufTy).Contents (Elt F) → (⟨S32, .f32⟩ : BufTy).Contents (Elt F)),
    binary main_v25 main_v24 main_v26 (addf : (⟨S32, .f32⟩ : BufTy).Contents (Elt F) → (⟨S32, .f32⟩ : BufTy).Contents (Elt F) → (⟨S32, .f32⟩ : BufTy).Contents (Elt F)),
    nullary main_cst_3 (constant S_ .f32 0x3F800000#32),
    unary main_cst_3 main_v27 (broadcastInDim S32 ![] bcast_S_S32 : (⟨S_, .f32⟩ : BufTy).Contents (Elt F) → (⟨S32, .f32⟩ : BufTy).Contents (Elt F)),
    binary main_v27 main_v26 main_v28 (Host.divf : (⟨S32, .f32⟩ : BufTy).Contents (Elt F) → (⟨S32, .f32⟩ : BufTy).Contents (Elt F) → (⟨S32, .f32⟩ : BufTy).Contents (Elt F)),
    nullary main_cst_4 (constant S_ .f32 0x00000000#32),
    binary main_v28 main_cst_4 main_v29 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_5 (constant S_ .f32 0x42000000#32),
    binary main_v29 main_cst_5 main_v30 (Host.divf : (⟨S_, .f32⟩ : BufTy).Contents (Elt F) → (⟨S_, .f32⟩ : BufTy).Contents (Elt F) → (⟨S_, .f32⟩ : BufTy).Contents (Elt F)),
    unary main_v30 main_v31 (broadcastInDim S32 ![] bcast_S_S32 : (⟨S_, .f32⟩ : BufTy).Contents (Elt F) → (⟨S32, .f32⟩ : BufTy).Contents (Elt F)),
    binary main_v28 main_v31 main_v32 (subf : (⟨S32, .f32⟩ : BufTy).Contents (Elt F) → (⟨S32, .f32⟩ : BufTy).Contents (Elt F) → (⟨S32, .f32⟩ : BufTy).Contents (Elt F)),
    binary main_v32 main_v32 main_v33 (mulf : (⟨S32, .f32⟩ : BufTy).Contents (Elt F) → (⟨S32, .f32⟩ : BufTy).Contents (Elt F) → (⟨S32, .f32⟩ : BufTy).Contents (Elt F)),
    nullary main_cst_6 (constant S_ .f32 0x00000000#32),
    binary main_v33 main_cst_6 main_v34 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_7 (constant S_ .f32 0x42000000#32),
    binary main_v34 main_cst_7 main_v35 (Host.divf : (⟨S_, .f32⟩ : BufTy).Contents (Elt F) → (⟨S_, .f32⟩ : BufTy).Contents (Elt F) → (⟨S_, .f32⟩ : BufTy).Contents (Elt F)),
    unary main_v30 main_v36 (broadcastInDim S32 ![] bcast_S_S32 : (⟨S_, .f32⟩ : BufTy).Contents (Elt F) → (⟨S32, .f32⟩ : BufTy).Contents (Elt F)),
    binary main_v28 main_v36 main_v37 (subf : (⟨S32, .f32⟩ : BufTy).Contents (Elt F) → (⟨S32, .f32⟩ : BufTy).Contents (Elt F) → (⟨S32, .f32⟩ : BufTy).Contents (Elt F)),
    nullary main_cst_8 (constant S_ .f32 0x3727C5AC#32),
    binary main_v35 main_cst_8 main_v38 (addf : (⟨S_, .f32⟩ : BufTy).Contents (Elt F) → (⟨S_, .f32⟩ : BufTy).Contents (Elt F) → (⟨S_, .f32⟩ : BufTy).Contents (Elt F)),
    unary main_v38 main_v39 (Host.sqrt : (⟨S_, .f32⟩ : BufTy).Contents (Elt F) → (⟨S_, .f32⟩ : BufTy).Contents (Elt F)),
    unary main_v39 main_v40 (broadcastInDim S32 ![] bcast_S_S32 : (⟨S_, .f32⟩ : BufTy).Contents (Elt F) → (⟨S32, .f32⟩ : BufTy).Contents (Elt F)),
    binary main_v37 main_v40 main_v41 (Host.divf : (⟨S32, .f32⟩ : BufTy).Contents (Elt F) → (⟨S32, .f32⟩ : BufTy).Contents (Elt F) → (⟨S32, .f32⟩ : BufTy).Contents (Elt F)),
    binary main_v41 main_arg19 main_v42 (mulf : (⟨S32, .f32⟩ : BufTy).Contents (Elt F) → (⟨S32, .f32⟩ : BufTy).Contents (Elt F) → (⟨S32, .f32⟩ : BufTy).Contents (Elt F)),
    binary main_v42 main_arg20 main_v43 (addf : (⟨S32, .f32⟩ : BufTy).Contents (Elt F) → (⟨S32, .f32⟩ : BufTy).Contents (Elt F) → (⟨S32, .f32⟩ : BufTy).Contents (Elt F)),
    binary main_v43 main_v8 main_v44 (mulf : (⟨S32, .f32⟩ : BufTy).Contents (Elt F) → (⟨S32, .f32⟩ : BufTy).Contents (Elt F) → (⟨S32, .f32⟩ : BufTy).Contents (Elt F)) ]

/-- The operations of the stage `Forget` touch only the reference's own buffers. -/
theorem opsForget_sub : (opsForget : List (HloOp τ sig (Elt F))).Forall fun op => op.bufs ⊆ tcRefs τ sig :=
  ⟨unary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., binary_bufs_sub .., nullary_bufs_sub .., binary_bufs_sub .., unary_bufs_sub .., binary_bufs_sub .., binary_bufs_sub .., nullary_bufs_sub .., binary_bufs_sub .., nullary_bufs_sub .., binary_bufs_sub .., unary_bufs_sub .., binary_bufs_sub .., nullary_bufs_sub .., binary_bufs_sub .., unary_bufs_sub .., unary_bufs_sub .., binary_bufs_sub .., binary_bufs_sub .., binary_bufs_sub .., binary_bufs_sub ..⟩

/-- The remember gate, the new hidden state and its tanh. -/
def opsHidden : List (HloOp τ sig (Elt F)) :=
  [ unary main_arg13 main_v45 ((transpose S64x32 [1, 0] · transposes_S32x64_S64x32_1_0) : (⟨S32x64, .f32⟩ : BufTy).Contents (Elt F) → (⟨S64x32, .f32⟩ : BufTy).Contents (Elt F)),
    binary main_v19 main_v45 main_v46 ((fun l r => Host.dotGeneral dot_S64_S64x32_S32_0_0_n_1_n_n none l r) : (⟨S64, .f32⟩ : BufTy).Contents (Elt F) → (⟨S64x32, .f32⟩ : BufTy).Contents (Elt F) → (⟨S32, .f32⟩ : BufTy).Contents (Elt F)),
    binary main_v46 main_arg14 main_v47 (addf : (⟨S32, .f32⟩ : BufTy).Contents (Elt F) → (⟨S32, .f32⟩ : BufTy).Contents (Elt F) → (⟨S32, .f32⟩ : BufTy).Contents (Elt F)),
    unary main_v47 main_v48 (Host.negf : (⟨S32, .f32⟩ : BufTy).Contents (Elt F) → (⟨S32, .f32⟩ : BufTy).Contents (Elt F)),
    unary main_v48 main_v49 (Host.exp : (⟨S32, .f32⟩ : BufTy).Contents (Elt F) → (⟨S32, .f32⟩ : BufTy).Contents (Elt F)),
    nullary main_cst_9 (constant S_ .f32 0x3F800000#32),
    unary main_cst_9 main_v50 (broadcastInDim S32 ![] bcast_S_S32 : (⟨S_, .f32⟩ : BufTy).Contents (Elt F) → (⟨S32, .f32⟩ : BufTy).Contents (Elt F)),
    binary main_v50 main_v49 main_v51 (addf : (⟨S32, .f32⟩ : BufTy).Contents (Elt F) → (⟨S32, .f32⟩ : BufTy).Contents (Elt F) → (⟨S32, .f32⟩ : BufTy).Contents (Elt F)),
    nullary main_cst_10 (constant S_ .f32 0x3F800000#32),
    unary main_cst_10 main_v52 (broadcastInDim S32 ![] bcast_S_S32 : (⟨S_, .f32⟩ : BufTy).Contents (Elt F) → (⟨S32, .f32⟩ : BufTy).Contents (Elt F)),
    binary main_v52 main_v51 main_v53 (Host.divf : (⟨S32, .f32⟩ : BufTy).Contents (Elt F) → (⟨S32, .f32⟩ : BufTy).Contents (Elt F) → (⟨S32, .f32⟩ : BufTy).Contents (Elt F)),
    unary main_arg15 main_v54 ((transpose S64x32 [1, 0] · transposes_S32x64_S64x32_1_0) : (⟨S32x64, .f32⟩ : BufTy).Contents (Elt F) → (⟨S64x32, .f32⟩ : BufTy).Contents (Elt F)),
    binary main_v19 main_v54 main_v55 ((fun l r => Host.dotGeneral dot_S64_S64x32_S32_0_0_n_1_n_n none l r) : (⟨S64, .f32⟩ : BufTy).Contents (Elt F) → (⟨S64x32, .f32⟩ : BufTy).Contents (Elt F) → (⟨S32, .f32⟩ : BufTy).Contents (Elt F)),
    binary main_v55 main_arg16 main_v56 (addf : (⟨S32, .f32⟩ : BufTy).Contents (Elt F) → (⟨S32, .f32⟩ : BufTy).Contents (Elt F) → (⟨S32, .f32⟩ : BufTy).Contents (Elt F)),
    unary main_v56 main_v57 (Host.tanh : (⟨S32, .f32⟩ : BufTy).Contents (Elt F) → (⟨S32, .f32⟩ : BufTy).Contents (Elt F)),
    binary main_v53 main_v57 main_v58 (mulf : (⟨S32, .f32⟩ : BufTy).Contents (Elt F) → (⟨S32, .f32⟩ : BufTy).Contents (Elt F) → (⟨S32, .f32⟩ : BufTy).Contents (Elt F)),
    nullary main_cst_11 (constant S_ .f32 0x00000000#32),
    binary main_v58 main_cst_11 main_v59 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_12 (constant S_ .f32 0x42000000#32),
    binary main_v59 main_cst_12 main_v60 (Host.divf : (⟨S_, .f32⟩ : BufTy).Contents (Elt F) → (⟨S_, .f32⟩ : BufTy).Contents (Elt F) → (⟨S_, .f32⟩ : BufTy).Contents (Elt F)),
    unary main_v60 main_v61 (broadcastInDim S32 ![] bcast_S_S32 : (⟨S_, .f32⟩ : BufTy).Contents (Elt F) → (⟨S32, .f32⟩ : BufTy).Contents (Elt F)),
    binary main_v58 main_v61 main_v62 (subf : (⟨S32, .f32⟩ : BufTy).Contents (Elt F) → (⟨S32, .f32⟩ : BufTy).Contents (Elt F) → (⟨S32, .f32⟩ : BufTy).Contents (Elt F)),
    binary main_v62 main_v62 main_v63 (mulf : (⟨S32, .f32⟩ : BufTy).Contents (Elt F) → (⟨S32, .f32⟩ : BufTy).Contents (Elt F) → (⟨S32, .f32⟩ : BufTy).Contents (Elt F)),
    nullary main_cst_13 (constant S_ .f32 0x00000000#32),
    binary main_v63 main_cst_13 main_v64 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_14 (constant S_ .f32 0x42000000#32),
    binary main_v64 main_cst_14 main_v65 (Host.divf : (⟨S_, .f32⟩ : BufTy).Contents (Elt F) → (⟨S_, .f32⟩ : BufTy).Contents (Elt F) → (⟨S_, .f32⟩ : BufTy).Contents (Elt F)),
    unary main_v60 main_v66 (broadcastInDim S32 ![] bcast_S_S32 : (⟨S_, .f32⟩ : BufTy).Contents (Elt F) → (⟨S32, .f32⟩ : BufTy).Contents (Elt F)),
    binary main_v58 main_v66 main_v67 (subf : (⟨S32, .f32⟩ : BufTy).Contents (Elt F) → (⟨S32, .f32⟩ : BufTy).Contents (Elt F) → (⟨S32, .f32⟩ : BufTy).Contents (Elt F)),
    nullary main_cst_15 (constant S_ .f32 0x3727C5AC#32),
    binary main_v65 main_cst_15 main_v68 (addf : (⟨S_, .f32⟩ : BufTy).Contents (Elt F) → (⟨S_, .f32⟩ : BufTy).Contents (Elt F) → (⟨S_, .f32⟩ : BufTy).Contents (Elt F)),
    unary main_v68 main_v69 (Host.sqrt : (⟨S_, .f32⟩ : BufTy).Contents (Elt F) → (⟨S_, .f32⟩ : BufTy).Contents (Elt F)),
    unary main_v69 main_v70 (broadcastInDim S32 ![] bcast_S_S32 : (⟨S_, .f32⟩ : BufTy).Contents (Elt F) → (⟨S32, .f32⟩ : BufTy).Contents (Elt F)),
    binary main_v67 main_v70 main_v71 (Host.divf : (⟨S32, .f32⟩ : BufTy).Contents (Elt F) → (⟨S32, .f32⟩ : BufTy).Contents (Elt F) → (⟨S32, .f32⟩ : BufTy).Contents (Elt F)),
    binary main_v71 main_arg19 main_v72 (mulf : (⟨S32, .f32⟩ : BufTy).Contents (Elt F) → (⟨S32, .f32⟩ : BufTy).Contents (Elt F) → (⟨S32, .f32⟩ : BufTy).Contents (Elt F)),
    binary main_v72 main_arg20 main_v73 (addf : (⟨S32, .f32⟩ : BufTy).Contents (Elt F) → (⟨S32, .f32⟩ : BufTy).Contents (Elt F) → (⟨S32, .f32⟩ : BufTy).Contents (Elt F)),
    binary main_v73 main_v44 main_v74 (addf : (⟨S32, .f32⟩ : BufTy).Contents (Elt F) → (⟨S32, .f32⟩ : BufTy).Contents (Elt F) → (⟨S32, .f32⟩ : BufTy).Contents (Elt F)),
    unary main_v74 main_v75 (Host.tanh : (⟨S32, .f32⟩ : BufTy).Contents (Elt F) → (⟨S32, .f32⟩ : BufTy).Contents (Elt F)) ]

/-- The operations of the stage `Hidden` touch only the reference's own buffers. -/
theorem opsHidden_sub : (opsHidden : List (HloOp τ sig (Elt F))).Forall fun op => op.bufs ⊆ tcRefs τ sig :=
  ⟨unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., binary_bufs_sub .., nullary_bufs_sub .., binary_bufs_sub .., nullary_bufs_sub .., binary_bufs_sub .., unary_bufs_sub .., binary_bufs_sub .., binary_bufs_sub .., nullary_bufs_sub .., binary_bufs_sub .., nullary_bufs_sub .., binary_bufs_sub .., unary_bufs_sub .., binary_bufs_sub .., nullary_bufs_sub .., binary_bufs_sub .., unary_bufs_sub .., unary_bufs_sub .., binary_bufs_sub .., binary_bufs_sub .., binary_bufs_sub .., binary_bufs_sub .., unary_bufs_sub ..⟩

/-- The output gate and the query. -/
def opsQuery : List (HloOp τ sig (Elt F)) :=
  [ unary main_arg17 main_v76 ((transpose S64x32 [1, 0] · transposes_S32x64_S64x32_1_0) : (⟨S32x64, .f32⟩ : BufTy).Contents (Elt F) → (⟨S64x32, .f32⟩ : BufTy).Contents (Elt F)),
    binary main_v19 main_v76 main_v77 ((fun l r => Host.dotGeneral dot_S64_S64x32_S32_0_0_n_1_n_n none l r) : (⟨S64, .f32⟩ : BufTy).Contents (Elt F) → (⟨S64x32, .f32⟩ : BufTy).Contents (Elt F) → (⟨S32, .f32⟩ : BufTy).Contents (Elt F)),
    binary main_v77 main_arg18 main_v78 (addf : (⟨S32, .f32⟩ : BufTy).Contents (Elt F) → (⟨S32, .f32⟩ : BufTy).Contents (Elt F) → (⟨S32, .f32⟩ : BufTy).Contents (Elt F)),
    unary main_v78 main_v79 (Host.negf : (⟨S32, .f32⟩ : BufTy).Contents (Elt F) → (⟨S32, .f32⟩ : BufTy).Contents (Elt F)),
    unary main_v79 main_v80 (Host.exp : (⟨S32, .f32⟩ : BufTy).Contents (Elt F) → (⟨S32, .f32⟩ : BufTy).Contents (Elt F)),
    nullary main_cst_16 (constant S_ .f32 0x3F800000#32),
    unary main_cst_16 main_v81 (broadcastInDim S32 ![] bcast_S_S32 : (⟨S_, .f32⟩ : BufTy).Contents (Elt F) → (⟨S32, .f32⟩ : BufTy).Contents (Elt F)),
    binary main_v81 main_v80 main_v82 (addf : (⟨S32, .f32⟩ : BufTy).Contents (Elt F) → (⟨S32, .f32⟩ : BufTy).Contents (Elt F) → (⟨S32, .f32⟩ : BufTy).Contents (Elt F)),
    nullary main_cst_17 (constant S_ .f32 0x3F800000#32),
    unary main_cst_17 main_v83 (broadcastInDim S32 ![] bcast_S_S32 : (⟨S_, .f32⟩ : BufTy).Contents (Elt F) → (⟨S32, .f32⟩ : BufTy).Contents (Elt F)),
    binary main_v83 main_v82 main_v84 (Host.divf : (⟨S32, .f32⟩ : BufTy).Contents (Elt F) → (⟨S32, .f32⟩ : BufTy).Contents (Elt F) → (⟨S32, .f32⟩ : BufTy).Contents (Elt F)),
    nullary main_cst_18 (constant S_ .f32 0x00000000#32),
    binary main_v84 main_cst_18 main_v85 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_19 (constant S_ .f32 0x42000000#32),
    binary main_v85 main_cst_19 main_v86 (Host.divf : (⟨S_, .f32⟩ : BufTy).Contents (Elt F) → (⟨S_, .f32⟩ : BufTy).Contents (Elt F) → (⟨S_, .f32⟩ : BufTy).Contents (Elt F)),
    unary main_v86 main_v87 (broadcastInDim S32 ![] bcast_S_S32 : (⟨S_, .f32⟩ : BufTy).Contents (Elt F) → (⟨S32, .f32⟩ : BufTy).Contents (Elt F)),
    binary main_v84 main_v87 main_v88 (subf : (⟨S32, .f32⟩ : BufTy).Contents (Elt F) → (⟨S32, .f32⟩ : BufTy).Contents (Elt F) → (⟨S32, .f32⟩ : BufTy).Contents (Elt F)),
    binary main_v88 main_v88 main_v89 (mulf : (⟨S32, .f32⟩ : BufTy).Contents (Elt F) → (⟨S32, .f32⟩ : BufTy).Contents (Elt F) → (⟨S32, .f32⟩ : BufTy).Contents (Elt F)),
    nullary main_cst_20 (constant S_ .f32 0x00000000#32),
    binary main_v89 main_cst_20 main_v90 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_21 (constant S_ .f32 0x42000000#32),
    binary main_v90 main_cst_21 main_v91 (Host.divf : (⟨S_, .f32⟩ : BufTy).Contents (Elt F) → (⟨S_, .f32⟩ : BufTy).Contents (Elt F) → (⟨S_, .f32⟩ : BufTy).Contents (Elt F)),
    unary main_v86 main_v92 (broadcastInDim S32 ![] bcast_S_S32 : (⟨S_, .f32⟩ : BufTy).Contents (Elt F) → (⟨S32, .f32⟩ : BufTy).Contents (Elt F)),
    binary main_v84 main_v92 main_v93 (subf : (⟨S32, .f32⟩ : BufTy).Contents (Elt F) → (⟨S32, .f32⟩ : BufTy).Contents (Elt F) → (⟨S32, .f32⟩ : BufTy).Contents (Elt F)),
    nullary main_cst_22 (constant S_ .f32 0x3727C5AC#32),
    binary main_v91 main_cst_22 main_v94 (addf : (⟨S_, .f32⟩ : BufTy).Contents (Elt F) → (⟨S_, .f32⟩ : BufTy).Contents (Elt F) → (⟨S_, .f32⟩ : BufTy).Contents (Elt F)),
    unary main_v94 main_v95 (Host.sqrt : (⟨S_, .f32⟩ : BufTy).Contents (Elt F) → (⟨S_, .f32⟩ : BufTy).Contents (Elt F)),
    unary main_v95 main_v96 (broadcastInDim S32 ![] bcast_S_S32 : (⟨S_, .f32⟩ : BufTy).Contents (Elt F) → (⟨S32, .f32⟩ : BufTy).Contents (Elt F)),
    binary main_v93 main_v96 main_v97 (Host.divf : (⟨S32, .f32⟩ : BufTy).Contents (Elt F) → (⟨S32, .f32⟩ : BufTy).Contents (Elt F) → (⟨S32, .f32⟩ : BufTy).Contents (Elt F)),
    binary main_v97 main_arg19 main_v98 (mulf : (⟨S32, .f32⟩ : BufTy).Contents (Elt F) → (⟨S32, .f32⟩ : BufTy).Contents (Elt F) → (⟨S32, .f32⟩ : BufTy).Contents (Elt F)),
    binary main_v98 main_arg20 main_v99 (addf : (⟨S32, .f32⟩ : BufTy).Contents (Elt F) → (⟨S32, .f32⟩ : BufTy).Contents (Elt F) → (⟨S32, .f32⟩ : BufTy).Contents (Elt F)),
    binary main_v75 main_v99 main_v100 (mulf : (⟨S32, .f32⟩ : BufTy).Contents (Elt F) → (⟨S32, .f32⟩ : BufTy).Contents (Elt F) → (⟨S32, .f32⟩ : BufTy).Contents (Elt F)) ]

/-- The operations of the stage `Query` touch only the reference's own buffers. -/
theorem opsQuery_sub : (opsQuery : List (HloOp τ sig (Elt F))).Forall fun op => op.bufs ⊆ tcRefs τ sig :=
  ⟨unary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., binary_bufs_sub .., nullary_bufs_sub .., binary_bufs_sub .., unary_bufs_sub .., binary_bufs_sub .., binary_bufs_sub .., nullary_bufs_sub .., binary_bufs_sub .., nullary_bufs_sub .., binary_bufs_sub .., unary_bufs_sub .., binary_bufs_sub .., nullary_bufs_sub .., binary_bufs_sub .., unary_bufs_sub .., unary_bufs_sub .., binary_bufs_sub .., binary_bufs_sub .., binary_bufs_sub .., binary_bufs_sub ..⟩

/-- The similarities and the weights. -/
def opsWeight : List (HloOp τ sig (Elt F)) :=
  [ unary main_v100 main_v101 (broadcastInDim S1x32 ![1] bcast_S32_S1x32_1 : (⟨S32, .f32⟩ : BufTy).Contents (Elt F) → (⟨S1x32, .f32⟩ : BufTy).Contents (Elt F)),
    binary main_v101 main_v7 main_v102 ((fun l r => Host.dotGeneral dot_S1x32_S32x16384_S1x16384_1_0_0_1_n_n none l r) : (⟨S1x32, .f32⟩ : BufTy).Contents (Elt F) → (⟨S32x16384, .f32⟩ : BufTy).Contents (Elt F) → (⟨S1x16384, .f32⟩ : BufTy).Contents (Elt F)),
    unary main_v102 main_v103 (Host.negf : (⟨S1x16384, .f32⟩ : BufTy).Contents (Elt F) → (⟨S1x16384, .f32⟩ : BufTy).Contents (Elt F)),
    unary main_v103 main_v104 (Host.exp : (⟨S1x16384, .f32⟩ : BufTy).Contents (Elt F) → (⟨S1x16384, .f32⟩ : BufTy).Contents (Elt F)),
    nullary main_cst_23 (constant S_ .f32 0x3F800000#32),
    unary main_cst_23 main_v105 (broadcastInDim S1x16384 ![] bcast_S_S1x16384 : (⟨S_, .f32⟩ : BufTy).Contents (Elt F) → (⟨S1x16384, .f32⟩ : BufTy).Contents (Elt F)),
    binary main_v105 main_v104 main_v106 (addf : (⟨S1x16384, .f32⟩ : BufTy).Contents (Elt F) → (⟨S1x16384, .f32⟩ : BufTy).Contents (Elt F) → (⟨S1x16384, .f32⟩ : BufTy).Contents (Elt F)),
    nullary main_cst_24 (constant S_ .f32 0x3F800000#32),
    unary main_cst_24 main_v107 (broadcastInDim S1x16384 ![] bcast_S_S1x16384 : (⟨S_, .f32⟩ : BufTy).Contents (Elt F) → (⟨S1x16384, .f32⟩ : BufTy).Contents (Elt F)),
    binary main_v107 main_v106 main_v108 (Host.divf : (⟨S1x16384, .f32⟩ : BufTy).Contents (Elt F) → (⟨S1x16384, .f32⟩ : BufTy).Contents (Elt F) → (⟨S1x16384, .f32⟩ : BufTy).Contents (Elt F)),
    unary main_v108 main_v109 (Host.log : (⟨S1x16384, .f32⟩ : BufTy).Contents (Elt F) → (⟨S1x16384, .f32⟩ : BufTy).Contents (Elt F)),
    nullary main_cst_25 (constant S_ .f32 0x3F4CCCCD#32),
    unary main_cst_25 main_v110 (broadcastInDim S1x16384 ![] bcast_S_S1x16384 : (⟨S_, .f32⟩ : BufTy).Contents (Elt F) → (⟨S1x16384, .f32⟩ : BufTy).Contents (Elt F)),
    binary main_v109 main_v110 main_v111 (Host.divf : (⟨S1x16384, .f32⟩ : BufTy).Contents (Elt F) → (⟨S1x16384, .f32⟩ : BufTy).Contents (Elt F) → (⟨S1x16384, .f32⟩ : BufTy).Contents (Elt F)),
    unary main_v111 main_v112 (Host.exp : (⟨S1x16384, .f32⟩ : BufTy).Contents (Elt F) → (⟨S1x16384, .f32⟩ : BufTy).Contents (Elt F)) ]

/-- The operations of the stage `Weight` touch only the reference's own buffers. -/
theorem opsWeight_sub : (opsWeight : List (HloOp τ sig (Elt F))).Forall fun op => op.bufs ⊆ tcRefs τ sig :=
  ⟨unary_bufs_sub .., binary_bufs_sub .., unary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub ..⟩

/-- The guarded weights, their sum and the normalised weights. -/
def opsUnit : List (HloOp τ sig (Elt F)) :=
  [ TRef.binary (.of main_v112) (.of main_v112) main_call2.v0 (cmpf .une),
    TRef.nullary main_call2.cst (constant S_ .f32 0x00000000#32),
    TRef.unary main_call2.cst main_call2.call0.v0 (broadcastInDim S1x16384 ![] bcast_S_S1x16384),
    TRef.ternary main_call2.v0 main_call2.call0.v0 (.of main_v112) main_call2.call0.v1 select,
    TRef.nullary main_call2.cst_0 (constant S_ .f32 0x7F800000#32),
    TRef.unary main_call2.cst_0 main_call2.v2 (broadcastInDim S1x16384 ![] bcast_S_S1x16384),
    TRef.binary main_call2.call0.v1 main_call2.v2 main_call2.v3 (cmpf .oeq),
    TRef.nullary main_call2.cst_1 (constant S_ .f32 0x7F7FFFFF#32),
    TRef.unary main_call2.cst_1 main_call2.call1.v0 (broadcastInDim S1x16384 ![] bcast_S_S1x16384),
    TRef.ternary main_call2.v3 main_call2.call1.v0 main_call2.call0.v1 main_call2.call1.v1 select,
    TRef.nullary main_call2.cst_2 (constant S_ .f32 0xFF800000#32),
    TRef.unary main_call2.cst_2 main_call2.v5 (broadcastInDim S1x16384 ![] bcast_S_S1x16384),
    TRef.binary main_call2.call1.v1 main_call2.v5 main_call2.v6 (cmpf .oeq),
    TRef.nullary main_call2.cst_3 (constant S_ .f32 0xFF7FFFFF#32),
    TRef.unary main_call2.cst_3 main_call2.call2.v0 (broadcastInDim S1x16384 ![] bcast_S_S1x16384),
    TRef.ternary main_call2.v6 main_call2.call2.v0 main_call2.call1.v1 main_call2.call2.v1 select,
    nullary main_cst_26 (constant S_ .f32 0x00000000#32),
    binary main_v113 main_cst_26 main_v114 ((fun x v => Host.reduceAdd x v reducesTo_S1x16384_S_d0_1 h_S_) : (⟨S1x16384, .f32⟩ : BufTy).Contents (Elt F) → (⟨S_, .f32⟩ : BufTy).Contents (Elt F) → (⟨S_, .f32⟩ : BufTy).Contents (Elt F)),
    nullary main_cst_27 (constant S_ .f32 0x00000000#32),
    binary main_v114 main_cst_27 main_v115 (cmpf .une : (⟨S_, .f32⟩ : BufTy).Contents (Elt F) → (⟨S_, .f32⟩ : BufTy).Contents (Elt F) → (⟨S_, .i1⟩ : BufTy).Contents (Elt F)),
    unary main_v114 main_v116 (broadcastInDim S1x16384 ![] bcast_S_S1x16384 : (⟨S_, .f32⟩ : BufTy).Contents (Elt F) → (⟨S1x16384, .f32⟩ : BufTy).Contents (Elt F)),
    binary main_v113 main_v116 main_v117 (Host.divf : (⟨S1x16384, .f32⟩ : BufTy).Contents (Elt F) → (⟨S1x16384, .f32⟩ : BufTy).Contents (Elt F) → (⟨S1x16384, .f32⟩ : BufTy).Contents (Elt F)),
    TRef.ternary (.of main_v115) (.of main_v117) (.of main_v113) main_call3.v0 (fun p a b => select (broadcastInDim S1x16384 ![] bcast_S_S1x16384 p) a b) ]

/-- The operations of the stage `Unit` touch only the reference's own buffers. -/
theorem opsUnit_sub : (opsUnit : List (HloOp τ sig (Elt F))).Forall fun op => op.bufs ⊆ tcRefs τ sig :=
  ⟨binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., binary_bufs_sub .., nullary_bufs_sub .., binary_bufs_sub .., unary_bufs_sub .., binary_bufs_sub .., ternary_bufs_sub ..⟩

/-- The pick and the selected row. -/
def opsTarget : List (HloOp τ sig (Elt F)) :=
  [ reshape main_v118 main_v119 (rfl : (.f32 : EltTy) = .f32) shapeCasts_S1x16384_S16384,
    TRef.nullary main_call4.v0 (iotaInDim S16384 32 0),
    TRef.nullary main_call4.cst (constant S_ .f32 0xFF800000#32),
    TRef.nullary main_call4.c (constantI S_ 32 0#32),
    TRef.quaternary (.of main_v119) main_call4.v0 main_call4.cst main_call4.c main_call4.v1_0 (fun x y u v j => (Host.argReduce reducer_argmax_f32_i32 x y u v reducesTo_S16384_S_d0 h_S_ j).1),
    TRef.quaternary (.of main_v119) main_call4.v0 main_call4.cst main_call4.c main_call4.v1_1 (fun x y u v j => (Host.argReduce reducer_argmax_f32_i32 x y u v reducesTo_S16384_S_d0 h_S_ j).2),
    nullary main_cst_28 (constant S_ .f32 0x00000000#32),
    unary main_cst_28 main_v121 (broadcastInDim S16384 ![] bcast_S_S16384 : (⟨S_, .f32⟩ : BufTy).Contents (Elt F) → (⟨S16384, .f32⟩ : BufTy).Contents (Elt F)),
    nullary main_c (constantI S_ 32 0#32),
    binary main_v120 main_c main_v122 (cmpi .slt : (⟨S_, .i32⟩ : BufTy).Contents (Elt F) → (⟨S_, .i32⟩ : BufTy).Contents (Elt F) → (⟨S_, .i1⟩ : BufTy).Contents (Elt F)),
    nullary main_c_29 (constantI S_ 32 16384#32),
    binary main_v120 main_c_29 main_v123 (addi : (⟨S_, .i32⟩ : BufTy).Contents (Elt F) → (⟨S_, .i32⟩ : BufTy).Contents (Elt F) → (⟨S_, .i32⟩ : BufTy).Contents (Elt F)),
    ternary main_v122 main_v123 main_v120 main_v124 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_v124 main_v125 (broadcastInDim S1 ![] bcast_S_S1 : (⟨S_, .i32⟩ : BufTy).Contents (Elt F) → (⟨S1, .i32⟩ : BufTy).Contents (Elt F)),
    nullary main_cst_30 (constant S_ .f32 0x3F800000#32),
    ternary main_v121 main_v125 main_cst_30 main_v126 ((fun x i u => Host.scatter scatter_S16384_S1_S__n_0_0_0 (fun _ b => b) x i u) : (⟨S16384, .f32⟩ : BufTy).Contents (Elt F) → (⟨S1, .i32⟩ : BufTy).Contents (Elt F) → (⟨S_, .f32⟩ : BufTy).Contents (Elt F) → (⟨S16384, .f32⟩ : BufTy).Contents (Elt F)),
    binary main_v126 main_v1 main_v127 (mulf : (⟨S16384, .f32⟩ : BufTy).Contents (Elt F) → (⟨S16384, .f32⟩ : BufTy).Contents (Elt F) → (⟨S16384, .f32⟩ : BufTy).Contents (Elt F)),
    nullary main_cst_31 (constant S_ .f32 0x00000000#32),
    unary main_cst_31 main_v128 (broadcastInDim S16384 ![] bcast_S_S16384 : (⟨S_, .f32⟩ : BufTy).Contents (Elt F) → (⟨S16384, .f32⟩ : BufTy).Contents (Elt F)),
    binary main_v127 main_v128 main_v129 (cmpf .ogt : (⟨S16384, .f32⟩ : BufTy).Contents (Elt F) → (⟨S16384, .f32⟩ : BufTy).Contents (Elt F) → (⟨S16384, .i1⟩ : BufTy).Contents (Elt F)),
    nullary main_c_32 (constantI S_ 1 0#1),
    binary main_v129 main_c_32 main_v130 ((fun x v => Host.reduce IntOp.ori x v reducesTo_S16384_S_d0 h_S_) : (⟨S16384, .i1⟩ : BufTy).Contents (Elt F) → (⟨S_, .i1⟩ : BufTy).Contents (Elt F) → (⟨S_, .i1⟩ : BufTy).Contents (Elt F)),
    TRef.ternary (.of main_v130) (.of main_v126) (.of main_v10) main_call5.v0 (fun p a b => select (broadcastInDim S16384 ![] bcast_S_S16384 p) a b) ]

/-- The operations of the stage `Target` touch only the reference's own buffers. -/
theorem opsTarget_sub : (opsTarget : List (HloOp τ sig (Elt F))).Forall fun op => op.bufs ⊆ tcRefs τ sig :=
  ⟨reshape_bufs_sub .., nullary_bufs_sub .., nullary_bufs_sub .., nullary_bufs_sub .., quaternary_bufs_sub .., quaternary_bufs_sub .., nullary_bufs_sub .., unary_bufs_sub .., nullary_bufs_sub .., binary_bufs_sub .., nullary_bufs_sub .., binary_bufs_sub .., ternary_bufs_sub .., unary_bufs_sub .., nullary_bufs_sub .., ternary_bufs_sub .., binary_bufs_sub .., nullary_bufs_sub .., unary_bufs_sub .., binary_bufs_sub .., nullary_bufs_sub .., binary_bufs_sub .., ternary_bufs_sub ..⟩

/-- All of them. -/
def ops : List (HloOp τ sig (Elt F)) := opsKeys ++ (opsX ++ (opsForget ++ (opsHidden ++ (opsQuery ++ (opsWeight ++ (opsUnit ++ (opsTarget)))))))

set_option maxHeartbeats 4000000 in
/-- The program is that straight line. -/
theorem main_eq (c : Dev nD) : main (F := F) c = seq ops := by
  simp only [main, main_part0, main_part1, main_part2, fn_relu.body, fn_relu_0.body, fn_nan_to_num.body, fn_where.body, fn_where_1.body, fn_argmax.body,
    fn_where_2.body, ops, opsKeys, opsX, opsForget, opsHidden, opsQuery, opsWeight, opsUnit, opsTarget, List.cons_append, List.nil_append, seq, bind_assoc, pure_bind]

/-- All the operations touch only the reference's own buffers. -/
theorem ops_sub : (ops : List (HloOp τ sig (Elt F))).Forall fun op => op.bufs ⊆ tcRefs τ sig := by
  simp only [ops, List.forall_append]
  exact ⟨opsKeys_sub, opsX_sub, opsForget_sub, opsHidden_sub, opsQuery_sub, opsWeight_sub, opsUnit_sub, opsTarget_sub⟩

/-- The reference has no scoped buffers. -/
theorem scopedRefs_eq : (Finset.univ.filter fun b : Ref sig .tc => b.isScoped) = ∅ := by decide
/-- The reference has no scoped semaphores. -/
theorem scopedSems_eq : (Finset.univ.filter fun sm : SemLoc sig => sm.isScoped .tc) = ∅ := by decide

/-- Every buffer ends at what the operations, in order, make of the starting contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The buffers that `opsKeys` writes. -/
def opsKeysW : List (Ref sig .tc) := [main_v0, main_v1, main_v2, main_v3, main_v4, main_v5, main_v6, main_v7, main_cst, main_v8, main_cst_0, main_v9, main_cst_1, main_v10]
/-- The stage `Keys` keeps every buffer that it doesn't write. -/
theorem opsKeys_keep (V : Valuation τ sig (Elt F)) {r : Ref sig .tc} (hr : r ∉ opsKeysW) :
    after opsKeys V (r : DevRef τ sig) = V (r : DevRef τ sig) :=
  after_of_writes_sub (W := opsKeysW) opsKeys V (forall_writes_sub_of_map rfl) hr
/-- The buffers that `opsX` writes. -/
def opsXW : List (Ref sig .tc) := [main_v11, main_v12, main_v13, main_call0.cst.ref, main_call0.v0.ref, main_call0.v1.ref, main_v15, main_v16, main_v17, main_call1.cst.ref, main_call1.v0.ref, main_call1.v1.ref, main_v19]
/-- The stage `X` keeps every buffer that it doesn't write. -/
theorem opsX_keep (V : Valuation τ sig (Elt F)) {r : Ref sig .tc} (hr : r ∉ opsXW) :
    after opsX V (r : DevRef τ sig) = V (r : DevRef τ sig) :=
  after_of_writes_sub (W := opsXW) opsX V (forall_writes_sub_of_map rfl) hr
/-- The buffers that `opsForget` writes. -/
def opsForgetW : List (Ref sig .tc) := [main_v20, main_v21, main_v22, main_v23, main_v24, main_cst_2, main_v25, main_v26, main_cst_3, main_v27, main_v28, main_cst_4, main_v29, main_cst_5, main_v30, main_v31, main_v32, main_v33, main_cst_6, main_v34, main_cst_7, main_v35, main_v36, main_v37, main_cst_8, main_v38, main_v39, main_v40, main_v41, main_v42, main_v43, main_v44]
/-- The stage `Forget` keeps every buffer that it doesn't write. -/
theorem opsForget_keep (V : Valuation τ sig (Elt F)) {r : Ref sig .tc} (hr : r ∉ opsForgetW) :
    after opsForget V (r : DevRef τ sig) = V (r : DevRef τ sig) :=
  after_of_writes_sub (W := opsForgetW) opsForget V (forall_writes_sub_of_map rfl) hr
/-- The buffers that `opsHidden` writes. -/
def opsHiddenW : List (Ref sig .tc) := [main_v45, main_v46, main_v47, main_v48, main_v49, main_cst_9, main_v50, main_v51, main_cst_10, main_v52, main_v53, main_v54, main_v55, main_v56, main_v57, main_v58, main_cst_11, main_v59, main_cst_12, main_v60, main_v61, main_v62, main_v63, main_cst_13, main_v64, main_cst_14, main_v65, main_v66, main_v67, main_cst_15, main_v68, main_v69, main_v70, main_v71, main_v72, main_v73, main_v74, main_v75]
/-- The stage `Hidden` keeps every buffer that it doesn't write. -/
theorem opsHidden_keep (V : Valuation τ sig (Elt F)) {r : Ref sig .tc} (hr : r ∉ opsHiddenW) :
    after opsHidden V (r : DevRef τ sig) = V (r : DevRef τ sig) :=
  after_of_writes_sub (W := opsHiddenW) opsHidden V (forall_writes_sub_of_map rfl) hr
/-- The buffers that `opsQuery` writes. -/
def opsQueryW : List (Ref sig .tc) := [main_v76, main_v77, main_v78, main_v79, main_v80, main_cst_16, main_v81, main_v82, main_cst_17, main_v83, main_v84, main_cst_18, main_v85, main_cst_19, main_v86, main_v87, main_v88, main_v89, main_cst_20, main_v90, main_cst_21, main_v91, main_v92, main_v93, main_cst_22, main_v94, main_v95, main_v96, main_v97, main_v98, main_v99, main_v100]
/-- The stage `Query` keeps every buffer that it doesn't write. -/
theorem opsQuery_keep (V : Valuation τ sig (Elt F)) {r : Ref sig .tc} (hr : r ∉ opsQueryW) :
    after opsQuery V (r : DevRef τ sig) = V (r : DevRef τ sig) :=
  after_of_writes_sub (W := opsQueryW) opsQuery V (forall_writes_sub_of_map rfl) hr
/-- The buffers that `opsWeight` writes. -/
def opsWeightW : List (Ref sig .tc) := [main_v101, main_v102, main_v103, main_v104, main_cst_23, main_v105, main_v106, main_cst_24, main_v107, main_v108, main_v109, main_cst_25, main_v110, main_v111, main_v112]
/-- The stage `Weight` keeps every buffer that it doesn't write. -/
theorem opsWeight_keep (V : Valuation τ sig (Elt F)) {r : Ref sig .tc} (hr : r ∉ opsWeightW) :
    after opsWeight V (r : DevRef τ sig) = V (r : DevRef τ sig) :=
  after_of_writes_sub (W := opsWeightW) opsWeight V (forall_writes_sub_of_map rfl) hr
/-- The buffers that `opsUnit` writes. -/
def opsUnitW : List (Ref sig .tc) := [main_call2.v0.ref, main_call2.cst.ref, main_call2.call0.v0.ref, main_call2.call0.v1.ref, main_call2.cst_0.ref, main_call2.v2.ref, main_call2.v3.ref, main_call2.cst_1.ref, main_call2.call1.v0.ref, main_call2.call1.v1.ref, main_call2.cst_2.ref, main_call2.v5.ref, main_call2.v6.ref, main_call2.cst_3.ref, main_call2.call2.v0.ref, main_call2.call2.v1.ref, main_cst_26, main_v114, main_cst_27, main_v115, main_v116, main_v117, main_call3.v0.ref]
/-- The stage `Unit` keeps every buffer that it doesn't write. -/
theorem opsUnit_keep (V : Valuation τ sig (Elt F)) {r : Ref sig .tc} (hr : r ∉ opsUnitW) :
    after opsUnit V (r : DevRef τ sig) = V (r : DevRef τ sig) :=
  after_of_writes_sub (W := opsUnitW) opsUnit V (forall_writes_sub_of_map rfl) hr
/-- The buffers that `opsTarget` writes. -/
def opsTargetW : List (Ref sig .tc) := [main_v119, main_call4.v0.ref, main_call4.cst.ref, main_call4.c.ref, main_call4.v1_0.ref, main_call4.v1_1.ref, main_cst_28, main_v121, main_c, main_v122, main_c_29, main_v123, main_v124, main_v125, main_cst_30, main_v126, main_v127, main_cst_31, main_v128, main_v129, main_c_32, main_v130, main_call5.v0.ref]
/-- The stage `Target` keeps every buffer that it doesn't write. -/
theorem opsTarget_keep (V : Valuation τ sig (Elt F)) {r : Ref sig .tc} (hr : r ∉ opsTargetW) :
    after opsTarget V (r : DevRef τ sig) = V (r : DevRef τ sig) :=
  after_of_writes_sub (W := opsTargetW) opsTarget V (forall_writes_sub_of_map rfl) hr

/-- Two stretches of operations in a row: the second starts from what the first leaves. -/
theorem after_append (l₁ l₂ : List (HloOp τ sig (Elt F))) (V : Valuation τ sig (Elt F)) :
    after (l₁ ++ l₂) V = after l₂ (after l₁ V) := by
  induction l₁ generalizing V with
  | nil => rfl
  | cons o l ih => exact ih _

/-- The contents after the operations are the contents after the eight stretches in turn. -/
theorem after_ops (V : Valuation τ sig (Elt F)) :
    after ops V = after opsTarget (after opsUnit (after opsWeight (after opsQuery (after opsHidden (after opsForget (after opsX (after opsKeys V))))))) := by
  simp only [ops, after_append]

/-- An argument keeps its contents. -/
theorem arg_keep (V : Valuation τ sig (Elt F)) {r : Ref sig .tc} (hr : r ∉ opsKeysW ++ opsXW ++ opsForgetW ++ opsHiddenW ++ opsQueryW ++ opsWeightW ++ opsUnitW ++ opsTargetW) :
    after ops V (r : DevRef τ sig) = V (r : DevRef τ sig) := by
  simp only [List.mem_append, not_or] at hr
  obtain ⟨⟨⟨⟨⟨⟨⟨h0, h1⟩, h2⟩, h3⟩, h4⟩, h5⟩, h6⟩, h7⟩ := hr
  rw [after_ops, opsTarget_keep _ h7, opsUnit_keep _ h6, opsWeight_keep _ h5, opsQuery_keep _ h4, opsHidden_keep _ h3, opsForget_keep _ h2,
    opsX_keep _ h1, opsKeys_keep _ h0]

/-- The arguments at a final state. -/
abbrev Kept (m : (ℓ : Loc nD τ sig) → Buf (Elt F) ℓ) (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)

/-- Every argument ends as it started. -/
theorem kept (m : (ℓ : Loc nD τ sig) → Buf (Elt F) ℓ) {r : PUnit × MemSt nD τ sig (Elt F)}
    (h : ∀ (c : Dev nD) (b : Ref sig .tc), r.2.mem ((c.tc : Thread nD τ).loc b) = after ops (launchContents m c) (b : DevRef τ sig)) (c : Dev nD) :
    Kept m r c :=
  ⟨(h c main_arg0).trans (arg_keep _ (by decide)),
    (h c main_arg1).trans (arg_keep _ (by decide)),
    (h c main_arg2).trans (arg_keep _ (by decide)),
    (h c main_arg3).trans (arg_keep _ (by decide)),
    (h c main_arg4).trans (arg_keep _ (by decide)),
    (h c main_arg5).trans (arg_keep _ (by decide)),
    (h c main_arg6).trans (arg_keep _ (by decide)),
    (h c main_arg7).trans (arg_keep _ (by decide)),
    (h c main_arg8).trans (arg_keep _ (by decide)),
    (h c main_arg9).trans (arg_keep _ (by decide)),
    (h c main_arg10).trans (arg_keep _ (by decide)),
    (h c main_arg11).trans (arg_keep _ (by decide)),
    (h c main_arg12).trans (arg_keep _ (by decide)),
    (h c main_arg13).trans (arg_keep _ (by decide)),
    (h c main_arg14).trans (arg_keep _ (by decide)),
    (h c main_arg15).trans (arg_keep _ (by decide)),
    (h c main_arg16).trans (arg_keep _ (by decide)),
    (h c main_arg17).trans (arg_keep _ (by decide)),
    (h c main_arg18).trans (arg_keep _ (by decide)),
    (h c main_arg19).trans (arg_keep _ (by decide)),
    (h c main_arg20).trans (arg_keep _ (by decide))⟩

/-- The frame: the program runs, its arguments end unchanged, every semaphore is at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD, Kept m r c) ∧ r.2.sem = fun _ => 0) :=
  (θ_run defs _ _).mono (fun r h => ⟨kept m h, Idealize.ShloMosaic.sem_eq_zero_of_no_sems (by decide) r.2⟩) (run_main m ρ)

end Cert.ReferenceIdeal.Straight

end
-- ==== Proof.Value.Math.lean ====
/- The pointer-selection head as plain mathematics over the extended reals: the layers, the layer norm, the query, the
   similarity of an entity in the two groupings that the programs use, and the weight of a similarity; with the facts that
   the results are real where the table, the key layer and the norm's weights are. -/
module

public import Idealize.ShloMosaic.PureOps.Ideal
public import Idealize.ShloMosaic.PureOps.Ideal.Laws
public import Idealize.ShloMosaic.Lib.IdealHost

@[expose] public section

noncomputable section

namespace Cert.Head

open Idealize.ShloMosaic
open scoped BigOperators

/-! ## Real values among the extended reals -/

/-- The extended real is a real number. -/
def IsReal (x : EReal) : Prop := ∃ r : ℝ, x = (r : EReal)

/-- A real number is real among the extended reals. -/
theorem IsReal.coe (r : ℝ) : IsReal (r : EReal) := ⟨r, rfl⟩
/-- A sum of two reals is real. -/
theorem IsReal.add {x y : EReal} : IsReal x → IsReal y → IsReal (x + y)
  | ⟨a, ha⟩, ⟨b, hb⟩ => ⟨a + b, by rw [ha, hb, EReal.coe_add]⟩
/-- A difference of two reals is real. -/
theorem IsReal.sub {x y : EReal} : IsReal x → IsReal y → IsReal (x - y)
  | ⟨a, ha⟩, ⟨b, hb⟩ => ⟨a - b, by rw [ha, hb, EReal.coe_sub]⟩
/-- A product of two reals is real. -/
theorem IsReal.mul {x y : EReal} : IsReal x → IsReal y → IsReal (x * y)
  | ⟨a, ha⟩, ⟨b, hb⟩ => ⟨a * b, by rw [ha, hb, EReal.coe_mul]⟩

/-- A sum of reals, taken among the extended reals, is the sum of the reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem IsReal.sum {ι : Type} {s : Finset ι} {f : ι → EReal} (h : ∀ i, IsReal (f i)) : IsReal (∑ i ∈ s, f i) := by
  choose g hg using h
  rw [funext hg]
  exact ⟨_, sum_coe s g⟩

/-- The hyperbolic tangent is real everywhere. -/
theorem isReal_tanh (x : EReal) : IsReal (Ideal.tanh x) := by
  induction x with
  | bot => exact ⟨-1, by rw [Ideal.tanh_bot, EReal.coe_neg, EReal.coe_one]⟩
  | top => exact ⟨1, by rw [Ideal.tanh_top]; norm_cast⟩
  | coe r => exact ⟨_, rfl⟩

/-- The logistic function is real everywhere. -/
theorem isReal_logistic (x : EReal) : IsReal (Ideal.logistic x) := by
  induction x with
  | bot => exact ⟨0, by rw [Ideal.logistic_bot]; norm_cast⟩
  | top => exact ⟨1, by rw [Ideal.logistic_top]; norm_cast⟩
  | coe r => exact ⟨_, Ideal.logistic_coe r⟩

/-- A real divided by a real that is not zero is real. -/
theorem IsReal.div {x : EReal} {y : ℝ} (hx : IsReal x) (hy : y ≠ 0) : IsReal (Ideal.div x (y : EReal)) := by
  rw [Ideal.div_coe hy]; exact hx.mul (.coe _)

/-- The value of the word of thirty-two. -/
theorem word_32 : Ideal.ofBits .f32 0x42000000#32 = ((32 : ℝ) : EReal) := by
  simp [Ideal.ofBits, Ideal.ieee, -EReal.coe_mul]; norm_num

/-- The norm's stabiliser is a positive real. -/
theorem word_eps : ∃ r : ℝ, 0 < r ∧ Ideal.ofBits .f32 0x3727C5AC#32 = (r : EReal) := by
  refine ⟨_, ?_, by simp [Ideal.ofBits, Ideal.ieee, -EReal.coe_mul]; rfl⟩
  positivity

/-- The temperature is a positive real. -/
theorem word_temp : ∃ r : ℝ, 0 < r ∧ Ideal.ofBits .f32 0x3F4CCCCD#32 = (r : EReal) := by
  refine ⟨_, ?_, by simp [Ideal.ofBits, Ideal.ieee, -EReal.coe_mul]; rfl⟩
  positivity

/-! ## The layers -/

/-- A linear layer: each row of the weights with the input, plus the bias. -/
def lin {k n : ℕ} (W : Fin n → Fin k → EReal) (b : Fin n → EReal) (x : Fin k → EReal) (j : Fin n) : EReal :=
  (∑ i, x i * W j i) + b j

/-- The rectifier. -/
def relu {n : ℕ} (x : Fin n → EReal) (j : Fin n) : EReal := max (x j) 0

/-- A vector of thirty-two followed by thirty-two zeros. -/
def padded (x : Fin 32 → EReal) (k : Fin 64) : EReal := if h : k.val < 32 then x ⟨k.val, h⟩ else 0

/-- The mean of thirty-two values. -/
def mean (v : Fin 32 → EReal) : EReal := Ideal.div (∑ j, v j) (Ideal.ofBits .f32 0x42000000#32)

/-- The layer norm over thirty-two values. -/
def lnorm (w b v : Fin 32 → EReal) (j : Fin 32) : EReal :=
  Ideal.div (v j - mean v)
    (Ideal.sqrt (mean (fun i => (v i - mean v) * (v i - mean v)) + Ideal.ofBits .f32 0x3727C5AC#32)) * w j + b j

/-- The mean of reals is real. -/
theorem isReal_mean {v : Fin 32 → EReal} (hv : ∀ j, IsReal (v j)) : IsReal (mean v) := by
  unfold mean; rw [word_32]; exact (IsReal.sum hv).div (by norm_num)

/-- The norm of real values with real weights is real: the root that it divides by is that of a positive real. -/
theorem isReal_lnorm {w b v : Fin 32 → EReal} (hw : ∀ j, IsReal (w j)) (hb : ∀ j, IsReal (b j)) (hv : ∀ j, IsReal (v j))
    (j : Fin 32) : IsReal (lnorm w b v j) := by
  obtain ⟨μ, hμ⟩ := isReal_mean hv
  obtain ⟨ε, hε, he⟩ := word_eps
  choose u hu using hv
  have hvar : mean (fun i => (v i - mean v) * (v i - mean v)) = (((∑ i, (u i - μ) * (u i - μ)) * (1 / 32) : ℝ) : EReal) := by
    unfold mean at hμ ⊢
    rw [hμ, word_32, Ideal.div_coe (by norm_num)]
    simp only [hu, ← EReal.coe_sub, ← EReal.coe_mul]
    rw [sum_coe, ← EReal.coe_mul]
  have hpos : 0 < (∑ i, (u i - μ) * (u i - μ)) * (1 / 32) + ε :=
    add_pos_of_nonneg_of_pos (mul_nonneg (Finset.sum_nonneg fun i _ => mul_self_nonneg _) (by norm_num)) hε
  unfold lnorm
  rw [hvar, he, ← EReal.coe_add, Ideal.sqrt_coe, if_neg (not_lt.mpr hpos.le), hμ, hu j, ← EReal.coe_sub]
  exact (((IsReal.coe _).div (Real.sqrt_pos.mpr hpos).ne').mul (hw j)).add (hb j)

/-- The arguments of the head, indexed by plain numbers. -/
structure Params where
  enc : Fin 16384 → Fin 256 → EReal
  ar : Fin 1024 → EReal
  Wk : Fin 32 → Fin 256 → EReal
  bk : Fin 32 → EReal
  W0 : Fin 256 → Fin 1024 → EReal
  b0 : Fin 256 → EReal
  W1 : Fin 32 → Fin 256 → EReal
  b1 : Fin 32 → EReal
  Wi0 : Fin 32 → Fin 64 → EReal
  bi0 : Fin 32 → EReal
  Wi1 : Fin 32 → Fin 64 → EReal
  bi1 : Fin 32 → EReal
  Wo : Fin 32 → Fin 64 → EReal
  bo : Fin 32 → EReal
  lnw : Fin 32 → EReal
  lnb : Fin 32 → EReal

variable (p : Params)

/-- The features: two rectified layers over the autoregressive encoding, and the zero query after them. -/
def feat : Fin 64 → EReal := padded (relu (lin p.W1 p.b1 (relu (lin p.W0 p.b0 p.ar))))

/-- The remembered state, before its norm. -/
def gated (j : Fin 32) : EReal := Ideal.logistic (lin p.Wi0 p.bi0 (feat p) j) * Ideal.tanh (lin p.Wi1 p.bi1 (feat p) j)

/-- The output gate, before its norm. -/
def outGate (j : Fin 32) : EReal := Ideal.logistic (lin p.Wo p.bo (feat p) j)

/-- The query. -/
def query (j : Fin 32) : EReal := Ideal.tanh (lnorm p.lnw p.lnb (gated p) j) * lnorm p.lnw p.lnb (outGate p) j

/-- An entity's similarity as the kernel groups it: the query folded through the key layer first. -/
def simFolded (e : Fin 16384) : EReal := (∑ k, (∑ j, query p j * p.Wk j k) * p.enc e k) + ∑ j, query p j * p.bk j

/-- An entity's similarity as the reference groups it: the query against the entity's key. -/
def simKeys (e : Fin 16384) : EReal := ∑ j, query p j * lin p.Wk p.bk (p.enc e) j

/-- The weight of a similarity: its logistic to the power of one over the temperature. -/
def weight (s : EReal) : EReal := Ideal.exp (Ideal.div (Ideal.log (Ideal.logistic s)) (Ideal.ofBits .f32 0x3F4CCCCD#32))

/-- The table, the key layer's matrix and the norm's weights are real. -/
structure Params.Real : Prop where
  enc : ∀ e k, IsReal (p.enc e k)
  Wk : ∀ j k, IsReal (p.Wk j k)
  lnw : ∀ j, IsReal (p.lnw j)
  lnb : ∀ j, IsReal (p.lnb j)

variable {p}

/-- The query is real. -/
theorem isReal_query (h : p.Real) (j : Fin 32) : IsReal (query p j) :=
  (isReal_tanh _).mul (isReal_lnorm h.lnw h.lnb (fun _ => isReal_logistic _) j)

/-- A real factor distributes over a real plus any value. -/
theorem mul_real_add (q a : ℝ) (b : EReal) : (q : EReal) * ((a : EReal) + b) = (q : EReal) * a + (q : EReal) * b := by
  rcases lt_trichotomy q 0 with hq | rfl | hq
  · induction b with
    | bot => rw [EReal.add_bot, EReal.coe_mul_bot_of_neg hq, ← EReal.coe_mul, EReal.coe_add_top]
    | top => rw [EReal.coe_add_top, EReal.coe_mul_top_of_neg hq, EReal.add_bot]
    | coe b => rw [← EReal.coe_add, ← EReal.coe_mul, ← EReal.coe_mul, ← EReal.coe_mul, ← EReal.coe_add, mul_add]
  · simp
  · induction b with
    | bot => rw [EReal.add_bot, EReal.coe_mul_bot_of_pos hq, EReal.add_bot]
    | top => rw [EReal.coe_add_top, EReal.coe_mul_top_of_pos hq, ← EReal.coe_mul, EReal.coe_add_top]
    | coe b => rw [← EReal.coe_add, ← EReal.coe_mul, ← EReal.coe_mul, ← EReal.coe_mul, ← EReal.coe_add, mul_add]

/-- The two groupings of a similarity agree, whatever the key layer's bias. -/
theorem simFolded_eq (h : p.Real) (e : Fin 16384) : simFolded p e = simKeys p e := by
  have hq := isReal_query h
  have he := h.enc e
  have hk := h.Wk
  choose q hq using hq
  choose x hx using he
  choose w hw using hk
  unfold simFolded simKeys lin
  simp only [hq, hx, hw, ← EReal.coe_mul, sum_coe, mul_real_add, Finset.sum_add_distrib]
  congr 2
  simp only [Finset.sum_mul, Finset.mul_sum]
  rw [Finset.sum_comm]
  refine Finset.sum_congr rfl fun j _ => Finset.sum_congr rfl fun k _ => by ring

/-- A weight is a real that is not negative: zero for a similarity of minus infinity, one for plus infinity. -/
theorem weight_nonneg (s : EReal) : ∃ r : ℝ, 0 ≤ r ∧ weight s = (r : EReal) := by
  obtain ⟨t, ht, hw⟩ := word_temp
  unfold weight
  rw [hw]
  induction s with
  | bot =>
    refine ⟨0, le_rfl, ?_⟩
    rw [Ideal.logistic_bot, ← EReal.coe_zero, Ideal.log_coe, if_pos le_rfl, Ideal.div_coe ht.ne',
      EReal.bot_mul_coe_of_pos (one_div_pos.mpr ht), Ideal.exp_bot, EReal.coe_zero]
  | top =>
    refine ⟨1, zero_le_one, ?_⟩
    rw [Ideal.logistic_top, ← EReal.coe_one, Ideal.log_coe, if_neg (by norm_num), Ideal.div_coe ht.ne', ← EReal.coe_mul, Ideal.exp_coe]
    simp
  | coe s =>
    have hl : 0 < (1 + Real.exp (-s))⁻¹ := inv_pos.mpr (by positivity)
    refine ⟨Real.exp (Real.log (1 + Real.exp (-s))⁻¹ * (1 / t)), (Real.exp_pos _).le, ?_⟩
    rw [Ideal.logistic_coe, Ideal.log_coe, if_neg (not_le.mpr hl), Ideal.div_coe ht.ne', ← EReal.coe_mul, Ideal.exp_coe]

end Cert.Head

end
-- ==== Proof.Value.Fold.lean ====
/- The kernel's first grid point at the extended reals: the query that it forms from its operands, and that query folded
   through the key layer. -/
module

public import proofs.«01_k».proof.Proof.Ideal.Setup
public import proofs.«01_k».proof.Proof.Value.Math
public import Idealize.ShloMosaic.Lib.MatmulPlain
public import Idealize.ShloMosaic.Lib.Pipeline.Value

@[expose] public section

noncomputable section

namespace Cert.KernelIdeal.Dma

open Cert.KernelIdeal Cert.KernelIdeal.Gen Cert.Head
open Idealize.ShloMosaic Idealize.ShloMosaic.ValueIdx
open scoped BigOperators

/-- A product of a row with a matrix whose rows are contracted, started from zeros, at an entry. -/
theorem dotRows {K N : ℕ} (D : DotDims ⟨2, ![1, K]⟩ ⟨2, ![N, K]⟩ ⟨2, ![1, N]⟩) (hD : D = DotDims.transposedRhs 1 K N)
    (prec : Option ContractPrecision) (x : FVec Ideal ⟨2, ![1, K]⟩ .f32) (W : FVec Ideal ⟨2, ![N, K]⟩ .f32) (j : Fin N) :
    FloatOps.matmul D prec x W (constant (F := Ideal) ⟨2, ![1, N]⟩ .f32 0x00000000#32) (ix2 0 j) = ∑ k : Fin K, x (ix2 0 k) * W (ix2 j k) := by
  subst hD
  rw [Ideal.matmul_transposedRhs_apply]
  show Ideal.ofBits .f32 0x00000000#32 + _ = _
  rw [Ideal.ofBits_zero_f32, zero_add]

/-- A product of a row with a matrix whose columns are contracted, started from zeros, at an entry. -/
theorem dotCols {K N : ℕ} (D : DotDims ⟨2, ![1, K]⟩ ⟨2, ![K, N]⟩ ⟨2, ![1, N]⟩) (hD : D = DotDims.plain 1 K N)
    (prec : Option ContractPrecision) (x : FVec Ideal ⟨2, ![1, K]⟩ .f32) (W : FVec Ideal ⟨2, ![K, N]⟩ .f32) (j : Fin N) :
    FloatOps.matmul D prec x W (constant (F := Ideal) ⟨2, ![1, N]⟩ .f32 0x00000000#32) (ix2 0 j) = ∑ k : Fin K, x (ix2 0 k) * W (ix2 k j) := by
  subst hD
  rw [Ideal.matmul_plain_apply]
  show Ideal.ofBits .f32 0x00000000#32 + _ = _
  rw [Ideal.ofBits_zero_f32, zero_add]

/-- The sum over an entire row, taken by way of a rank-three shape and extracted. -/
theorem sumRow {n : ℕ} (v : FVec Ideal ⟨2, ![1, n]⟩ .f32) (h1 : Shape.ShapeCasts ⟨2, ![1, n]⟩ ⟨3, ![1, 1, n]⟩)
    (hr : Shape.Reduces ⟨3, ![1, 1, n]⟩ [1, 2] S1) (hφ : FKind.Formats .f32) (ha : (0x00000000#32) = FKind.add.neutral .f32 hφ)
    (h2 : S1.ShapeCasts S1x1x1) (h3 : ∀ a, (![0, 0, 0] : Fin 3 → Nat) a < S1x1x1.size a) :
    extractAt ![0, 0, 0] (shapeCast S1x1x1 (multiReduction (F := Ideal) .add [1, 2] S1 (shapeCast ⟨3, ![1, 1, n]⟩ v h1) 0x00000000#32 hr hφ ha) h2) h3
      = ∑ j : Fin n, v (ix2 0 j) := by
  unfold extractAt
  rw [shapeCast, Ideal.multiReduction_add_total _ _ _ (fun b => by fin_cases b; rfl)]
  unfold shapeCast
  rw [Equiv.sum_comp (Shape.reshapeEquiv _) v, sum_idx2, Fin.sum_univ_one]

/-- The features that the first grid point forms. -/
theorem pay4_apply (p : Params) (x2 : Vec Ideal S1x1024 .f32) (x5 : Vec Ideal S256x1024 .f32) (x6 : Vec Ideal S1x256 .f32)
    (x7 : Vec Ideal S32x256 .f32) (x8 : Vec Ideal S1x32 .f32)
    (h2 : ∀ k, x2 (ix2 0 k) = p.ar k) (h5 : ∀ j k, x5 (ix2 j k) = p.W0 j k) (h6 : ∀ j, x6 (ix2 0 j) = p.b0 j)
    (h7 : ∀ j k, x7 (ix2 j k) = p.W1 j k) (h8 : ∀ j, x8 (ix2 0 j) = p.b1 j) (k : Fin 64) :
    k0_pay4 (F := Ideal) x2 x5 x6 x7 x8 (ix2 0 k) = feat p k := by
  unfold k0_pay4 feat padded
  simp only [shapeCast_self]
  by_cases h : k.val < 32
  · rw [dif_pos h, concatenate_pair_apply_left (s₁ := S1x32) (s₂ := S1x32) (t := S1x64) 1 _ _ _ _ rfl (ix2 0 ⟨k.val, h⟩)
      (fun b => by fin_cases b <;> rfl)]
    refine congrArg₂ (fun a b : EReal => max a b) (congrArg₂ (fun a b : EReal => a + b)
      ((dotRows (K := 256) (N := 32) dot_S1x256_S32x256_S1x32_1_1_0_0_n_n rfl none _ _ _).trans
        (Finset.sum_congr rfl fun i _ => congrArg₂ (fun a b : EReal => a * b) ?_ (h7 _ i))) (h8 _)) Ideal.ofBits_zero_f32
    refine congrArg₂ (fun a b : EReal => max a b) (congrArg₂ (fun a b : EReal => a + b)
      ((dotRows (K := 1024) (N := 256) dot_S1x1024_S256x1024_S1x256_1_1_0_0_n_n rfl none _ _ _).trans
        (Finset.sum_congr rfl fun l _ => congrArg₂ (fun a b : EReal => a * b) (h2 l) (h5 _ l))) (h6 _)) Ideal.ofBits_zero_f32
  · rw [dif_neg h, concatenate_pair_apply_right (s₁ := S1x32) (s₂ := S1x32) (t := S1x64) 1 _ _ _ _ rfl rfl (ix2 0 ⟨k.val - 32, by omega⟩)
      (fun b hb => by fin_cases b <;> first | rfl | exact absurd rfl hb) (by show k.val - 32 + 32 = k.val; omega)]
    exact Ideal.ofBits_zero_f32

/-- A linear layer over the features. -/
theorem linFeat (p : Params) (f : FVec Ideal S1x64 .f32) (hf : ∀ k, f (ix2 0 k) = feat p k) (W : FVec Ideal S32x64 .f32) (b : FVec Ideal S1x32 .f32)
    (W' : Fin 32 → Fin 64 → EReal) (b' : Fin 32 → EReal) (hW : ∀ j k, W (ix2 j k) = W' j k) (hb : ∀ j, b (ix2 0 j) = b' j) (j : Fin 32) :
    FloatOps.matmul (F := Ideal) (φ₁ := .f32) (φ₂ := .f32) dot_S1x64_S32x64_S1x32_1_1_0_0_n_n none f W
        (constant (F := Ideal) S1x32 .f32 0x00000000#32) (ix2 0 j) + b (ix2 0 j)
      = lin W' b' (feat p) j :=
  congrArg₂ (fun a b : EReal => a + b) ((dotRows (K := 64) (N := 32) dot_S1x64_S32x64_S1x32_1_1_0_0_n_n rfl none f W j).trans
    (Finset.sum_congr rfl fun k _ => congrArg₂ (fun a b : EReal => a * b) (hf k) (hW j k))) (hb j)

/-- The layer norm of a row, given the row's sum. -/
theorem lnorm_of {v : FVec Ideal S1x32 .f32} {v' w' b' : Fin 32 → EReal} (hv : ∀ j, v (ix2 0 j) = v' j) (j : Fin 32)
    (s q w b : EReal) (hs : s = ∑ i, v (ix2 0 i)) (hw : w = w' j) (hb : b = b' j)
    (hq : q = ∑ i : Fin 32, (v (ix2 0 i) - Ideal.div s (Ideal.ofBits .f32 0x42000000#32)) * (v (ix2 0 i) - Ideal.div s (Ideal.ofBits .f32 0x42000000#32))) :
    Ideal.div (v (ix2 0 j) - Ideal.div s (Ideal.ofBits .f32 0x42000000#32))
      (Ideal.sqrt (Ideal.div q (Ideal.ofBits .f32 0x42000000#32) + Ideal.ofBits .f32 0x3727C5AC#32)) * w + b = lnorm w' b' v' j := by
  subst hs hq hw hb
  simp only [hv]
  rfl

/-- The remembered state, normalised. -/
theorem pay8_apply (p : Params) (f : FVec Ideal S1x64 .f32) (hf : ∀ k, f (ix2 0 k) = feat p k)
    (x11 : Vec Ideal S32x64 .f32) (x12 : Vec Ideal S1x32 .f32) (x13 : Vec Ideal S32x64 .f32) (x14 x17 x18 : Vec Ideal S1x32 .f32)
    (g : FVec Ideal S1x32 .f32) (hg : g = FloatOps.matmul (F := Ideal) (φ₁ := .f32) (φ₂ := .f32) dot_S1x64_S32x64_S1x32_1_1_0_0_n_n none f x11 (constant (F := Ideal) S1x32 .f32 0x00000000#32))
    (h11 : ∀ j k, x11 (ix2 j k) = p.Wi0 j k) (h12 : ∀ j, x12 (ix2 0 j) = p.bi0 j) (h13 : ∀ j k, x13 (ix2 j k) = p.Wi1 j k)
    (h14 : ∀ j, x14 (ix2 0 j) = p.bi1 j) (h17 : ∀ j, x17 (ix2 0 j) = p.lnw j) (h18 : ∀ j, x18 (ix2 0 j) = p.lnb j) (j : Fin 32) :
    k0_pay8 (F := Ideal) f (k0_pay5 x17) (k0_pay6 x18) g x12 x13 x14 (ix2 0 j) = lnorm p.lnw p.lnb (gated p) j := by
  subst hg
  unfold k0_pay8 k0_pay5 k0_pay6
  simp only [shapeCast_self]
  refine lnorm_of (fun i => ?_) j _ _ _ _ (sumRow _ _ _ _ _ _ _) (h17 j) (h18 j) ((sumRow _ _ _ _ _ _ _).trans rfl)
  exact congrArg₂ (fun a b : EReal => Ideal.logistic a * Ideal.tanh b) (linFeat p f hf x11 x12 p.Wi0 p.bi0 h11 h12 i)
    (linFeat p f hf x13 x14 p.Wi1 p.bi1 h13 h14 i)

/-- The output gate, before its norm. -/
theorem pay9_apply (p : Params) (f : FVec Ideal S1x64 .f32) (hf : ∀ k, f (ix2 0 k) = feat p k)
    (x15 : Vec Ideal S32x64 .f32) (x16 : Vec Ideal S1x32 .f32)
    (h15 : ∀ j k, x15 (ix2 j k) = p.Wo j k) (h16 : ∀ j, x16 (ix2 0 j) = p.bo j) (j : Fin 32) :
    k0_pay9 (F := Ideal) f x15 x16 (ix2 0 j) = outGate p j := by
  unfold k0_pay9
  simp only [shapeCast_self]
  exact congrArg (fun a : EReal => Ideal.logistic a) (linFeat p f hf x15 x16 p.Wo p.bo h15 h16 j)

/-- The query. -/
theorem pay11_apply (p : Params) (r g : FVec Ideal S1x32 .f32) (s : EReal) (x17 x18 : Vec Ideal S1x32 .f32)
    (hr : ∀ j, r (ix2 0 j) = lnorm p.lnw p.lnb (gated p) j) (hg : ∀ j, g (ix2 0 j) = outGate p j) (hs : s = ∑ j, g (ix2 0 j))
    (h17 : ∀ j, x17 (ix2 0 j) = p.lnw j) (h18 : ∀ j, x18 (ix2 0 j) = p.lnb j) (j : Fin 32) :
    k0_pay11 (F := Ideal) (k0_pay5 x17) (k0_pay6 x18) r g s (ix2 0 j) = query p j := by
  unfold k0_pay11 k0_pay5 k0_pay6
  simp only [shapeCast_self]
  refine congrArg₂ (fun a b : EReal => Ideal.tanh a * b) (hr j)
    (lnorm_of hg j _ _ _ _ hs (h17 j) (h18 j) ((sumRow _ _ _ _ _ _ _).trans rfl))

/-- The query folded through the key layer's weights. -/
theorem foldQ_apply (p : Params) (x2 : Vec Ideal S1x1024 .f32) (x5 : Vec Ideal S256x1024 .f32) (x6 : Vec Ideal S1x256 .f32)
    (x7 : Vec Ideal S32x256 .f32) (x8 : Vec Ideal S1x32 .f32) (x11 : Vec Ideal S32x64 .f32) (x12 : Vec Ideal S1x32 .f32)
    (x13 : Vec Ideal S32x64 .f32) (x14 : Vec Ideal S1x32 .f32) (x15 : Vec Ideal S32x64 .f32) (x16 x17 x18 : Vec Ideal S1x32 .f32)
    (x3 : Vec Ideal S32x256 .f32) (x4 : Vec Ideal S1x32 .f32)
    (h2 : ∀ k, x2 (ix2 0 k) = p.ar k) (h5 : ∀ j k, x5 (ix2 j k) = p.W0 j k) (h6 : ∀ j, x6 (ix2 0 j) = p.b0 j)
    (h7 : ∀ j k, x7 (ix2 j k) = p.W1 j k) (h8 : ∀ j, x8 (ix2 0 j) = p.b1 j)
    (h11 : ∀ j k, x11 (ix2 j k) = p.Wi0 j k) (h12 : ∀ j, x12 (ix2 0 j) = p.bi0 j) (h13 : ∀ j k, x13 (ix2 j k) = p.Wi1 j k)
    (h14 : ∀ j, x14 (ix2 0 j) = p.bi1 j) (h15 : ∀ j k, x15 (ix2 j k) = p.Wo j k) (h16 : ∀ j, x16 (ix2 0 j) = p.bo j)
    (h17 : ∀ j, x17 (ix2 0 j) = p.lnw j) (h18 : ∀ j, x18 (ix2 0 j) = p.lnb j)
    (h3 : ∀ j k, x3 (ix2 j k) = p.Wk j k) (h4 : ∀ j, x4 (ix2 0 j) = p.bk j) :
    (∀ k, foldQ (F := Ideal) x2 x5 x6 x7 x8 x11 x12 x13 x14 x15 x16 x17 x18 x3 (ix2 0 k) = ∑ j, query p j * p.Wk j k)
      ∧ foldO (F := Ideal) x2 x5 x6 x7 x8 x11 x12 x13 x14 x15 x16 x17 x18 x4 = ∑ j, query p j * p.bk j := by
  have hf := pay4_apply p x2 x5 x6 x7 x8 h2 h5 h6 h7 h8
  have hq := pay11_apply p _ _ _ x17 x18
    (pay8_apply p _ hf x11 x12 x13 x14 x17 x18 (k0_pay7 x2 x5 x6 x7 x8 x11) rfl h11 h12 h13 h14 h17 h18)
    (pay9_apply p _ hf x15 x16 h15 h16) (sumRow _ _ _ _ _ _ _ : k0_pay10 (F := Ideal) (k0_pay4 x2 x5 x6 x7 x8) x15 x16 = _) h17 h18
  constructor
  · intro k
    unfold foldQ k0_pay12
    rw [shapeCast_self]
    exact (dotCols (K := 32) (N := 256) dot_S1x32_S32x256_S1x256_1_0_0_1_n_n rfl _ _ _ _).trans
      (Finset.sum_congr rfl fun j _ => congrArg₂ (fun a b : EReal => a * b) (hq j) (h3 j k))
  · unfold foldO k0_pay13
    simp only [shapeCast_self]
    refine (sumRow _ _ _ _ _ _ _).trans (Finset.sum_congr rfl fun j _ => ?_)
    exact congrArg₂ (fun a b : EReal => a * b) (hq j) (h4 j)

end Cert.KernelIdeal.Dma

end
-- ==== Proof.Value.Pick.lean ====
/- The pick: the first position at which a vector is largest. The reference's arg-max is a fold over pairs of a value and a
   position; the kernel takes the least position among those whose value is the maximum. Both are shown to be the first
   maximum, which is unique. -/
module

public import proofs.«01_k».proof.Proof.Gen.ReferenceIdeal
public import Idealize.ShloMosaic.PureOps.Ideal
public import Idealize.ShloMosaic.PureOps.Ideal.Laws
public import Idealize.ShloMosaic.PureOps.Reduce
public import Idealize.ShloMosaic.Lib.WordCmp

@[expose] public section

noncomputable section

namespace Cert.Head

open Idealize.ShloMosaic

variable {n : Nat}

/-- Position `p` holds the largest value of `u`, and every earlier position a smaller one. -/
structure FirstMax (u : Fin n → EReal) (p : Fin n) : Prop where
  le : ∀ e, u e ≤ u p
  lt : ∀ e, e < p → u e < u p

/-- There is at most one first maximum. -/
theorem FirstMax.unique {u : Fin n → EReal} {p q : Fin n} (hp : FirstMax u p) (hq : FirstMax u q) : p = q := by
  rcases lt_trichotomy p q with h | h | h
  · exact absurd (hq.lt p h) (not_lt.2 (hp.le q))
  · exact h
  · exact absurd (hp.lt q h) (not_lt.2 (hq.le p))

/-- Two vectors in the same order have the same first maximum. -/
theorem FirstMax.congr {u w : Fin n → EReal} (h : ∀ a b, u a < u b ↔ w a < w b) {p : Fin n} (hp : FirstMax u p) : FirstMax w p where
  le e := not_lt.1 fun hlt => absurd ((h p e).2 hlt) (not_lt.2 (hp.le e))
  lt e he := (h e p).1 (hp.lt e he)

/-- A comparison of two extended reals yields the bit of the comparison. -/
theorem cmp_ogt (x y : EReal) : Ideal.cmp .ogt x y = BitVec.ofBool (decide (y < x)) := rfl
/-- The comparison for equality is one exactly when the two values are equal. -/
theorem cmp_oeq (x y : EReal) : Ideal.cmp .oeq x y = BitVec.ofBool (decide (x = y)) := rfl
/-- The comparison for difference is one exactly when the two values differ. -/
theorem cmp_une (x y : EReal) : Ideal.cmp .une x y = BitVec.ofBool (decide (x ≠ y)) := rfl

/-- One step of the arg-max on two pairs: the accumulated pair stays where its value is greater, or equal at a smaller
    position; else the new pair is taken. -/
theorem argmax_step (x y : EReal) (a b : BitVec 32) :
    Cert.ReferenceIdeal.reducer_argmax_f32_i32 (F := Ideal) (x, a) (y, b)
      = if y < x ∨ (x = y ∧ a.toInt < b.toInt) then (x, a) else (y, b) := by
  have h3 : Ideal.cmp .une x x = 0#1 := by rw [cmp_une, decide_eq_false (by simp)]; rfl
  show (Scalar.select (IntOp.ori (Ideal.cmp .ogt x y) (Ideal.cmp .une x x)) x y,
    Scalar.select (IntOp.ori (IntOp.ori (Ideal.cmp .ogt x y) (Ideal.cmp .une x x))
      (IntOp.andi (Ideal.cmp .oeq x y) (IntOp.cmpi .slt a b))) a b) = _
  rw [h3, cmp_ogt, cmp_oeq, WordCmp.cmpi_slt_eq]
  by_cases h1 : y < x
  · rw [if_pos (Or.inl h1), decide_eq_true h1, decide_eq_false (ne_of_gt h1)]
    cases decide (a.toInt < b.toInt) <;> rfl
  · rw [decide_eq_false h1]
    by_cases h2 : x = y
    · subst h2
      by_cases h4 : a.toInt < b.toInt
      · rw [if_pos (Or.inr ⟨rfl, h4⟩), decide_eq_true h4, decide_eq_true rfl]; rfl
      · rw [if_neg (by rintro (h | h); exacts [h1 h, h4 h.2]), decide_eq_false h4, decide_eq_true rfl]; rfl
    · rw [if_neg (by rintro (h | h); exacts [h1 h, h2 h.1]), decide_eq_false h2]
      cases decide (a.toInt < b.toInt) <;> rfl

/-- The arg-max fold from `-∞`, over positions listed in any order, ends with the pair of the first maximum among them. -/
theorem argmax_fold {ι : Type} (hn : n ≤ 2 ^ 31) (u : Fin n → EReal) (hu : ∀ e, ⊥ < u e) (pos : ι → Fin n) (l : List ι) (hl : l ≠ []) :
    ∃ p : Fin n, l.foldl (fun r i => Cert.ReferenceIdeal.reducer_argmax_f32_i32 (F := Ideal) r
        (u (pos i), BitVec.ofNat 32 (pos i).val)) ((⊥ : EReal), 0#32) = (u p, BitVec.ofNat 32 p.val)
      ∧ ∀ i ∈ l, u (pos i) ≤ u p ∧ (pos i < p → u (pos i) < u p) := by
  induction l using List.reverseRecOn with
  | nil => exact absurd rfl hl
  | append_singleton l a ih =>
    have hint : ∀ p : Fin n, (BitVec.ofNat 32 p.val).toInt = (p.val : Int) := fun p =>
      WordCmp.toInt_ofNat_of_lt (lt_of_lt_of_le p.isLt hn)
    rw [List.foldl_append, List.foldl_cons, List.foldl_nil]
    by_cases h0 : l = []
    · subst h0
      refine ⟨pos a, ?_, fun i hi => ?_⟩
      · rw [List.foldl_nil, argmax_step, if_neg]
        rintro (h | h)
        · exact absurd h (not_lt.2 bot_le)
        · exact absurd h.1 (ne_of_lt (hu _))
      · rw [List.nil_append, List.mem_singleton] at hi
        subst hi
        exact ⟨le_rfl, fun h => absurd h (lt_irrefl _)⟩
    · obtain ⟨p, hp, hall⟩ := ih h0
      rw [hp, argmax_step, hint, hint]
      by_cases h : u (pos a) < u p ∨ (u p = u (pos a) ∧ ((p.val : Int) < ((pos a).val : Int)))
      · rw [if_pos h]
        refine ⟨p, rfl, fun i hi => ?_⟩
        rcases List.mem_append.1 hi with hi | hi
        · exact hall i hi
        · rw [List.mem_singleton] at hi
          subst hi
          rcases h with h | h
          · exact ⟨h.le, fun _ => h⟩
          · refine ⟨h.1.ge, fun hlt => ?_⟩
            have := Fin.lt_def.1 hlt
            omega
      · rw [if_neg h]
        have hle : u p ≤ u (pos a) := not_lt.1 fun h' => h (Or.inl h')
        refine ⟨pos a, rfl, fun i hi => ?_⟩
        rcases List.mem_append.1 hi with hi | hi
        · refine ⟨(hall i hi).1.trans hle, fun hlt => ?_⟩
          rcases hle.lt_or_eq with h' | h'
          · exact lt_of_le_of_lt (hall i hi).1 h'
          · have hpa : pos a ≤ p := not_lt.1 fun h'' => h (Or.inr ⟨h', by exact_mod_cast Fin.lt_def.1 h''⟩)
            exact lt_of_lt_of_eq ((hall i hi).2 (lt_of_lt_of_le hlt hpa)) h'
        · rw [List.mem_singleton] at hi
          subst hi
          exact ⟨le_rfl, fun h => absurd h (lt_irrefl _)⟩

/-- The maximum, folded from `-∞` over a set that is not empty, bounds every value and is one of them. -/
theorem max_fold {ι : Type} [DecidableEq ι] (v : ι → EReal) (s : Finset ι) (hs : s.Nonempty)
    [Std.Commutative (FloatOps.maximumf (F := Ideal) (φ := .f32))] [Std.Associative (FloatOps.maximumf (F := Ideal) (φ := .f32))] :
    (∀ i ∈ s, v i ≤ s.fold (FloatOps.maximumf (F := Ideal) (φ := .f32)) (⊥ : EReal) v)
      ∧ ∃ i ∈ s, v i = s.fold (FloatOps.maximumf (F := Ideal) (φ := .f32)) (⊥ : EReal) v := by
  induction hs using Finset.Nonempty.cons_induction with
  | singleton a =>
    rw [Finset.fold_singleton]
    have : FloatOps.maximumf (F := Ideal) (φ := .f32) (v a) (⊥ : EReal) = v a := max_eq_left bot_le
    rw [this]
    exact ⟨fun i hi => by rw [Finset.mem_singleton.1 hi], a, Finset.mem_singleton_self a, rfl⟩
  | cons a s ha hs ih =>
    obtain ⟨h1, j, hj, h2⟩ := ih
    rw [Finset.fold_cons]
    generalize s.fold (FloatOps.maximumf (F := Ideal) (φ := .f32)) (⊥ : EReal) v = M at h1 h2
    have hm : FloatOps.maximumf (F := Ideal) (φ := .f32) (v a) M = max (v a) M := rfl
    rw [hm]
    refine ⟨fun i hi => ?_, ?_⟩
    · rcases Finset.mem_cons.1 hi with h | h
      · rw [h]; exact le_max_left _ _
      · exact (h1 i h).trans (le_max_right _ _)
    · rcases le_total (v a) M with h | h
      · exact ⟨j, Finset.mem_cons.2 (Or.inr hj), by rw [max_eq_right h, h2]⟩
      · exact ⟨a, Finset.mem_cons_self a s, by rw [max_eq_left h]⟩

/-- The signed minimum, folded from a bound that no word of the set exceeds, over a set that is not empty: at most every
    word, and one of them. -/
theorem min_fold {ι : Type} [DecidableEq ι] (w : ι → BitVec 32) (z : BitVec 32) (s : Finset ι) (hs : s.Nonempty)
    (hz : ∀ i ∈ s, (w i).toInt ≤ z.toInt) :
    (∀ i ∈ s, (s.fold IKind.minsi.op z w).toInt ≤ (w i).toInt) ∧ ∃ i ∈ s, (s.fold IKind.minsi.op z w).toInt = (w i).toInt := by
  have hop : ∀ x y : BitVec 32, (IKind.minsi.op x y).toInt = min x.toInt y.toInt := fun x y => by
    show (IntOp.minsi x y).toInt = _
    simp only [IntOp.minsi, BitVec.slt, decide_eq_true_eq]
    split_ifs <;> omega
  induction hs using Finset.Nonempty.cons_induction with
  | singleton a =>
    rw [Finset.fold_singleton, hop, min_eq_left (hz a (Finset.mem_singleton_self a))]
    exact ⟨fun i hi => by rw [Finset.mem_singleton.1 hi], a, Finset.mem_singleton_self a, rfl⟩
  | cons a s ha hs ih =>
    obtain ⟨h1, j, hj, h2⟩ := ih fun i hi => hz i (Finset.mem_cons.2 (Or.inr hi))
    rw [Finset.fold_cons, hop]
    generalize (s.fold IKind.minsi.op z w).toInt = M at h1 h2
    refine ⟨fun i hi => ?_, ?_⟩
    · rcases Finset.mem_cons.1 hi with h | h
      · rw [h]; exact min_le_left _ _
      · exact (min_le_right _ _).trans (h1 i h)
    · rcases le_total (w a).toInt M with h | h
      · exact ⟨a, Finset.mem_cons_self a s, by rw [min_eq_left h]⟩
      · exact ⟨j, Finset.mem_cons.2 (Or.inr hj), by rw [min_eq_right h, h2]⟩

/-- The least of the positions whose value is the maximum `M`, the other positions counted as `n`, is the first maximum. -/
theorem least_max {ι : Type} (hn : n < 2 ^ 31) (v : Fin n → EReal) (pos : ι → Fin n) (hpos : Function.Surjective pos) (M : EReal)
    (hle : ∀ e, v e ≤ M) (hex : ∃ e, v e = M) (r : BitVec 32)
    (hr1 : ∀ i, r.toInt ≤ (if v (pos i) = M then BitVec.ofNat 32 (pos i).val else BitVec.ofNat 32 n).toInt)
    (hr2 : ∃ i, r.toInt = (if v (pos i) = M then BitVec.ofNat 32 (pos i).val else BitVec.ofNat 32 n).toInt) :
    ∃ p, r = BitVec.ofNat 32 p.val ∧ FirstMax v p := by
  have hint : ∀ a, a ≤ n → (BitVec.ofNat 32 a).toInt = (a : Int) := fun a ha => WordCmp.toInt_ofNat_of_lt (lt_of_le_of_lt ha hn)
  have hb : ∀ e, v e = M → r.toInt ≤ e.val := fun e he => by
    obtain ⟨i, rfl⟩ := hpos e
    have := hr1 i
    rwa [if_pos he, hint _ (pos i).isLt.le] at this
  obtain ⟨e0, he0⟩ := hex
  obtain ⟨i, hi⟩ := hr2
  by_cases hv : v (pos i) = M
  · rw [if_pos hv] at hi
    refine ⟨pos i, BitVec.eq_of_toInt_eq hi, fun e => (hle e).trans hv.ge, fun e he => ?_⟩
    rw [hv]
    refine lt_of_le_of_ne (hle e) fun h => ?_
    have h1 := hb e h
    rw [hi, hint _ (pos i).isLt.le] at h1
    have := Fin.lt_def.1 he
    omega
  · rw [if_neg hv, hint n le_rfl] at hi
    have h1 := hb e0 he0
    have := e0.isLt
    omega

end Cert.Head
-- ==== Proof.Value.Row.lean ====
/- The kernel's steps over the entities at the extended reals: a chunk of weights from the folded query, and the last grid
   point's normalised row and target row from the complete row of weights. -/
module

public import proofs.«01_k».proof.Proof.Value.Fold
public import proofs.«01_k».proof.Proof.Value.Pick

@[expose] public section

set_option maxRecDepth 40000

noncomputable section

namespace Cert.Head

open Idealize.ShloMosaic
open scoped BigOperators

/-- A row divided by its sum, unless the sum is zero. -/
def unit (v : Fin 16384 → EReal) (e : Fin 16384) : EReal := if (∑ i, v i) ≠ 0 then Ideal.div (v e) (∑ i, v i) else v e

/-- Dividing a row of reals that aren't negative by its sum, unless that is zero, keeps the order of its values. -/
theorem unit_order {v : Fin 16384 → EReal} (hv : ∀ e, ∃ r : ℝ, 0 ≤ r ∧ v e = (r : EReal)) :
    (∀ a b, v a < v b ↔ unit v a < unit v b) ∧ (∀ e, ⊥ < unit v e) := by
  choose r hr hvr using hv
  obtain rfl : v = fun e => (r e : EReal) := funext hvr
  rcases (Finset.sum_nonneg fun e (_ : e ∈ Finset.univ) => hr e).eq_or_lt with hs | hs
  · have hu : ∀ e, unit (fun e => (r e : EReal)) e = (r e : EReal) := fun e => by
      unfold unit
      rw [sum_coe, ← hs, if_neg (not_not.2 EReal.coe_zero)]
    exact ⟨fun a b => by rw [hu, hu], fun e => by rw [hu]; exact EReal.bot_lt_coe _⟩
  · have hu : ∀ e, unit (fun e => (r e : EReal)) e = ((r e * (1 / ∑ i, r i) : ℝ) : EReal) := fun e => by
      unfold unit
      rw [sum_coe, if_pos (by exact_mod_cast hs.ne'), Ideal.div_coe hs.ne', ← EReal.coe_mul]
    have hp : 0 < 1 / ∑ i, r i := one_div_pos.mpr hs
    refine ⟨fun a b => ?_, fun e => by rw [hu]; exact EReal.bot_lt_coe _⟩
    rw [hu, hu, EReal.coe_lt_coe_iff, EReal.coe_lt_coe_iff]
    exact (mul_lt_mul_iff_left₀ hp).symm

end Cert.Head

namespace Cert.KernelIdeal.Dma

open Cert.KernelIdeal Cert.KernelIdeal.Gen Cert.Head
open Idealize.ShloMosaic Idealize.ShloMosaic.ValueIdx
open scoped BigOperators

/-- A chunk's weight at a column: that of the folded query against the chunk's row, plus the offset. -/
theorem pay1_apply (q : Vec Ideal S1x256 .f32) (t : Vec Ideal S2048x256 .f32) (b : Elt Ideal .f32) (j : Fin 2048) :
    k0_pay1 (F := Ideal) q t b (ix2 0 j) = weight ((∑ k : Fin 256, q (ix2 0 k) * t (ix2 j k)) + b) := by
  unfold k0_pay1
  rw [shapeCast_self]
  exact congrArg (fun s : EReal => weight (s + b)) (dotRows (K := 256) (N := 2048) dot_S1x256_S2048x256_S1x2048_1_1_0_0_n_n rfl none q t j)

/-- Every index of a row's rank-three form reduces to the one position of the result. -/
theorem drop_all {n : ℕ} (hr : Shape.Reduces ⟨3, ![1, 1, n]⟩ [1, 2] S1) (j : S1.Idx) :
    (Finset.univ.filter fun i => hr.drop i = j) = Finset.univ :=
  Finset.filter_true_of_mem fun i _ => funext fun b => by fin_cases b; exact Subsingleton.elim (α := Fin 1) _ _

/-- An index of a row, as its column. -/
theorem row_idx {n : ℕ} (i : (⟨2, ![1, n]⟩ : Shape).Idx) : i = ix2 (0 : Fin 1) (i 1) := by
  refine (eq_ix2 i).trans ?_
  exact congrArg (fun a => ix2 a (i 1)) (Subsingleton.elim (α := Fin 1) _ _)

/-- The maximum over an entire row, taken by way of a rank-three shape and extracted: it bounds every value and is one of them. -/
theorem maxRow {n : ℕ} (hn : 0 < n) (v : FVec Ideal ⟨2, ![1, n]⟩ .f32) (h1 : Shape.ShapeCasts ⟨2, ![1, n]⟩ ⟨3, ![1, 1, n]⟩)
    (hr : Shape.Reduces ⟨3, ![1, 1, n]⟩ [1, 2] S1) (hφ : FKind.Formats .f32) (ha : (0xFF800000#32) = FKind.maximumf.neutral .f32 hφ)
    (h2 : S1.ShapeCasts S1x1x1) (h3 : ∀ a, (![0, 0, 0] : Fin 3 → Nat) a < S1x1x1.size a) (M : EReal)
    (hM : M = extractAt ![0, 0, 0] (shapeCast S1x1x1 (multiReduction (F := Ideal) .maximumf [1, 2] S1 (shapeCast ⟨3, ![1, 1, n]⟩ v h1) 0xFF800000#32 hr hφ ha) h2) h3) :
    (∀ e : Fin n, v (ix2 0 e) ≤ M) ∧ ∃ e : Fin n, v (ix2 0 e) = M := by
  have hbot : (FloatOps.ofBits (F := Ideal) .f32 0xFF800000#32 : EReal) = ⊥ := by
    show Ideal.ofBits .f32 0xFF800000#32 = ⊥
    simp [Ideal.ofBits, Ideal.ieee]
  unfold extractAt at hM
  rw [shapeCast, multiReduction_maximumf_eq_fold, drop_all, hbot] at hM
  obtain ⟨hle, i, -, hi⟩ := max_fold (shapeCast ⟨3, ![1, 1, n]⟩ v h1) Finset.univ ⟨ix3 0 0 ⟨0, hn⟩, Finset.mem_univ _⟩
  rw [← hM] at hle hi
  refine ⟨fun e => ?_, (Shape.reshapeEquiv h1 i) 1, ?_⟩
  · have := hle ((Shape.reshapeEquiv h1).symm (ix2 0 e)) (Finset.mem_univ _)
    unfold shapeCast at this
    rwa [Equiv.apply_symm_apply] at this
  · rw [← hi]
    exact congrArg v (row_idx _).symm

/-- The signed minimum over an entire row, likewise: at most every word, and one of them. -/
theorem minRow {n : ℕ} (hn : 0 < n) (v : IVec ⟨2, ![1, n]⟩ 32) (h1 : Shape.ShapeCasts ⟨2, ![1, n]⟩ ⟨3, ![1, 1, n]⟩)
    (hr : Shape.Reduces ⟨3, ![1, 1, n]⟩ [1, 2] S1) (ha : (2147483647#32) = IKind.minsi.neutral)
    (h2 : S1.ShapeCasts S1x1x1) (h3 : ∀ a, (![0, 0, 0] : Fin 3 → Nat) a < S1x1x1.size a) (r : BitVec 32)
    (hM : r = extractAt ![0, 0, 0] (shapeCast S1x1x1 (multiReductionI .minsi [1, 2] S1 (shapeCast ⟨3, ![1, 1, n]⟩ v h1) 2147483647#32 hr ha) h2) h3) :
    (∀ e : Fin n, r.toInt ≤ (v (ix2 0 e)).toInt) ∧ ∃ e : Fin n, r.toInt = (v (ix2 0 e)).toInt := by
  unfold extractAt at hM
  rw [shapeCast, multiReductionI_eq_fold, drop_all] at hM
  obtain ⟨hle, i, -, hi⟩ := min_fold (shapeCast ⟨3, ![1, 1, n]⟩ v h1) 2147483647#32 Finset.univ ⟨ix3 0 0 ⟨0, hn⟩, Finset.mem_univ _⟩
    (fun i _ => by
      have := BitVec.toInt_lt (x := shapeCast ⟨3, ![1, 1, n]⟩ v h1 i)
      have hz : (2147483647#32).toInt = 2147483647 := by decide
      omega)
  rw [← hM] at hle hi
  refine ⟨fun e => ?_, (Shape.reshapeEquiv h1 i) 1, ?_⟩
  · have := hle ((Shape.reshapeEquiv h1).symm (ix2 0 e)) (Finset.mem_univ _)
    unfold shapeCast at this
    rwa [Equiv.apply_symm_apply] at this
  · rw [hi]
    exact congrArg (fun i => (v i).toInt) (row_idx _)

/-- A row of words that, where the bit of a comparison is set, holds the column and elsewhere a bound. -/
theorem pick_word (x M : EReal) (a b : BitVec 32) : Scalar.select (Ideal.cmp .oeq x M) a b = if x = M then a else b := by
  rw [cmp_oeq]
  by_cases h : x = M
  · rw [if_pos h, decide_eq_true h]; rfl
  · rw [if_neg h, decide_eq_false h]; rfl

/-- The bit that sets the target: the column is the pick and the mask's word is zero. -/
theorem target_bit (a b x : BitVec 32) (y z : EReal) :
    Scalar.select (IntOp.andi (IntOp.cmpi .eq a b) (IntOp.xori (IntOp.cmpi .ne x 0#32) 1#1)) y z = if a = b ∧ x = 0#32 then y else z := by
  rw [WordCmp.cmpi_eq_eq, WordCmp.cmpi_ne_eq]
  by_cases h1 : a = b <;> by_cases h2 : x = 0#32 <;> simp [h1, h2, IntOp.andi, IntOp.xori, Scalar.select]

/-- The first row's arithmetic, on the row's sum. -/
theorem pay2_eq {F : FTy → Type} [FloatOps F] (v : Vec F S1x16384 .f32) (s : F .f32)
    (hs : s = extractAt ![0, 0, 0] (shapeCast S1x1x1 (multiReduction .add [1, 2] S1
      (shapeCast S1x1x16384 v shapeCasts_S1x16384_S1x1x16384) 0x00000000#32 reduces_S1x1x16384_S1 (.inl rfl) rfl) shapeCasts_S1_S1x1x1)
      inpos_S1x1x1_p0_0_0) :
    k0_pay2 v = (Scalar.select (Scalar.cmpf .one s (Scalar.ofBits .f32 0x00000000#32)) (divf v (broadcast S1x16384 s)) v : FVec F S1x16384 .f32) := by
  subst hs; rfl

/-- The second row's arithmetic, on the row's maximum and the least column that holds it. -/
theorem pay3_eq {F : FTy → Type} [FloatOps F] (v : Vec F S1x16384 .f32) (mask : Vec F S1x16384 .i32) (M : F .f32) (r : BitVec 32)
    (hM : M = extractAt ![0, 0, 0] (shapeCast S1x1x1 (multiReduction .maximumf [1, 2] S1
      (shapeCast S1x1x16384 v shapeCasts_S1x16384_S1x1x16384) 0xFF800000#32 reduces_S1x1x16384_S1 (.inl rfl) rfl) shapeCasts_S1_S1x1x1)
      inpos_S1x1x1_p0_0_0)
    (hr : r = extractAt ![0, 0, 0] (shapeCast S1x1x1 (multiReductionI .minsi [1, 2] S1
      (shapeCast S1x1x16384 (select (cmpf .oeq v (broadcast S1x16384 M)) (iota .tc S1x16384 32 [1] iota_S1x16384_d1_w32)
        (broadcast S1x16384 16384#32)) shapeCasts_S1x16384_S1x1x16384) 2147483647#32 reduces_S1x1x16384_S1 rfl) shapeCasts_S1_S1x1x1)
      inpos_S1x1x1_p0_0_0) :
    k0_pay3 v mask = select (andi (cmpi .eq (iota .tc S1x16384 32 [1] iota_S1x16384_d1_w32) (broadcast S1x16384 r))
      (xori (cmpi .ne (shapeCast S1x16384 mask shapeCasts_S1x16384_S1x16384) (constantI S1x16384 32 0#32)) (constantI S1x16384 1 1#1)))
      (broadcast S1x16384 (Scalar.ofBits .f32 0x3F800000#32)) (broadcast S1x16384 (Scalar.ofBits .f32 0x00000000#32)) := by
  unfold k0_pay3
  dsimp only
  rw [← hM, ← hr]

/-- The last grid point's first row: the weights divided by their sum. -/
theorem pay2_apply (v : Vec Ideal S1x16384 .f32) (w : Fin 16384 → EReal) (hv : ∀ e, v (ix2 0 e) = w e) (e : Fin 16384) :
    k0_pay2 (F := Ideal) v (ix2 0 e) = unit w e := by
  have hs := sumRow (n := 16384) v shapeCasts_S1x16384_S1x1x16384 reduces_S1x1x16384_S1 (.inl rfl) rfl shapeCasts_S1_S1x1x1 inpos_S1x1x1_p0_0_0
  have hw : (∑ j : Fin 16384, (v (ix2 0 j) : EReal)) = ∑ j, w j := Finset.sum_congr rfl fun j _ => hv j
  rw [hw] at hs
  have key : ∀ s : EReal, s = ∑ j, w j → (Scalar.select (Ideal.cmp .one s (Ideal.ofBits .f32 0x00000000#32)) (divf (F := Ideal) v (broadcast S1x16384 s)) v : FVec Ideal S1x16384 .f32) (ix2 0 e) = unit w e := by
    intro s hs
    rw [Ideal.ofBits_zero_f32]
    unfold unit
    rw [← hs]
    by_cases h : s ≠ 0
    · rw [if_pos h, WordCmp.select_of_eq_one (by show BitVec.ofBool (decide (s ≠ 0)) = 1#1; rw [decide_eq_true h]; rfl)]
      exact congrArg (fun a : EReal => Ideal.div a s) (hv e)
    · rw [if_neg h, WordCmp.select_of_eq_zero (by show BitVec.ofBool (decide (s ≠ 0)) = 0#1; rw [decide_eq_false h]; rfl)]
      exact hv e
  rw [pay2_eq v _ hs.symm]
  exact key (∑ j, w j) rfl

/-- The last grid point's second row: one at the first maximum of the weights where the mask is zero there, and zeros. -/
theorem pay3_apply (v : Vec Ideal S1x16384 .f32) (w : Fin 16384 → EReal) (hv : ∀ e, v (ix2 0 e) = w e) (mask : Vec Ideal S1x16384 .i32) :
    ∃ p, FirstMax w p ∧ ∀ e, k0_pay3 (F := Ideal) v mask (ix2 0 e) = if e = p ∧ mask (ix2 0 e) = 0#32 then (1 : EReal) else 0 := by
  obtain ⟨M, hM⟩ : ∃ M, M = extractAt ![0, 0, 0] (shapeCast S1x1x1 (multiReduction (F := Ideal) .maximumf [1, 2] S1
      (shapeCast S1x1x16384 v shapeCasts_S1x16384_S1x1x16384) 0xFF800000#32 reduces_S1x1x16384_S1 (.inl rfl) rfl) shapeCasts_S1_S1x1x1)
      inpos_S1x1x1_p0_0_0 := ⟨_, rfl⟩
  obtain ⟨hle, hex⟩ := maxRow (n := 16384) (by decide) v _ _ _ _ _ _ M hM
  obtain ⟨r, hr⟩ : ∃ r, r = extractAt ![0, 0, 0] (shapeCast S1x1x1 (multiReductionI .minsi [1, 2] S1
      (shapeCast S1x1x16384 (select (cmpf .oeq v (broadcast S1x16384 M)) (iota .tc S1x16384 32 [1] iota_S1x16384_d1_w32)
        (broadcast S1x16384 16384#32)) shapeCasts_S1x16384_S1x1x16384) 2147483647#32 reduces_S1x1x16384_S1 rfl) shapeCasts_S1_S1x1x1)
      inpos_S1x1x1_p0_0_0 := ⟨_, rfl⟩
  obtain ⟨hr1, hr2⟩ := minRow (n := 16384) (by decide) _ _ _ _ _ _ r hr
  have hcol : ∀ e : Fin 16384, iota .tc S1x16384 32 [1] iota_S1x16384_d1_w32 (ix2 0 e) = BitVec.ofNat 32 e.val := fun e =>
    iota_single_apply _ _ _ _ _ _
  have hword : ∀ e : Fin 16384, select (cmpf .oeq v (broadcast S1x16384 M)) (iota .tc S1x16384 32 [1] iota_S1x16384_d1_w32)
      (broadcast S1x16384 16384#32) (ix2 0 e) = if w e = M then BitVec.ofNat 32 e.val else BitVec.ofNat 32 16384 := fun e => by
    refine (pick_word (v (ix2 0 e)) M _ _).trans ?_
    rw [hv, hcol]
    rfl
  obtain ⟨p, hp, hfm⟩ := least_max (n := 16384) (by norm_num) w id Function.surjective_id M (fun e => hv e ▸ hle e)
    (hex.imp fun e he => hv e ▸ he) r (fun e => hword e ▸ hr1 e) (hr2.imp fun e he => hword e ▸ he)
  refine ⟨p, hfm, fun e => ?_⟩
  rw [pay3_eq v mask M r hM hr]
  refine (target_bit _ _ _ _ _).trans ?_
  rw [shapeCast_self, hcol, hp]
  show (if _ then Ideal.ofBits .f32 0x3F800000#32 else Ideal.ofBits .f32 0x00000000#32) = _
  rw [Ideal.ofBits_zero_f32, Ideal.ofBits_one_f32]
  have hiff : (BitVec.ofNat 32 e.val = BitVec.ofNat 32 p.val) ↔ e = p := by
    constructor
    · intro h
      have h' := congrArg BitVec.toNat h
      rw [BitVec.toNat_ofNat, BitVec.toNat_ofNat] at h'
      have := e.isLt; have := p.isLt
      exact Fin.ext (by omega)
    · rintro rfl; rfl
  exact if_congr (and_congr_left' hiff) rfl rfl

end Cert.KernelIdeal.Dma

end
-- ==== Proof.Value.Args.lean ====
/- The kernel's blocks in terms of the arguments: each operand's block is its whole array, the rows being the host's reshapes of
   vectors, the mask a widened bit; a chunk of the table is its rows. -/
module

public import proofs.«01_k».proof.Proof.Ideal.Final
public import proofs.«01_k».proof.Proof.Value.Row
public import Idealize.ShloMosaic.Lib.Pipeline.ValueKit

@[expose] public section

noncomputable section

namespace Cert.Head

open Idealize.ShloMosaic

/-- The head's arguments as plain functions, from the arrays that a program is given. -/
def Params.of (a2 : (⟨2, ![16384, 256]⟩ : Shape).Idx → EReal) (a3 : (⟨1, ![1024]⟩ : Shape).Idx → EReal) (a5 : (⟨2, ![32, 256]⟩ : Shape).Idx → EReal)
    (a6 : (⟨1, ![32]⟩ : Shape).Idx → EReal) (a7 : (⟨2, ![256, 1024]⟩ : Shape).Idx → EReal) (a8 : (⟨1, ![256]⟩ : Shape).Idx → EReal)
    (a9 : (⟨2, ![32, 256]⟩ : Shape).Idx → EReal) (a10 : (⟨1, ![32]⟩ : Shape).Idx → EReal) (a13 : (⟨2, ![32, 64]⟩ : Shape).Idx → EReal)
    (a14 : (⟨1, ![32]⟩ : Shape).Idx → EReal) (a15 : (⟨2, ![32, 64]⟩ : Shape).Idx → EReal) (a16 : (⟨1, ![32]⟩ : Shape).Idx → EReal)
    (a17 : (⟨2, ![32, 64]⟩ : Shape).Idx → EReal) (a18 a19 a20 : (⟨1, ![32]⟩ : Shape).Idx → EReal) : Params where
  enc e k := a2 (ValueIdx.ix2 e k)
  ar k := a3 (ValueIdx.ix1 k)
  Wk j k := a5 (ValueIdx.ix2 j k)
  bk j := a6 (ValueIdx.ix1 j)
  W0 j k := a7 (ValueIdx.ix2 j k)
  b0 j := a8 (ValueIdx.ix1 j)
  W1 j k := a9 (ValueIdx.ix2 j k)
  b1 j := a10 (ValueIdx.ix1 j)
  Wi0 j k := a13 (ValueIdx.ix2 j k)
  bi0 j := a14 (ValueIdx.ix1 j)
  Wi1 j k := a15 (ValueIdx.ix2 j k)
  bi1 j := a16 (ValueIdx.ix1 j)
  Wo j k := a17 (ValueIdx.ix2 j k)
  bo j := a18 (ValueIdx.ix1 j)
  lnw j := a19 (ValueIdx.ix1 j)
  lnb j := a20 (ValueIdx.ix1 j)

end Cert.Head

namespace Cert.KernelIdeal.Dma

open Cert.KernelIdeal Cert.KernelIdeal.Gen Cert.Head
open Idealize.ShloMosaic hiding ix0 ix1 ix2 ix3
open Idealize.ShloMosaic.ValueIdx

/-- A vector reshaped to a row, at a column. -/
theorem row_of_vec {α : Type} {n : ℕ} (v : (⟨1, ![n]⟩ : Shape).Idx → α) (h : Shape.ShapeCasts ⟨1, ![n]⟩ ⟨2, ![1, n]⟩) (k : Fin n) :
    shapeCast ⟨2, ![1, n]⟩ v h (ix2 (0 : Fin 1) k) = v (ix1 k) :=
  shapeCast_apply _ _ _ _ (by rw [Shape.rowMajor_val_one, Shape.rowMajor_val_two]; simp; rfl)

variable {F : FTy → Type} [FloatOps F] (m : (ℓ : Loc nD τ sig) → Buf (Elt F) ℓ)

/-- Operand 2's block is argument 5. -/
theorem iblk_2 (c : Dev nD) (t : Fin cfg0.N) (j : Fin 32) (k : Fin 256) :
    iblk m c 2 t (ix2 j k) = (m ((c.tc : Thread nD τ).loc main_arg5) : (⟨2, ![32, 256]⟩ : Shape).Idx → F .f32) (ix2 j k) := by
  have e : ∀ t : Fin cfg0.N, win0_2.index t = ![0, 0] := by decide +kernel
  unfold iblk
  refine (?_ : _ = V m c main_arg5 (ix2 j k)).trans (congrFun (V_main_arg5 m c) (ix2 j k))
  show V m c main_arg5 _ = _
  congr 1
  blk_ext [e]

/-- Operand 4's block is argument 7. -/
theorem iblk_4 (c : Dev nD) (t : Fin cfg0.N) (j : Fin 256) (k : Fin 1024) :
    iblk m c 4 t (ix2 j k) = (m ((c.tc : Thread nD τ).loc main_arg7) : (⟨2, ![256, 1024]⟩ : Shape).Idx → F .f32) (ix2 j k) := by
  have e : ∀ t : Fin cfg0.N, win0_4.index t = ![0, 0] := by decide +kernel
  unfold iblk
  refine (?_ : _ = V m c main_arg7 (ix2 j k)).trans (congrFun (V_main_arg7 m c) (ix2 j k))
  show V m c main_arg7 _ = _
  congr 1
  blk_ext [e]

/-- Operand 6's block is argument 9. -/
theorem iblk_6 (c : Dev nD) (t : Fin cfg0.N) (j : Fin 32) (k : Fin 256) :
    iblk m c 6 t (ix2 j k) = (m ((c.tc : Thread nD τ).loc main_arg9) : (⟨2, ![32, 256]⟩ : Shape).Idx → F .f32) (ix2 j k) := by
  have e : ∀ t : Fin cfg0.N, win0_6.index t = ![0, 0] := by decide +kernel
  unfold iblk
  refine (?_ : _ = V m c main_arg9 (ix2 j k)).trans (congrFun (V_main_arg9 m c) (ix2 j k))
  show V m c main_arg9 _ = _
  congr 1
  blk_ext [e]

/-- Operand 10's block is argument 13. -/
theorem iblk_10 (c : Dev nD) (t : Fin cfg0.N) (j : Fin 32) (k : Fin 64) :
    iblk m c 10 t (ix2 j k) = (m ((c.tc : Thread nD τ).loc main_arg13) : (⟨2, ![32, 64]⟩ : Shape).Idx → F .f32) (ix2 j k) := by
  have e : ∀ t : Fin cfg0.N, win0_10.index t = ![0, 0] := by decide +kernel
  unfold iblk
  refine (?_ : _ = V m c main_arg13 (ix2 j k)).trans (congrFun (V_main_arg13 m c) (ix2 j k))
  show V m c main_arg13 _ = _
  congr 1
  blk_ext [e]

/-- Operand 12's block is argument 15. -/
theorem iblk_12 (c : Dev nD) (t : Fin cfg0.N) (j : Fin 32) (k : Fin 64) :
    iblk m c 12 t (ix2 j k) = (m ((c.tc : Thread nD τ).loc main_arg15) : (⟨2, ![32, 64]⟩ : Shape).Idx → F .f32) (ix2 j k) := by
  have e : ∀ t : Fin cfg0.N, win0_12.index t = ![0, 0] := by decide +kernel
  unfold iblk
  refine (?_ : _ = V m c main_arg15 (ix2 j k)).trans (congrFun (V_main_arg15 m c) (ix2 j k))
  show V m c main_arg15 _ = _
  congr 1
  blk_ext [e]

/-- Operand 14's block is argument 17. -/
theorem iblk_14 (c : Dev nD) (t : Fin cfg0.N) (j : Fin 32) (k : Fin 64) :
    iblk m c 14 t (ix2 j k) = (m ((c.tc : Thread nD τ).loc main_arg17) : (⟨2, ![32, 64]⟩ : Shape).Idx → F .f32) (ix2 j k) := by
  have e : ∀ t : Fin cfg0.N, win0_14.index t = ![0, 0] := by decide +kernel
  unfold iblk
  refine (?_ : _ = V m c main_arg17 (ix2 j k)).trans (congrFun (V_main_arg17 m c) (ix2 j k))
  show V m c main_arg17 _ = _
  congr 1
  blk_ext [e]

/-- Operand 1's block is argument 3 as a row. -/
theorem iblk_1 (c : Dev nD) (t : Fin cfg0.N) (k : Fin 1024) :
    iblk m c 1 t (ix2 (0 : Fin 1) k) = (m ((c.tc : Thread nD τ).loc main_arg3) : (⟨1, ![1024]⟩ : Shape).Idx → F .f32) (ix1 k) := by
  have e : ∀ t : Fin cfg0.N, win0_1.index t = ![0, 0] := by decide +kernel
  have hV : V m c main_v1 = shapeCast S1x1024 (m ((c.tc : Thread nD τ).loc main_arg3)) shapeCasts_S1024_S1x1024 := by
    show StableHlo.after (List.flatten [hostOps0]) _ _ = _
    simp only [hostOps0, List.flatten_cons, List.flatten_nil, List.append_nil, List.cons_append, List.nil_append]
    after_results_simp
    rfl
  unfold iblk
  refine (?_ : _ = V m c main_v1 (ix2 0 k)).trans (by rw [hV]; exact row_of_vec _ _ k)
  show V m c main_v1 _ = _
  congr 1
  blk_ext [e]

/-- Operand 3's block is argument 6 as a row. -/
theorem iblk_3 (c : Dev nD) (t : Fin cfg0.N) (k : Fin 32) :
    iblk m c 3 t (ix2 (0 : Fin 1) k) = (m ((c.tc : Thread nD τ).loc main_arg6) : (⟨1, ![32]⟩ : Shape).Idx → F .f32) (ix1 k) := by
  have e : ∀ t : Fin cfg0.N, win0_3.index t = ![0, 0] := by decide +kernel
  have hV : V m c main_v2 = shapeCast S1x32 (m ((c.tc : Thread nD τ).loc main_arg6)) shapeCasts_S32_S1x32 := by
    show StableHlo.after (List.flatten [hostOps0]) _ _ = _
    simp only [hostOps0, List.flatten_cons, List.flatten_nil, List.append_nil, List.cons_append, List.nil_append]
    after_results_simp
    rfl
  unfold iblk
  refine (?_ : _ = V m c main_v2 (ix2 0 k)).trans (by rw [hV]; exact row_of_vec _ _ k)
  show V m c main_v2 _ = _
  congr 1
  blk_ext [e]

/-- Operand 5's block is argument 8 as a row. -/
theorem iblk_5 (c : Dev nD) (t : Fin cfg0.N) (k : Fin 256) :
    iblk m c 5 t (ix2 (0 : Fin 1) k) = (m ((c.tc : Thread nD τ).loc main_arg8) : (⟨1, ![256]⟩ : Shape).Idx → F .f32) (ix1 k) := by
  have e : ∀ t : Fin cfg0.N, win0_5.index t = ![0, 0] := by decide +kernel
  have hV : V m c main_v3 = shapeCast S1x256 (m ((c.tc : Thread nD τ).loc main_arg8)) shapeCasts_S256_S1x256 := by
    show StableHlo.after (List.flatten [hostOps0]) _ _ = _
    simp only [hostOps0, List.flatten_cons, List.flatten_nil, List.append_nil, List.cons_append, List.nil_append]
    after_results_simp
    rfl
  unfold iblk
  refine (?_ : _ = V m c main_v3 (ix2 0 k)).trans (by rw [hV]; exact row_of_vec _ _ k)
  show V m c main_v3 _ = _
  congr 1
  blk_ext [e]

/-- Operand 7's block is argument 10 as a row. -/
theorem iblk_7 (c : Dev nD) (t : Fin cfg0.N) (k : Fin 32) :
    iblk m c 7 t (ix2 (0 : Fin 1) k) = (m ((c.tc : Thread nD τ).loc main_arg10) : (⟨1, ![32]⟩ : Shape).Idx → F .f32) (ix1 k) := by
  have e : ∀ t : Fin cfg0.N, win0_7.index t = ![0, 0] := by decide +kernel
  have hV : V m c main_v4 = shapeCast S1x32 (m ((c.tc : Thread nD τ).loc main_arg10)) shapeCasts_S32_S1x32 := by
    show StableHlo.after (List.flatten [hostOps0]) _ _ = _
    simp only [hostOps0, List.flatten_cons, List.flatten_nil, List.append_nil, List.cons_append, List.nil_append]
    after_results_simp
    rfl
  unfold iblk
  refine (?_ : _ = V m c main_v4 (ix2 0 k)).trans (by rw [hV]; exact row_of_vec _ _ k)
  show V m c main_v4 _ = _
  congr 1
  blk_ext [e]

/-- Operand 11's block is argument 14 as a row. -/
theorem iblk_11 (c : Dev nD) (t : Fin cfg0.N) (k : Fin 32) :
    iblk m c 11 t (ix2 (0 : Fin 1) k) = (m ((c.tc : Thread nD τ).loc main_arg14) : (⟨1, ![32]⟩ : Shape).Idx → F .f32) (ix1 k) := by
  have e : ∀ t : Fin cfg0.N, win0_11.index t = ![0, 0] := by decide +kernel
  have hV : V m c main_v6 = shapeCast S1x32 (m ((c.tc : Thread nD τ).loc main_arg14)) shapeCasts_S32_S1x32 := by
    show StableHlo.after (List.flatten [hostOps0]) _ _ = _
    simp only [hostOps0, List.flatten_cons, List.flatten_nil, List.append_nil, List.cons_append, List.nil_append]
    after_results_simp
    rfl
  unfold iblk
  refine (?_ : _ = V m c main_v6 (ix2 0 k)).trans (by rw [hV]; exact row_of_vec _ _ k)
  show V m c main_v6 _ = _
  congr 1
  blk_ext [e]

/-- Operand 13's block is argument 16 as a row. -/
theorem iblk_13 (c : Dev nD) (t : Fin cfg0.N) (k : Fin 32) :
    iblk m c 13 t (ix2 (0 : Fin 1) k) = (m ((c.tc : Thread nD τ).loc main_arg16) : (⟨1, ![32]⟩ : Shape).Idx → F .f32) (ix1 k) := by
  have e : ∀ t : Fin cfg0.N, win0_13.index t = ![0, 0] := by decide +kernel
  have hV : V m c main_v7 = shapeCast S1x32 (m ((c.tc : Thread nD τ).loc main_arg16)) shapeCasts_S32_S1x32 := by
    show StableHlo.after (List.flatten [hostOps0]) _ _ = _
    simp only [hostOps0, List.flatten_cons, List.flatten_nil, List.append_nil, List.cons_append, List.nil_append]
    after_results_simp
    rfl
  unfold iblk
  refine (?_ : _ = V m c main_v7 (ix2 0 k)).trans (by rw [hV]; exact row_of_vec _ _ k)
  show V m c main_v7 _ = _
  congr 1
  blk_ext [e]

/-- Operand 15's block is argument 18 as a row. -/
theorem iblk_15 (c : Dev nD) (t : Fin cfg0.N) (k : Fin 32) :
    iblk m c 15 t (ix2 (0 : Fin 1) k) = (m ((c.tc : Thread nD τ).loc main_arg18) : (⟨1, ![32]⟩ : Shape).Idx → F .f32) (ix1 k) := by
  have e : ∀ t : Fin cfg0.N, win0_15.index t = ![0, 0] := by decide +kernel
  have hV : V m c main_v8 = shapeCast S1x32 (m ((c.tc : Thread nD τ).loc main_arg18)) shapeCasts_S32_S1x32 := by
    show StableHlo.after (List.flatten [hostOps0]) _ _ = _
    simp only [hostOps0, List.flatten_cons, List.flatten_nil, List.append_nil, List.cons_append, List.nil_append]
    after_results_simp
    rfl
  unfold iblk
  refine (?_ : _ = V m c main_v8 (ix2 0 k)).trans (by rw [hV]; exact row_of_vec _ _ k)
  show V m c main_v8 _ = _
  congr 1
  blk_ext [e]

/-- Operand 16's block is argument 19 as a row. -/
theorem iblk_16 (c : Dev nD) (t : Fin cfg0.N) (k : Fin 32) :
    iblk m c 16 t (ix2 (0 : Fin 1) k) = (m ((c.tc : Thread nD τ).loc main_arg19) : (⟨1, ![32]⟩ : Shape).Idx → F .f32) (ix1 k) := by
  have e : ∀ t : Fin cfg0.N, win0_16.index t = ![0, 0] := by decide +kernel
  have hV : V m c main_v9 = shapeCast S1x32 (m ((c.tc : Thread nD τ).loc main_arg19)) shapeCasts_S32_S1x32 := by
    show StableHlo.after (List.flatten [hostOps0]) _ _ = _
    simp only [hostOps0, List.flatten_cons, List.flatten_nil, List.append_nil, List.cons_append, List.nil_append]
    after_results_simp
    rfl
  unfold iblk
  refine (?_ : _ = V m c main_v9 (ix2 0 k)).trans (by rw [hV]; exact row_of_vec _ _ k)
  show V m c main_v9 _ = _
  congr 1
  blk_ext [e]

/-- Operand 17's block is argument 20 as a row. -/
theorem iblk_17 (c : Dev nD) (t : Fin cfg0.N) (k : Fin 32) :
    iblk m c 17 t (ix2 (0 : Fin 1) k) = (m ((c.tc : Thread nD τ).loc main_arg20) : (⟨1, ![32]⟩ : Shape).Idx → F .f32) (ix1 k) := by
  have e : ∀ t : Fin cfg0.N, win0_17.index t = ![0, 0] := by decide +kernel
  have hV : V m c main_v10 = shapeCast S1x32 (m ((c.tc : Thread nD τ).loc main_arg20)) shapeCasts_S32_S1x32 := by
    show StableHlo.after (List.flatten [hostOps0]) _ _ = _
    simp only [hostOps0, List.flatten_cons, List.flatten_nil, List.append_nil, List.cons_append, List.nil_append]
    after_results_simp
    rfl
  unfold iblk
  refine (?_ : _ = V m c main_v10 (ix2 0 k)).trans (by rw [hV]; exact row_of_vec _ _ k)
  show V m c main_v10 _ = _
  congr 1
  blk_ext [e]

/-- The mask operand's block: the mask's bit, widened. -/
theorem iblk_0 (c : Dev nD) (t : Fin cfg0.N) (k : Fin 16384) :
    iblk m c 0 t (ix2 (0 : Fin 1) k) = ((m ((c.tc : Thread nD τ).loc main_arg1) : (⟨1, ![16384]⟩ : Shape).Idx → BitVec 1) (ix1 k)).setWidth 32 := by
  have e : ∀ t : Fin cfg0.N, win0_0.index t = ![0, 0] := by decide +kernel
  have hV : V m c main_v11 = (extui 32 (shapeCast S1x16384 (m ((c.tc : Thread nD τ).loc main_arg1)) shapeCasts_S16384_S1x16384) natLt_1_32 : IVec S1x16384 32) := by
    show StableHlo.after (List.flatten [hostOps0]) _ _ = _
    simp only [hostOps0, List.flatten_cons, List.flatten_nil, List.append_nil, List.cons_append, List.nil_append]
    after_results_simp
    rfl
  unfold iblk
  refine (?_ : _ = V m c main_v11 (ix2 0 k)).trans (by
    rw [hV]
    exact congrArg (fun b : BitVec 1 => b.setWidth 32) (row_of_vec (n := 16384) _ shapeCasts_S16384_S1x16384 k))
  show V m c main_v11 _ = _
  congr 1
  blk_ext [e]

/-- A chunk of the table, at a row and a column: the table there. -/
theorem chunk_apply (c : Dev nD) (W : BufOf (F := F) c hbM) (b : Fin 8) (j : Fin 2048) (k : Fin 256) :
    chunk c W b (ix2 j k) = (W : (⟨2, ![16384, 256]⟩ : Shape).Idx → F .f32) (ix2 ⟨2048 * b.val + j.val, by omega⟩ k) := by
  show W ((srcB b).view.emb (ix2 j k)) = _
  congr 1
  funext a
  apply Fin.ext
  refine (ValueKit.view_emb_slice_whole_unit_val _ _ _ _ _ _).trans ?_
  fin_cases a
  · rfl
  · show 0 + k.val = k.val; omega

end Cert.KernelIdeal.Dma

end
-- ==== Proof.Value.KerValue.lean ====
/- The kernel's two results at the extended reals, in terms of its arguments. -/
module

public import proofs.«01_k».proof.Proof.Value.Args

@[expose] public section

set_option maxRecDepth 40000

noncomputable section

namespace Cert.KernelIdeal.Dma

open Cert.KernelIdeal Cert.KernelIdeal.Gen Cert.Head
open Idealize.ShloMosaic hiding ix0 ix1 ix2 ix3
open Idealize.ShloMosaic.ValueIdx Idealize.ShloMosaic.TcCoe Idealize.SL.Sem
open Idealize.ShloMosaic.Pipeline (Dat)
open scoped BigOperators

/-! ## What the last point stores, as the final arrays -/

section Arrays
variable {F : FTy → Type} [FloatOps F]
variable (m : (ℓ : Loc nD τ sig) → Buf (Elt F) ℓ)

/-- The last grid point. -/
abbrev tLast : Fin cfg0.N := ⟨7, by decide⟩

/-- The first result's array: the unit row. -/
theorem array_18 (c : Dev nD) : (dats m 0 c).arrAt 18 cfg0.N = k0_pay2 (rowV m c) := by
  refine Dat.arrAt_eq_of_after_last _ 18 tLast (by decide +kernel) _ fun j => ?_
  rw [after_18]
  rfl

/-- The second result's array: the target row. -/
theorem array_19 (c : Dev nD) : (dats m 0 c).arrAt 19 cfg0.N = k0_pay3 (rowV m c) (iblk m c 0 tLast) := by
  refine Dat.arrAt_eq_of_after_last _ 19 tLast (by decide +kernel) _ fun j => ?_
  rw [after_19]
  rfl

/-- What the run leaves in the first result: the normalised row. -/
theorem final_v12_0 {r} (h : Pipeline.FramePost cfgs (dats m) 0 (Pipeline.afterTail₀ cfgs (dats m) 0 (V0 m) [hostOps1]) r) (c : Dev nD) :
    r.2.mem ((c.tc : Thread nD τ).loc main_v12_0) = k0_pay2 (rowV m c) :=
  ((h c).1 18).trans (array_18 m c)

/-- What the run leaves in the second result: the target vector. -/
theorem final_v13 {r} (h : Pipeline.FramePost cfgs (dats m) 0 (Pipeline.afterTail₀ cfgs (dats m) 0 (V0 m) [hostOps1]) r) (c : Dev nD) :
    r.2.mem ((c.tc : Thread nD τ).loc main_v13) = shapeCast S16384 (k0_pay3 (rowV m c) (iblk m c 0 tLast)) shapeCasts_S1x16384_S16384 := by
  refine ((h c).2 main_v13 (Pipeline.mem_restRefs_of main_v13 (by decide) (by decide))).trans ?_
  unfold Pipeline.afterTail₀
  simp only [hostOps1, List.flatten_cons, List.flatten_nil, List.append_nil, List.cons_append, List.nil_append]
  rw [StableHlo.after_cons, StableHlo.after_nil, StableHlo.reshape_result]
  refine congrArg (fun x => shapeCast S16384 x shapeCasts_S1x16384_S16384) ?_
  refine (Dat.withArrays_arrAt (dats m 0 c) (Pipeline.SharedIn.of_injective (by decide : Function.Injective (Pipeline.arrRef spec0))) (V0 m c) (A_eq m c) 19).trans (array_19 m c)

end Arrays

/-! ## In terms of the arguments -/

variable (m : (ℓ : Loc nD τ sig) → Buf (Elt Ideal) ℓ)

/-- The head's arguments, from the kernel's memory. -/
def paramsOf (c : Dev nD) : Params :=
  Params.of (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))

/-- The row of weights. -/
theorem row_weight (c : Dev nD) (e : Fin 16384) : rowV m c (ix2 (0 : Fin 1) e) = weight (simFolded (paramsOf m c) e) := by
  obtain ⟨hq, hb⟩ := foldQ_apply (paramsOf m c) (iblk m c 1 t0_0) (iblk m c 4 t0_0) (iblk m c 5 t0_0) (iblk m c 6 t0_0) (iblk m c 7 t0_0) (iblk m c 10 t0_0) (iblk m c 11 t0_0) (iblk m c 12 t0_0) (iblk m c 13 t0_0) (iblk m c 14 t0_0) (iblk m c 15 t0_0) (iblk m c 16 t0_0) (iblk m c 17 t0_0) (iblk m c 2 t0_0) (iblk m c 3 t0_0)
    (fun k => iblk_1 m c t0_0 k) (fun j k => iblk_4 m c t0_0 j k) (fun k => iblk_5 m c t0_0 k) (fun j k => iblk_6 m c t0_0 j k) (fun k => iblk_7 m c t0_0 k) (fun j k => iblk_10 m c t0_0 j k) (fun k => iblk_11 m c t0_0 k) (fun j k => iblk_12 m c t0_0 j k) (fun k => iblk_13 m c t0_0 k) (fun j k => iblk_14 m c t0_0 j k) (fun k => iblk_15 m c t0_0 k) (fun k => iblk_16 m c t0_0 k) (fun k => iblk_17 m c t0_0 k) (fun j k => iblk_2 m c t0_0 j k) (fun k => iblk_3 m c t0_0 k)
  unfold rowV
  refine (pay1_apply _ _ _ _).trans (congrArg weight (congrArg₂ (fun a b : EReal => a + b) (Finset.sum_congr rfl fun k _ =>
    congrArg₂ (fun a b : EReal => a * b) (hq k) ?_) hb))
  rw [chunk_apply]
  refine (congrFun (V_main_arg2 m c) _).trans (congrArg (fun i : Fin 16384 => (m ((c.tc : Thread nD τ).loc main_arg2) : (⟨2, ![16384, 256]⟩ : Shape).Idx → EReal) (ix2 i k)) (Fin.ext ?_))
  show 2048 * (Ring.bk 8 (e.val / 2048)).val + e.val % 2048 = e.val
  have hb : (Ring.bk 8 (e.val / 2048)).val = e.val / 2048 := Nat.mod_eq_of_lt (by omega)
  rw [hb]; omega

/-- The two results where the table, the key layer's matrix and the norm's weights are real. -/
theorem results (c : Dev nD) (hp : (paramsOf m c).Real) :
    (∀ e : Fin 16384, k0_pay2 (F := Ideal) (rowV m c) (ix2 (0 : Fin 1) e) = unit (fun e => weight (simKeys (paramsOf m c) e)) e)
      ∧ ∃ p, FirstMax (fun e => weight (simKeys (paramsOf m c) e)) p ∧ ∀ e : Fin 16384,
        shapeCast S16384 (k0_pay3 (F := Ideal) (rowV m c) (iblk m c 0 tLast)) shapeCasts_S1x16384_S16384 (ix1 e)
          = if e = p ∧ (m ((c.tc : Thread nD τ).loc main_arg1) : (⟨1, ![16384]⟩ : Shape).Idx → BitVec 1) (ix1 e) = 0#1 then (1 : EReal) else 0 := by
  have hv : ∀ e : Fin 16384, rowV m c (ix2 (0 : Fin 1) e) = weight (simKeys (paramsOf m c) e) := fun e => by
    rw [row_weight, simFolded_eq hp]
  refine ⟨pay2_apply (rowV m c) _ hv, ?_⟩
  obtain ⟨p, hm, ht⟩ := pay3_apply (rowV m c) _ hv (iblk m c 0 tLast)
  refine ⟨p, hm, fun e => ?_⟩
  rw [shapeCast_apply _ _ (ix1 e) (ix2 (0 : Fin 1) e) (by rw [Shape.rowMajor_val_one, Shape.rowMajor_val_two]; show 0 * 16384 + e.val = e.val; omega), ht, iblk_0]
  have hx : ∀ x : BitVec 1, x.setWidth 32 = 0#32 ↔ x = 0#1 := by decide
  simp only [hx]

end Cert.KernelIdeal.Dma

end
-- ==== Proof.Value.Stages.lean ====
/- The reference's stretches as compositions of a few array functions. -/
module

public import proofs.«01_k».proof.Proof.Ref.Run

@[expose] public section

set_option maxRecDepth 16384

noncomputable section

namespace Cert.ReferenceIdeal.Straight

open Cert.ReferenceIdeal Cert.ReferenceIdeal.Gen
open Idealize.ShloMosaic Idealize.ShloMosaic.TcCoe Idealize.ShloMosaic.StableHlo Idealize.SL.Sem

variable {F : FTy → Type} [FloatOps F]

/-- A zero vector. -/
def zeros32 : Vec F S32 .f32 := broadcastInDim S32 ![] bcast_S_S32 (constant (F := F) S_ .f32 0x00000000#32)

/-- The entities' keys. -/
def keysF (T : Vec F S16384x256 .f32) (W : Vec F S32x256 .f32) (b : Vec F S32 .f32) : Vec F S32x16384 .f32 :=
  transpose S32x16384 [1, 0]
    (addf (Host.dotGeneral dot_S16384x256_S256x32_S16384x32_1_0_0_1_n_n none T (transpose S256x32 [1, 0] W transposes_S32x256_S256x32_1_0))
      (broadcastInDim S16384x32 ![0, 1] bcast_S1x32_S16384x32_0_1 (broadcastInDim S1x32 ![1] bcast_S32_S1x32_1 b)))
    transposes_S16384x32_S32x16384_1_0

/-- The first rectified layer. -/
def layer0F (x : Vec F S1024 .f32) (W : Vec F S256x1024 .f32) (b : Vec F S256 .f32) : Vec F S256 .f32 :=
  maximumf (addf (Host.dotGeneral dot_S1024_S1024x256_S256_0_0_n_1_n_n none x (transpose S1024x256 [1, 0] W transposes_S256x1024_S1024x256_1_0)) b)
    (broadcastInDim S256 ![] bcast_S_S256 (constant (F := F) S_ .f32 0x00000000#32))

/-- The second rectified layer. -/
def layer1F (x : Vec F S256 .f32) (W : Vec F S32x256 .f32) (b : Vec F S32 .f32) : Vec F S32 .f32 :=
  maximumf (addf (Host.dotGeneral dot_S256_S256x32_S32_0_0_n_1_n_n none x (transpose S256x32 [1, 0] W transposes_S32x256_S256x32_1_0)) b) zeros32

/-- A gate's linear layer. -/
def linF (x : Vec F S64 .f32) (W : Vec F S32x64 .f32) (b : Vec F S32 .f32) : Vec F S32 .f32 :=
  addf (Host.dotGeneral dot_S64_S64x32_S32_0_0_n_1_n_n none x (transpose S64x32 [1, 0] W transposes_S32x64_S64x32_1_0)) b

/-- The logistic function, spelled out. -/
def sigF (v : Vec F S32 .f32) : Vec F S32 .f32 :=
  Host.divf (broadcastInDim S32 ![] bcast_S_S32 (constant (F := F) S_ .f32 0x3F800000#32))
    (addf (broadcastInDim S32 ![] bcast_S_S32 (constant (F := F) S_ .f32 0x3F800000#32)) (Host.exp (Host.negf v)))

/-- The mean of a vector of thirty-two. -/
def meanF (v : Vec F S32 .f32) : Vec F S_ .f32 :=
  Host.divf (Host.reduceAdd v (constant (F := F) S_ .f32 0x00000000#32) reducesTo_S32_S_d0 h_S_) (constant (F := F) S_ .f32 0x42000000#32)

/-- A vector less its mean. -/
def centredF (v : Vec F S32 .f32) : Vec F S32 .f32 := subf v (broadcastInDim S32 ![] bcast_S_S32 (meanF v))

/-- The layer norm. -/
def normF (v w b : Vec F S32 .f32) : Vec F S32 .f32 :=
  addf (mulf (Host.divf (centredF v)
      (broadcastInDim S32 ![] bcast_S_S32 (Host.sqrt (addf (meanF (mulf (centredF v) (centredF v))) (constant (F := F) S_ .f32 0x3727C5AC#32))))) w) b

/-- The weights of the similarities of a query with the keys. -/
def weightF (q : Vec F S32 .f32) (K : Vec F S32x16384 .f32) : Vec F S1x16384 .f32 :=
  Host.exp (Host.divf (Host.log (Host.divf (broadcastInDim S1x16384 ![] bcast_S_S1x16384 (constant (F := F) S_ .f32 0x3F800000#32))
    (addf (broadcastInDim S1x16384 ![] bcast_S_S1x16384 (constant (F := F) S_ .f32 0x3F800000#32))
      (Host.exp (Host.negf (Host.dotGeneral dot_S1x32_S32x16384_S1x16384_1_0_0_1_n_n none (broadcastInDim S1x32 ![1] bcast_S32_S1x32_1 q) K))))))
    (broadcastInDim S1x16384 ![] bcast_S_S1x16384 (constant (F := F) S_ .f32 0x3F4CCCCD#32)))

/-- Where the test holds, the replacement word; elsewhere the entry. -/
def replaceF (t : IVec S1x16384 1) (word : BitVec 32) (v : Vec F S1x16384 .f32) : Vec F S1x16384 .f32 :=
  select t (broadcastInDim S1x16384 ![] bcast_S_S1x16384 (constant (F := F) S_ .f32 word)) v

/-- The words of no number and of the infinities replaced. -/
def cleanF (v : Vec F S1x16384 .f32) : Vec F S1x16384 .f32 :=
  let a := replaceF (cmpf .une v v) 0x00000000#32 v
  let b := replaceF (cmpf .oeq a (broadcastInDim S1x16384 ![] bcast_S_S1x16384 (constant (F := F) S_ .f32 0x7F800000#32))) 0x7F7FFFFF#32 a
  replaceF (cmpf .oeq b (broadcastInDim S1x16384 ![] bcast_S_S1x16384 (constant (F := F) S_ .f32 0xFF800000#32))) 0xFF7FFFFF#32 b

/-- The sum of a row. -/
def totalF (v : Vec F S1x16384 .f32) : Vec F S_ .f32 :=
  Host.reduceAdd v (constant (F := F) S_ .f32 0x00000000#32) reducesTo_S1x16384_S_d0_1 h_S_

/-- A row divided by its sum where that is not zero. -/
def unitF (v : Vec F S1x16384 .f32) : Vec F S1x16384 .f32 :=
  select (broadcastInDim S1x16384 ![] bcast_S_S1x16384 (cmpf .une (totalF v) (constant (F := F) S_ .f32 0x00000000#32)))
    (Host.divf v (broadcastInDim S1x16384 ![] bcast_S_S1x16384 (totalF v))) v

/-- The position of a vector's maximum. -/
def pickF (v : Vec F S16384 .f32) : IVec S_ 32 := fun j =>
  (Host.argReduce reducer_argmax_f32_i32 v (iotaInDim S16384 32 0) (constant (F := F) S_ .f32 0xFF800000#32) (constantI S_ 32 0#32)
    reducesTo_S16384_S_d0 h_S_ j).2

/-- A position below zero counted from the end. -/
def wrapF (i : IVec S_ 32) : IVec S_ 32 := select (cmpi .slt i (constantI S_ 32 0#32)) (addi i (constantI S_ 32 16384#32)) i

/-- A zero vector. -/
def zerosF : Vec F S16384 .f32 := broadcastInDim S16384 ![] bcast_S_S16384 (constant (F := F) S_ .f32 0x00000000#32)

/-- The one at a position of a zero vector. -/
def oneHotF (i : IVec S_ 32) : Vec F S16384 .f32 :=
  Host.scatter scatter_S16384_S1_S__n_0_0_0 (fun _ b => b) zerosF (broadcastInDim S1 ![] bcast_S_S1 i) (constant (F := F) S_ .f32 0x3F800000#32)

/-- Whether a vector of marks meets the mask. -/
def meetsF (h e : Vec F S16384 .f32) : IVec S_ 1 :=
  Host.reduce IntOp.ori (cmpf .ogt (mulf h e) zerosF) (constantI S_ 1 0#1) reducesTo_S16384_S_d0 h_S_

variable (V : Valuation τ sig (Elt F))

/-- What the stage `keys` of the reference leaves in its value 1. -/
theorem keys_v1 : after opsKeys V (main_v1 : DevRef τ sig) = (uitofp .f32 (noti (V (main_arg1 : DevRef τ sig))) : Vec F S16384 .f32) := by
  unfold opsKeys; after_results_simp
/-- What the stage `keys` of the reference leaves in its value 7. -/
theorem keys_v7 : after opsKeys V (main_v7 : DevRef τ sig) = keysF (V (main_arg2 : DevRef τ sig)) (V (main_arg5 : DevRef τ sig)) (V (main_arg6 : DevRef τ sig)) := by
  unfold opsKeys; after_results_simp; rfl
/-- What the stage `keys` of the reference leaves in its value 8. -/
theorem keys_v8 : after opsKeys V (main_v8 : DevRef τ sig) = zeros32 := by
  unfold opsKeys; after_results_simp; rfl
/-- What the stage `keys` of the reference leaves in its value 9. -/
theorem keys_v9 : after opsKeys V (main_v9 : DevRef τ sig) = zeros32 := by
  unfold opsKeys; after_results_simp; rfl
/-- What the stage `keys` of the reference leaves in its value 10. -/
theorem keys_v10 : after opsKeys V (main_v10 : DevRef τ sig) = zerosF := by
  unfold opsKeys; after_results_simp; rfl

/-- What the stage `x` of the reference leaves in its value 19. -/
theorem x_v19 : after opsX V (main_v19 : DevRef τ sig)
    = concatenate S64 0 [⟨S32, layer1F (layer0F (V (main_arg3 : DevRef τ sig)) (V (main_arg7 : DevRef τ sig)) (V (main_arg8 : DevRef τ sig)))
        (V (main_arg9 : DevRef τ sig)) (V (main_arg10 : DevRef τ sig))⟩, ⟨S32, V (main_v9 : DevRef τ sig)⟩] concatenates_S32_S32_S64_d0 := by
  unfold opsX; after_results_simp; rfl

/-- What the stage `forget` of the reference leaves in its value 44. -/
theorem forget_v44 : ∃ u : Vec F S32 .f32, after opsForget V (main_v44 : DevRef τ sig) = mulf u (V (main_v8 : DevRef τ sig)) := by
  unfold opsForget; after_results_simp; exact ⟨_, rfl⟩

/-- What the stage `hidden` of the reference leaves in its value 75. -/
theorem hidden_v75 : after opsHidden V (main_v75 : DevRef τ sig)
    = Host.tanh (addf (normF (mulf (sigF (linF (V (main_v19 : DevRef τ sig)) (V (main_arg13 : DevRef τ sig)) (V (main_arg14 : DevRef τ sig))))
        (Host.tanh (linF (V (main_v19 : DevRef τ sig)) (V (main_arg15 : DevRef τ sig)) (V (main_arg16 : DevRef τ sig)))))
        (V (main_arg19 : DevRef τ sig)) (V (main_arg20 : DevRef τ sig))) (V (main_v44 : DevRef τ sig))) := by
  unfold opsHidden; after_results_simp; rfl

/-- What the stage `query` of the reference leaves in its value 100. -/
theorem query_v100 : after opsQuery V (main_v100 : DevRef τ sig)
    = mulf (V (main_v75 : DevRef τ sig)) (normF (sigF (linF (V (main_v19 : DevRef τ sig)) (V (main_arg17 : DevRef τ sig)) (V (main_arg18 : DevRef τ sig))))
        (V (main_arg19 : DevRef τ sig)) (V (main_arg20 : DevRef τ sig))) := by
  unfold opsQuery; after_results_simp; rfl

/-- What the stage `weight` of the reference leaves in its value 112. -/
theorem weight_v112 : after opsWeight V (main_v112 : DevRef τ sig) = weightF (V (main_v100 : DevRef τ sig)) (V (main_v7 : DevRef τ sig)) := by
  unfold opsWeight; after_results_simp; rfl

/-- The stretch of the unit row, its first part: the weights cleaned. -/
def opsClean : List (HloOp τ sig (Elt F)) :=
  [ TRef.binary (.of main_v112) (.of main_v112) main_call2.v0 (cmpf .une),
    TRef.nullary main_call2.cst (constant S_ .f32 0x00000000#32),
    TRef.unary main_call2.cst main_call2.call0.v0 (broadcastInDim S1x16384 ![] bcast_S_S1x16384),
    TRef.ternary main_call2.v0 main_call2.call0.v0 (.of main_v112) main_call2.call0.v1 select,
    TRef.nullary main_call2.cst_0 (constant S_ .f32 0x7F800000#32),
    TRef.unary main_call2.cst_0 main_call2.v2 (broadcastInDim S1x16384 ![] bcast_S_S1x16384),
    TRef.binary main_call2.call0.v1 main_call2.v2 main_call2.v3 (cmpf .oeq),
    TRef.nullary main_call2.cst_1 (constant S_ .f32 0x7F7FFFFF#32),
    TRef.unary main_call2.cst_1 main_call2.call1.v0 (broadcastInDim S1x16384 ![] bcast_S_S1x16384),
    TRef.ternary main_call2.v3 main_call2.call1.v0 main_call2.call0.v1 main_call2.call1.v1 select,
    TRef.nullary main_call2.cst_2 (constant S_ .f32 0xFF800000#32),
    TRef.unary main_call2.cst_2 main_call2.v5 (broadcastInDim S1x16384 ![] bcast_S_S1x16384),
    TRef.binary main_call2.call1.v1 main_call2.v5 main_call2.v6 (cmpf .oeq),
    TRef.nullary main_call2.cst_3 (constant S_ .f32 0xFF7FFFFF#32),
    TRef.unary main_call2.cst_3 main_call2.call2.v0 (broadcastInDim S1x16384 ![] bcast_S_S1x16384),
    TRef.ternary main_call2.v6 main_call2.call2.v0 main_call2.call1.v1 main_call2.call2.v1 select ]

/-- Its second part: the division by the sum. -/
def opsDivide : List (HloOp τ sig (Elt F)) :=
  [ nullary main_cst_26 (constant S_ .f32 0x00000000#32),
    binary main_v113 main_cst_26 main_v114 ((fun x v => Host.reduceAdd x v reducesTo_S1x16384_S_d0_1 h_S_) : (⟨S1x16384, .f32⟩ : BufTy).Contents (Elt F) → (⟨S_, .f32⟩ : BufTy).Contents (Elt F) → (⟨S_, .f32⟩ : BufTy).Contents (Elt F)),
    nullary main_cst_27 (constant S_ .f32 0x00000000#32),
    binary main_v114 main_cst_27 main_v115 (cmpf .une : (⟨S_, .f32⟩ : BufTy).Contents (Elt F) → (⟨S_, .f32⟩ : BufTy).Contents (Elt F) → (⟨S_, .i1⟩ : BufTy).Contents (Elt F)),
    unary main_v114 main_v116 (broadcastInDim S1x16384 ![] bcast_S_S1x16384 : (⟨S_, .f32⟩ : BufTy).Contents (Elt F) → (⟨S1x16384, .f32⟩ : BufTy).Contents (Elt F)),
    binary main_v113 main_v116 main_v117 (Host.divf : (⟨S1x16384, .f32⟩ : BufTy).Contents (Elt F) → (⟨S1x16384, .f32⟩ : BufTy).Contents (Elt F) → (⟨S1x16384, .f32⟩ : BufTy).Contents (Elt F)),
    TRef.ternary (.of main_v115) (.of main_v117) (.of main_v113) main_call3.v0 (fun p a b => select (broadcastInDim S1x16384 ![] bcast_S_S1x16384 p) a b) ]

/-- The normalising stage is the cleaning followed by the division. -/
theorem opsUnit_eq : (opsUnit : List (HloOp τ sig (Elt F))) = opsClean ++ opsDivide := rfl

/-- What the stage `clean` of the reference leaves in its value 113. -/
theorem clean_v113 : after opsClean V (main_v113 : DevRef τ sig) = cleanF (V (main_v112 : DevRef τ sig)) := by
  unfold opsClean; after_results_simp
  simp only [TRef.toBuf, TRef.ofBuf, cast_cast, cast_eq]
  rfl

/-- What the stage `divide` of the reference leaves in its value 118. -/
theorem divide_v118 : after opsDivide V (main_v118 : DevRef τ sig) = unitF (V (main_v113 : DevRef τ sig)) := by
  unfold opsDivide; after_results_simp; rfl

/-- The last stretch's first part: the position of the maximum. -/
def opsPick : List (HloOp τ sig (Elt F)) :=
  [ reshape main_v118 main_v119 (rfl : (.f32 : EltTy) = .f32) shapeCasts_S1x16384_S16384,
    TRef.nullary main_call4.v0 (iotaInDim S16384 32 0),
    TRef.nullary main_call4.cst (constant S_ .f32 0xFF800000#32),
    TRef.nullary main_call4.c (constantI S_ 32 0#32),
    TRef.quaternary (.of main_v119) main_call4.v0 main_call4.cst main_call4.c main_call4.v1_0 (fun x y u v j => (Host.argReduce reducer_argmax_f32_i32 x y u v reducesTo_S16384_S_d0 h_S_ j).1),
    TRef.quaternary (.of main_v119) main_call4.v0 main_call4.cst main_call4.c main_call4.v1_1 (fun x y u v j => (Host.argReduce reducer_argmax_f32_i32 x y u v reducesTo_S16384_S_d0 h_S_ j).2) ]

/-- Its second part: the one at that position. -/
def opsMark : List (HloOp τ sig (Elt F)) :=
  [ nullary main_cst_28 (constant S_ .f32 0x00000000#32),
    unary main_cst_28 main_v121 (broadcastInDim S16384 ![] bcast_S_S16384 : (⟨S_, .f32⟩ : BufTy).Contents (Elt F) → (⟨S16384, .f32⟩ : BufTy).Contents (Elt F)),
    nullary main_c (constantI S_ 32 0#32),
    binary main_v120 main_c main_v122 (cmpi .slt : (⟨S_, .i32⟩ : BufTy).Contents (Elt F) → (⟨S_, .i32⟩ : BufTy).Contents (Elt F) → (⟨S_, .i1⟩ : BufTy).Contents (Elt F)),
    nullary main_c_29 (constantI S_ 32 16384#32),
    binary main_v120 main_c_29 main_v123 (addi : (⟨S_, .i32⟩ : BufTy).Contents (Elt F) → (⟨S_, .i32⟩ : BufTy).Contents (Elt F) → (⟨S_, .i32⟩ : BufTy).Contents (Elt F)),
    ternary main_v122 main_v123 main_v120 main_v124 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_v124 main_v125 (broadcastInDim S1 ![] bcast_S_S1 : (⟨S_, .i32⟩ : BufTy).Contents (Elt F) → (⟨S1, .i32⟩ : BufTy).Contents (Elt F)),
    nullary main_cst_30 (constant S_ .f32 0x3F800000#32),
    ternary main_v121 main_v125 main_cst_30 main_v126 ((fun x i u => Host.scatter scatter_S16384_S1_S__n_0_0_0 (fun _ b => b) x i u) : (⟨S16384, .f32⟩ : BufTy).Contents (Elt F) → (⟨S1, .i32⟩ : BufTy).Contents (Elt F) → (⟨S_, .f32⟩ : BufTy).Contents (Elt F) → (⟨S16384, .f32⟩ : BufTy).Contents (Elt F)) ]

/-- Its third part: whether that meets the mask, and the choice. -/
def opsMeet : List (HloOp τ sig (Elt F)) :=
  [ binary main_v126 main_v1 main_v127 (mulf : (⟨S16384, .f32⟩ : BufTy).Contents (Elt F) → (⟨S16384, .f32⟩ : BufTy).Contents (Elt F) → (⟨S16384, .f32⟩ : BufTy).Contents (Elt F)),
    nullary main_cst_31 (constant S_ .f32 0x00000000#32),
    unary main_cst_31 main_v128 (broadcastInDim S16384 ![] bcast_S_S16384 : (⟨S_, .f32⟩ : BufTy).Contents (Elt F) → (⟨S16384, .f32⟩ : BufTy).Contents (Elt F)),
    binary main_v127 main_v128 main_v129 (cmpf .ogt : (⟨S16384, .f32⟩ : BufTy).Contents (Elt F) → (⟨S16384, .f32⟩ : BufTy).Contents (Elt F) → (⟨S16384, .i1⟩ : BufTy).Contents (Elt F)),
    nullary main_c_32 (constantI S_ 1 0#1),
    binary main_v129 main_c_32 main_v130 ((fun x v => Host.reduce IntOp.ori x v reducesTo_S16384_S_d0 h_S_) : (⟨S16384, .i1⟩ : BufTy).Contents (Elt F) → (⟨S_, .i1⟩ : BufTy).Contents (Elt F) → (⟨S_, .i1⟩ : BufTy).Contents (Elt F)),
    TRef.ternary (.of main_v130) (.of main_v126) (.of main_v10) main_call5.v0 (fun p a b => select (broadcastInDim S16384 ![] bcast_S_S16384 p) a b) ]

/-- The target stage is the choice, the marking and the meeting with the mask. -/
theorem opsTarget_eq : (opsTarget : List (HloOp τ sig (Elt F))) = opsPick ++ (opsMark ++ opsMeet) := rfl

/-- What the stage `pick` of the reference leaves in its value 120. -/
theorem pick_v120 : after opsPick V (main_v120 : DevRef τ sig) = pickF (shapeCast S16384 (V (main_v118 : DevRef τ sig)) shapeCasts_S1x16384_S16384) := by
  unfold opsPick; after_results_simp; rfl

/-- What the stage `mark` of the reference leaves in its value 126. -/
theorem mark_v126 : after opsMark V (main_v126 : DevRef τ sig) = oneHotF (wrapF (V (main_v120 : DevRef τ sig))) := by
  unfold opsMark; after_results_simp; rfl

/-- What the stage `meet` of the reference leaves in its value 131. -/
theorem meet_v131 : after opsMeet V (main_v131 : DevRef τ sig)
    = select (broadcastInDim S16384 ![] bcast_S_S16384 (meetsF (V (main_v126 : DevRef τ sig)) (V (main_v1 : DevRef τ sig))))
      (V (main_v126 : DevRef τ sig)) (V (main_v10 : DevRef τ sig)) := by
  unfold opsMeet meetsF zerosF; after_results_simp
  generalize Host.reduce IntOp.ori _ (constantI S_ 1 0#1) reducesTo_S16384_S_d0 h_S_ = M
  rfl

end Cert.ReferenceIdeal.Straight

end
-- ==== Proof.Value.Layers.lean ====
/- The reference's array functions at the extended reals, at an entry: its linear layers, its norm, its keys and its weights. -/
module

public import proofs.«01_k».proof.Proof.Value.Stages
public import proofs.«01_k».proof.Proof.Value.Math
public import Idealize.ShloMosaic.Lib.MatmulPlain
public import Idealize.ShloMosaic.Lib.StackMember
public import Idealize.ShloMosaic.Lib.IdealHost
public import Idealize.ShloMosaic.Lib.ValueIdxRank1
public import Idealize.ShloMosaic.Lib.Pipeline.Value

@[expose] public section

noncomputable section

namespace Cert.ReferenceIdeal.Straight

open Cert.ReferenceIdeal Cert.ReferenceIdeal.Gen Cert.Head
open Idealize.ShloMosaic Idealize.ShloMosaic.ValueIdx
open scoped BigOperators

/-- The product of a vector with a matrix at an entry. -/
theorem dotVec {K N : ℕ} (w : DotDims.WF ⟨1, ![K]⟩ ⟨2, ![K, N]⟩ ⟨1, ![N]⟩ [0] [0] [] [1] [] [])
    (x : FVec Ideal ⟨1, ![K]⟩ .f32) (W : FVec Ideal ⟨2, ![K, N]⟩ .f32) (j : Fin N) :
    Host.dotGeneral (⟨[0], [0], [], [1], [], [], w⟩ : DotDims _ _ _) none x W (ix1 j) = ∑ k : Fin K, x (ix1 k) * W (ix2 k j) := by
  show FloatOps.dotGeneral _ none _ x W (ix1 j) = _
  rw [Ideal.dotGeneral_apply, ← Equiv.sum_comp (contrEquiv1 (⟨[0], [0], [], [1], [], [], w⟩ : DotDims _ _ _) K rfl rfl).symm]
  refine Finset.sum_congr rfl fun c _ => ?_
  have hc := contrEquiv1_symm_val (⟨[0], [0], [], [1], [], [], w⟩ : DotDims ⟨1, ![K]⟩ ⟨2, ![K, N]⟩ ⟨1, ![N]⟩) K rfl rfl c
  have hl : (⟨[0], [0], [], [1], [], [], w⟩ : DotDims ⟨1, ![K]⟩ ⟨2, ![K, N]⟩ ⟨1, ![N]⟩).lhsIdx (ix1 j) ((contrEquiv1 _ K rfl rfl).symm c) = ix1 c := by
    funext ax; apply Fin.ext
    match ax with
    | ⟨0, _⟩ => simp [DotDims.lhsIdx]; exact hc
  have hr : (⟨[0], [0], [], [1], [], [], w⟩ : DotDims ⟨1, ![K]⟩ ⟨2, ![K, N]⟩ ⟨1, ![N]⟩).rhsIdx (ix1 j) ((contrEquiv1 _ K rfl rfl).symm c) = ix2 c j := by
    funext ax; apply Fin.ext
    match ax with
    | ⟨0, _⟩ => simp [DotDims.rhsIdx]; exact hc
    | ⟨1, _⟩ => simp [DotDims.rhsIdx]; rfl
  rw [hl, hr]

/-- A transposed matrix at an entry. -/
theorem transposed {α : Type} {a b : ℕ} (x : (⟨2, ![a, b]⟩ : Shape).Idx → α) (h : (⟨2, ![a, b]⟩ : Shape).Transposes [1, 0] ⟨2, ![b, a]⟩)
    (i : Fin b) (j : Fin a) : transpose ⟨2, ![b, a]⟩ [1, 0] x h (ix2 i j) = x (ix2 j i) :=
  transpose_apply _ _ _ _ _ fun c => by
    match c with
    | ⟨0, _⟩ => rfl
    | ⟨1, _⟩ => rfl

/-- A linear layer on a vector at an entry: the matrix transposed, the product, the bias added. -/
theorem linVec {K N : ℕ} (w : DotDims.WF ⟨1, ![K]⟩ ⟨2, ![K, N]⟩ ⟨1, ![N]⟩ [0] [0] [] [1] [] [])
    (h : (⟨2, ![N, K]⟩ : Shape).Transposes [1, 0] ⟨2, ![K, N]⟩)
    (x : FVec Ideal ⟨1, ![K]⟩ .f32) (W : FVec Ideal ⟨2, ![N, K]⟩ .f32) (b : FVec Ideal ⟨1, ![N]⟩ .f32)
    (W' : Fin N → Fin K → EReal) (b' : Fin N → EReal) (x' : Fin K → EReal)
    (hx : ∀ k, x (ix1 k) = x' k) (hW : ∀ j k, W (ix2 j k) = W' j k) (hb : ∀ j, b (ix1 j) = b' j) (j : Fin N) :
    addf (Host.dotGeneral (⟨[0], [0], [], [1], [], [], w⟩ : DotDims _ _ _) none x (transpose ⟨2, ![K, N]⟩ [1, 0] W h)) b (ix1 j)
      = lin W' b' x' j := by
  refine congrArg₂ (fun a b : EReal => a + b) ((dotVec w _ _ j).trans (Finset.sum_congr rfl fun k _ => ?_)) (hb j)
  rw [transposed, hx, hW]

/-- A broadcast word at an entry. -/
theorem splat {T : Shape} (h : (⟨0, ![]⟩ : Shape).BroadcastsInDim T ![]) (w : BitVec 32) (j : T.Idx) :
    broadcastInDim T ![] h (constant (F := Ideal) ⟨0, ![]⟩ .f32 w) j = Ideal.ofBits .f32 w := by
  rw [broadcastInDim_scalar_apply]; rfl

/-- The zero vector is zero everywhere. -/
theorem zeros32_apply (j : S32.Idx) : (zeros32 : Vec Ideal S32 .f32) j = (0 : EReal) :=
  (splat _ _ _).trans Ideal.ofBits_zero_f32

/-- The first layer at an output, as a sum over its inputs. -/
theorem layer0_apply (x : Vec Ideal S1024 .f32) (W : Vec Ideal S256x1024 .f32) (b : Vec Ideal S256 .f32)
    (W' : Fin 256 → Fin 1024 → EReal) (b' : Fin 256 → EReal) (x' : Fin 1024 → EReal)
    (hx : ∀ k, x (ix1 k) = x' k) (hW : ∀ j k, W (ix2 j k) = W' j k) (hb : ∀ j, b (ix1 j) = b' j) (j : Fin 256) :
    layer0F x W b (ix1 j) = relu (lin W' b' x') j :=
  congrArg₂ (fun a b : EReal => max a b) (linVec (K := 1024) (N := 256) _ _ x W b W' b' x' hx hW hb j) ((splat _ _ _).trans Ideal.ofBits_zero_f32)

/-- The second layer at an output, as a sum over its inputs. -/
theorem layer1_apply (x : Vec Ideal S256 .f32) (W : Vec Ideal S32x256 .f32) (b : Vec Ideal S32 .f32)
    (W' : Fin 32 → Fin 256 → EReal) (b' : Fin 32 → EReal) (x' : Fin 256 → EReal)
    (hx : ∀ k, x (ix1 k) = x' k) (hW : ∀ j k, W (ix2 j k) = W' j k) (hb : ∀ j, b (ix1 j) = b' j) (j : Fin 32) :
    layer1F x W b (ix1 j) = relu (lin W' b' x') j :=
  congrArg₂ (fun a b : EReal => max a b) (linVec (K := 256) (N := 32) _ _ x W b W' b' x' hx hW hb j) (zeros32_apply _)

/-- A gate's linear layer at an output, as a sum over its inputs. -/
theorem lin_apply (x : Vec Ideal S64 .f32) (W : Vec Ideal S32x64 .f32) (b : Vec Ideal S32 .f32)
    (W' : Fin 32 → Fin 64 → EReal) (b' : Fin 32 → EReal) (x' : Fin 64 → EReal)
    (hx : ∀ k, x (ix1 k) = x' k) (hW : ∀ j k, W (ix2 j k) = W' j k) (hb : ∀ j, b (ix1 j) = b' j) (j : Fin 32) :
    linF x W b (ix1 j) = lin W' b' x' j :=
  linVec (K := 64) (N := 32) _ _ x W b W' b' x' hx hW hb j

/-- The features: the second layer followed by zeros. -/
theorem feat_apply (x z : Vec Ideal S32 .f32) (x' : Fin 32 → EReal) (hx : ∀ j, x (ix1 j) = x' j) (hz : ∀ j, z j = (0 : EReal)) (k : Fin 64) :
    concatenate S64 0 [⟨S32, x⟩, ⟨S32, z⟩] concatenates_S32_S32_S64_d0 (ix1 k) = padded x' k := by
  unfold padded
  by_cases h : k.val < 32
  · rw [dif_pos h, concatenate_pair_apply_left (s₁ := S32) (s₂ := S32) (t := S64) 0 _ _ _ _ rfl (ix1 ⟨k.val, h⟩)
      (fun b => by fin_cases b; rfl)]
    exact hx _
  · rw [dif_neg h, concatenate_pair_apply_right (s₁ := S32) (s₂ := S32) (t := S64) 0 _ _ _ _ rfl rfl (ix1 ⟨k.val - 32, by omega⟩)
      (fun b hb => absurd (Subsingleton.elim (α := Fin 1) _ _) hb) (by show k.val - 32 + 32 = k.val; omega)]
    exact hz _

/-- The logistic function, entry by entry. -/
theorem sig_apply (v : Vec Ideal S32 .f32) (j : S32.Idx) : sigF v j = Ideal.logistic (v j) := by
  unfold sigF
  refine (congrArg₂ (fun a b : EReal => Ideal.div a (b + Ideal.exp (-(v j)))) ((splat _ _ _).trans Ideal.ofBits_one_f32)
    ((splat _ _ _).trans Ideal.ofBits_one_f32)).trans rfl

/-- The mean of a vector of thirty-two entries. -/
theorem mean_apply (v : Vec Ideal S32 .f32) (v' : Fin 32 → EReal) (hv : ∀ j, v (ix1 j) = v' j) (i : S_.Idx) : meanF v i = mean v' := by
  unfold meanF mean
  rw [hostDivf_apply, hostReduceAdd_apply, Ideal.hostReduceAdd_total _ (fun b => b.elim0)]
  refine congrArg₂ Ideal.div ?_ rfl
  rw [show (constant (F := Ideal) S_ .f32 0x00000000#32) (Shape.Idx.first h_S_) = (0 : EReal) from Ideal.ofBits_zero_f32, zero_add,
    ← Equiv.sum_comp (idxEquiv1 (n := 32)).symm]
  exact Finset.sum_congr rfl fun j _ => hv j

/-- The layer norm of a vector, entry by entry. -/
theorem norm_apply (v w b : Vec Ideal S32 .f32) (v' w' b' : Fin 32 → EReal) (hv : ∀ j, v (ix1 j) = v' j) (hw : ∀ j, w (ix1 j) = w' j)
    (hb : ∀ j, b (ix1 j) = b' j) (j : Fin 32) : normF v w b (ix1 j) = lnorm w' b' v' j := by
  have hc : ∀ j, centredF v (ix1 j) = v' j - mean v' := fun j =>
    congrArg₂ (fun a b : EReal => a - b) (hv j) ((broadcastInDim_scalar_apply _ _ _).trans (mean_apply v v' hv _))
  have hq : ∀ i, meanF (mulf (centredF v) (centredF v)) i = mean (fun i => (v' i - mean v') * (v' i - mean v')) :=
    mean_apply _ _ fun j => congrArg₂ (fun a b : EReal => a * b) (hc j) (hc j)
  have hs := (broadcastInDim_scalar_apply bcast_S_S32 (Host.sqrt (addf (meanF (mulf (centredF v) (centredF v))) (constant (F := Ideal) S_ .f32 0x3727C5AC#32))) (ix1 j)).trans
    (congrArg (fun a : EReal => Ideal.sqrt (a + Ideal.ofBits .f32 0x3727C5AC#32)) (hq _))
  exact congrArg₂ (fun a b : EReal => a + b) (congrArg₂ (fun a b : EReal => a * b) (congrArg₂ Ideal.div (hc j) hs) (hw j)) (hb j)

/-- An entity's key at a coordinate. -/
theorem keys_apply (T : Vec Ideal S16384x256 .f32) (W : Vec Ideal S32x256 .f32) (b : Vec Ideal S32 .f32)
    (T' : Fin 16384 → Fin 256 → EReal) (W' : Fin 32 → Fin 256 → EReal) (b' : Fin 32 → EReal)
    (hT : ∀ e k, T (ix2 e k) = T' e k) (hW : ∀ j k, W (ix2 j k) = W' j k) (hb : ∀ j, b (ix1 j) = b' j) (j : Fin 32) (e : Fin 16384) :
    keysF T W b (ix2 j e) = lin W' b' (T' e) j := by
  unfold keysF
  refine (transposed (a := 16384) (b := 32) _ _ j e).trans ?_
  refine congrArg₂ (fun a b : EReal => a + b) ((Idealize.ShloMosaic.StackMember.dotGeneral_plain_apply (m := 16384) (k := 256) (n := 32) none _ _ e j).trans
    (Finset.sum_congr rfl fun k _ => ?_)) ?_
  · rw [transposed (a := 32) (b := 256), hT, hW]
  · refine (broadcastInDim_apply _ _ _ (ix2 e j) (ix2 (0 : Fin 1) j) fun a => ?_).trans
      ((broadcastInDim_apply _ _ _ (ix2 (0 : Fin 1) j) (ix1 j) fun a => ?_).trans (hb j))
    · match a with
      | ⟨0, _⟩ => rfl
      | ⟨1, _⟩ => rfl
    · match a with
      | ⟨0, _⟩ => rfl

/-- An entity's weight, from the query and the keys. -/
theorem weight_apply (q : Vec Ideal S32 .f32) (K : Vec Ideal S32x16384 .f32) (e : Fin 16384) :
    weightF q K (ix2 0 e) = weight (∑ j : Fin 32, q (ix1 j) * K (ix2 j e)) := by
  unfold weightF
  have hd : Host.dotGeneral (F := Ideal) (φ₁ := .f32) (φ₂ := .f32) dot_S1x32_S32x16384_S1x16384_1_0_0_1_n_n none (broadcastInDim S1x32 ![1] bcast_S32_S1x32_1 q) K (ix2 0 e)
      = ∑ j : Fin 32, q (ix1 j) * K (ix2 j e) :=
    (Idealize.ShloMosaic.StackMember.dotGeneral_plain_apply (m := 1) (k := 32) (n := 16384) none _ _ 0 e).trans (Finset.sum_congr rfl fun j _ =>
      congrArg (fun a : EReal => a * K (ix2 j e)) (broadcastInDim_apply _ _ _ (ix2 (0 : Fin 1) j) (ix1 j) fun a => by
        match a with
        | ⟨0, _⟩ => rfl))
  have h1 := (splat bcast_S_S1x16384 0x3F800000#32 (ix2 (0 : Fin 1) e)).trans Ideal.ofBits_one_f32
  have ht := splat bcast_S_S1x16384 0x3F4CCCCD#32 (ix2 (0 : Fin 1) e)
  exact congrArg Ideal.exp (congrArg₂ Ideal.div (congrArg Ideal.log ((congrArg₂ Ideal.div h1
    (congrArg₂ (fun a b : EReal => a + b) h1 (congrArg (fun a : EReal => Ideal.exp (-a)) hd))).trans rfl)) ht)

end Cert.ReferenceIdeal.Straight

end
-- ==== Proof.Value.Choice.lean ====
/- The reference's choice at the extended reals: real weights pass the cleaning, their unit row, the position of its
   maximum, and the one at that position where the mask lets it stand. -/
module

public import proofs.«01_k».proof.Proof.Value.Layers
public import proofs.«01_k».proof.Proof.Value.Pick
public import proofs.«01_k».proof.Proof.Value.Row
public import Idealize.ShloMosaic.Lib.Routing.OpsOne
public import Idealize.ShloMosaic.Lib.ReduceAll

@[expose] public section

set_option maxRecDepth 40000

noncomputable section

namespace Cert.ReferenceIdeal.Straight

open Cert.ReferenceIdeal Cert.ReferenceIdeal.Gen Cert.Head
open Idealize.ShloMosaic Idealize.ShloMosaic.ValueIdx
open scoped BigOperators

/-- A replacement whose test fails changes nothing. -/
theorem replace_skip (t : IVec S1x16384 1) (w : BitVec 32) (v : Vec Ideal S1x16384 .f32) (ht : ∀ i, t i = 0#1) : replaceF t w v = v :=
  funext fun i => WordCmp.select_of_eq_zero (ht i) _ _

/-- Reals pass the cleaning. -/
theorem clean_real (v : Vec Ideal S1x16384 .f32) (hv : ∀ i, IsReal (v i)) : cleanF v = v := by
  have top : Ideal.ofBits .f32 0x7F800000#32 = ⊤ := by simp [Ideal.ofBits, Ideal.ieee]
  have bot : Ideal.ofBits .f32 0xFF800000#32 = ⊥ := by simp [Ideal.ofBits, Ideal.ieee]
  have h1 : ∀ i, cmpf (F := Ideal) (φ := .f32) .une v v i = 0#1 := fun i => (cmp_une (v i) (v i)).trans (by simp)
  have h2 : ∀ i, cmpf (F := Ideal) (φ := .f32) .oeq v (broadcastInDim S1x16384 ![] bcast_S_S1x16384 (constant (F := Ideal) S_ .f32 0x7F800000#32)) i = 0#1 := fun i =>
    (congrArg (Ideal.cmp .oeq (v i)) ((splat _ _ _).trans top)).trans ((cmp_oeq _ _).trans (by
      obtain ⟨r, hr⟩ := hv i
      rw [hr]; simp))
  have h3 : ∀ i, cmpf (F := Ideal) (φ := .f32) .oeq v (broadcastInDim S1x16384 ![] bcast_S_S1x16384 (constant (F := Ideal) S_ .f32 0xFF800000#32)) i = 0#1 := fun i =>
    (congrArg (Ideal.cmp .oeq (v i)) ((splat _ _ _).trans bot)).trans ((cmp_oeq _ _).trans (by
      obtain ⟨r, hr⟩ := hv i
      rw [hr]; simp))
  unfold cleanF
  simp only
  rw [replace_skip _ _ v h1, replace_skip _ _ v h2, replace_skip _ _ v h3]

/-- The row's total is the sum of its values. -/
theorem total_apply (v : Vec Ideal S1x16384 .f32) (w : Fin 16384 → EReal) (hv : ∀ e, v (ix2 0 e) = w e) (i : S_.Idx) : totalF v i = ∑ e, w e := by
  unfold totalF
  rw [hostReduceAdd_apply, Ideal.hostReduceAdd_total _ (fun b => b.elim0),
    show (constant (F := Ideal) S_ .f32 0x00000000#32) (Shape.Idx.first h_S_) = (0 : EReal) from Ideal.ofBits_zero_f32, zero_add]
  refine (sum_idx2 _).trans ?_
  rw [Fin.sum_univ_one]
  exact Finset.sum_congr rfl fun e _ => hv e

/-- The choice between the quotient and the value, by whether the sum is zero. -/
theorem unit_select (s x : EReal) :
    Scalar.select (Ideal.cmp .une s 0) (Ideal.div x s) x = if s ≠ 0 then Ideal.div x s else x := by
  rw [cmp_une]
  by_cases h : s = 0
  · rw [if_neg (not_not.2 h), decide_eq_false (not_not.2 h)]; rfl
  · rw [if_pos h, decide_eq_true h]; rfl

/-- The normalised row at a column. -/
theorem unit_apply (v : Vec Ideal S1x16384 .f32) (w : Fin 16384 → EReal) (hv : ∀ e, v (ix2 0 e) = w e) (e : Fin 16384) :
    unitF v (ix2 0 e) = unit w e := by
  have ht := total_apply v w hv
  unfold unitF unit
  generalize totalF v = s at ht
  refine (congrArg₂ (fun (c : BitVec 1) (y : EReal) => Scalar.select c y (v (ix2 0 e))) ((broadcastInDim_scalar_apply _ _ _).trans
    ((congrArg₂ (Ideal.cmp .une) (ht ix0) Ideal.ofBits_zero_f32)))
    (congrArg (Ideal.div (v (ix2 0 e))) ((broadcastInDim_scalar_apply _ _ _).trans (ht ix0)))).trans ?_
  rw [hv]
  exact unit_select _ _

/-- The position that the reference's arg-max gives is that of the first maximum. -/
theorem pick_apply (v : Vec Ideal S16384 .f32) (u : Fin 16384 → EReal) (hv : ∀ e, v (ix1 e) = u e) (hu : ∀ e, ⊥ < u e) (j : S_.Idx) :
    ∃ p : Fin 16384, FirstMax u p ∧ pickF v j = BitVec.ofNat 32 p.val := by
  have bot : Ideal.ofBits .f32 0xFF800000#32 = ⊥ := by simp [Ideal.ofBits, Ideal.ieee]
  unfold pickF
  rw [Ideal.argReduce_eq_reduce2]
  unfold Host.reduce2
  obtain ⟨l, hl, hmem⟩ : ∃ l, l = ((List.finRange S16384.numel).filter fun n => reducesTo_S16384_S_d0.drop (S16384.rowMajor.symm n) = j)
      ∧ ∀ e : Fin 16384, S16384.rowMajor (ix1 e) ∈ l :=
    ⟨_, rfl, fun e => List.mem_filter.2 ⟨List.mem_finRange _, decide_eq_true (funext fun b => b.elim0)⟩⟩
  rw [← hl]
  obtain ⟨p, hp, hall⟩ := argmax_fold (by norm_num) u hu (fun n : Fin S16384.numel => (S16384.rowMajor.symm n) 0) l
    (List.ne_nil_of_mem (hmem ⟨0, by norm_num⟩))
  have pos : ∀ e : Fin 16384, (S16384.rowMajor.symm (S16384.rowMajor (ix1 e))) 0 = e := fun e => by rw [Equiv.symm_apply_apply]
  refine ⟨p, ⟨fun e => ?_, fun e he => ?_⟩, ?_⟩
  · have := (hall _ (hmem e)).1
    rwa [pos] at this
  · have := (hall _ (hmem e)).2
    rw [pos] at this
    exact this he
  · have hf : (fun (r : Ideal .f32 × BitVec 32) (n : Fin S16384.numel) => reducer_argmax_f32_i32 (F := Ideal) r
        (v (S16384.rowMajor.symm n), iotaInDim S16384 32 0 (S16384.rowMajor.symm n)))
        = fun r n => reducer_argmax_f32_i32 (F := Ideal) r (u ((S16384.rowMajor.symm n) 0), BitVec.ofNat 32 ((S16384.rowMajor.symm n) 0).val) := by
      funext r n
      exact congrArg (fun y : EReal => reducer_argmax_f32_i32 (F := Ideal) r (y, BitVec.ofNat 32 ((S16384.rowMajor.symm n) 0).val))
        ((congrArg v (eq_ix1 _)).trans (hv _))
    rw [hf]
    refine (congrArg (fun b : EReal => (l.foldl (fun r n => reducer_argmax_f32_i32 (F := Ideal) r
      (u ((S16384.rowMajor.symm n) 0), BitVec.ofNat 32 ((S16384.rowMajor.symm n) 0).val)) (b, 0#32)).2) bot).trans ?_
    exact congrArg Prod.snd hp

/-- A position within the row isn't wrapped. -/
theorem wrap_apply (i : IVec S_ 32) (p : Fin 16384) (j : S_.Idx) (hi : i j = BitVec.ofNat 32 p.val) : wrapF i j = BitVec.ofNat 32 p.val := by
  have h : (BitVec.ofNat 32 p.val).toInt = (p.val : Int) := WordCmp.toInt_ofNat_of_lt (lt_trans p.isLt (by norm_num))
  refine (WordCmp.select_of_eq_zero ?_ _ _).trans hi
  show IntOp.cmpi .slt (i j) 0#32 = 0#1
  rw [hi, WordCmp.cmpi_slt_eq, h, decide_eq_false (by simp)]
  rfl

/-- The one-hot vector is one at the picked place and zero elsewhere. -/
theorem oneHot_apply (i : IVec S_ 32) (p : Fin 16384) (hi : ∀ j, i j = BitVec.ofNat 32 p.val) (e : Fin 16384) :
    oneHotF (F := Ideal) i (ix1 e) = if e = p then (1 : EReal) else 0 := by
  have hidx : ((broadcastInDim S1 ![] bcast_S_S1 i) (ix1 0)).toInt = (p.val : Int) := by
    rw [broadcastInDim_scalar_apply, hi]
    exact WordCmp.toInt_ofNat_of_lt (lt_trans p.isLt (by norm_num))
  have lands := Routing.lands_one (N := 16384) scatter_S16384_S1_S__n_0_0_0 rfl rfl (broadcastInDim S1 ![] bcast_S_S1 i) p hidx e
  unfold oneHotF
  by_cases h : e = p
  · rw [if_pos h]
    exact Routing.scatter_set_hit _ _ _ _ _ (1 : EReal) (fun _ _ => Ideal.ofBits_one_f32) ix0 (lands.2 h)
  · rw [if_neg h]
    refine (Routing.scatter_set_miss _ _ _ _ _ fun k hk => h (lands.1 ?_)).trans ((splat _ _ _).trans Ideal.ofBits_zero_f32)
    rw [← eq_ix0 k]; exact hk

/-- A fold by disjunction is one exactly if its start or one of its terms is. -/
theorem foldl_or {ι : Type} (f : ι → BitVec 1) (l : List ι) (init : BitVec 1) :
    l.foldl (fun r n => IntOp.ori r (f n)) init = 1#1 ↔ init = 1#1 ∨ ∃ n ∈ l, f n = 1#1 := by
  have hor : ∀ a b : BitVec 1, IntOp.ori a b = 1#1 ↔ a = 1#1 ∨ b = 1#1 := by decide
  induction l generalizing init with
  | nil => simp
  | cons a l ih => rw [List.foldl_cons]; refine (ih _).trans ?_; rw [hor]; simp [or_assoc]

/-- Whether the one at a position meets a mask of ones and zeros: it does if the mask has its one there. -/
theorem meets_apply (h m : Vec Ideal S16384 .f32) (p : Fin 16384) (m' : Fin 16384 → Prop) [DecidablePred m']
    (hh : ∀ e, h (ix1 e) = if e = p then (1 : EReal) else 0) (hm : ∀ e, m (ix1 e) = if m' e then (1 : EReal) else 0) (j : S_.Idx) :
    meetsF h m j = 1#1 ↔ m' p := by
  have hz : ∀ e : Fin 16384, cmpf (F := Ideal) (φ := .f32) .ogt (mulf h m) (zerosF (F := Ideal)) (ix1 e) = BitVec.ofBool (decide (0 < h (ix1 e) * m (ix1 e))) := fun e =>
    congrArg (Ideal.cmp .ogt (h (ix1 e) * m (ix1 e))) ((splat bcast_S_S16384 _ (ix1 e)).trans Ideal.ofBits_zero_f32)
  have hb : ∀ e : Fin 16384, cmpf (F := Ideal) (φ := .f32) .ogt (mulf h m) (zerosF (F := Ideal)) (ix1 e) = 1#1 ↔ e = p ∧ m' e := fun e => by
    rw [hz, hh, hm]
    by_cases h1 : e = p <;> by_cases h2 : m' e <;> simp [h1, h2] <;> (try subst h1) <;> simp_all
  unfold meetsF
  generalize cmpf (F := Ideal) (φ := .f32) .ogt (mulf h m) (zerosF (F := Ideal)) = t at hb
  rw [Host.reduce_eq_foldl, foldl_or]
  constructor
  · rintro (h0 | ⟨i, -, hi⟩)
    · exact absurd h0 (by decide)
    · rw [eq_ix1 i] at hi
      obtain ⟨h1, h2⟩ := (hb _).1 hi
      rwa [h1] at h2
  · intro hp
    refine .inr ⟨ix1 p, List.mem_filter.2 ⟨List.mem_map.2 ⟨S16384.rowMajor (ix1 p), List.mem_finRange _, Equiv.symm_apply_apply _ _⟩,
      decide_eq_true (funext fun b => b.elim0)⟩, (hb p).2 ⟨rfl, hp⟩⟩

/-- The mask's complement as a float. -/
theorem mask_apply (a : IVec S16384 1) (e : Fin 16384) :
    (uitofp (F := Ideal) .f32 (noti a) : Vec Ideal S16384 .f32) (ix1 e) = if a (ix1 e) = 0#1 then (1 : EReal) else 0 := by
  have hx : ∀ x : BitVec 1, (((~~~x).toNat : ℝ) : EReal) = if x = 0#1 then (1 : EReal) else 0 := fun x => by
    rcases BitVec.eq_zero_or_eq_one x with h | h <;> subst h <;> simp
  exact hx _

/-- The target: the one at the first maximum if the mask is clear there, zeros if not. -/
theorem target_apply (v : Vec Ideal S16384 .f32) (u : Fin 16384 → EReal) (hv : ∀ e, v (ix1 e) = u e) (hu : ∀ e, ⊥ < u e)
    (a : IVec S16384 1) (m z : Vec Ideal S16384 .f32) (hm : m = uitofp (F := Ideal) .f32 (noti a)) (hz : z = zerosF) :
    ∃ p, FirstMax u p ∧ ∀ e, select (broadcastInDim S16384 ![] bcast_S_S16384 (meetsF (oneHotF (wrapF (pickF v))) m)) (oneHotF (wrapF (pickF v))) z (ix1 e)
      = if e = p ∧ a (ix1 e) = 0#1 then (1 : EReal) else 0 := by
  subst hm hz
  obtain ⟨p, hp, hi⟩ := pick_apply v u hv hu ix0
  refine ⟨p, hp, fun e => ?_⟩
  have hone := oneHot_apply (wrapF (pickF v)) p fun j => by
    rw [eq_ix0 j]
    exact wrap_apply _ p ix0 hi
  generalize oneHotF (F := Ideal) (wrapF (pickF v)) = h at hone
  have hmt := meets_apply h _ p (fun e => a (ix1 e) = 0#1) hone (mask_apply a) ix0
  generalize meetsF h (uitofp (F := Ideal) .f32 (noti a)) = t at hmt
  show Scalar.select (broadcastInDim S16384 ![] bcast_S_S16384 t (ix1 e)) (h (ix1 e)) (zerosF (F := Ideal) (ix1 e)) = _
  rw [broadcastInDim_scalar_apply]
  have h0 : zerosF (F := Ideal) (ix1 e) = (0 : EReal) := (splat _ _ _).trans Ideal.ofBits_zero_f32
  by_cases hb : a (ix1 p) = 0#1
  · rw [WordCmp.select_of_eq_one (hmt.2 hb), hone]
    by_cases hep : e = p
    · subst hep; rw [if_pos rfl, if_pos ⟨rfl, hb⟩]
    · rw [if_neg hep, if_neg fun h => hep h.1]
  · rw [WordCmp.select_of_eq_zero (eq_zero_of_ne_one fun h => hb (hmt.1 h)), h0, if_neg]
    rintro ⟨rfl, h⟩
    exact hb h

end Cert.ReferenceIdeal.Straight

end
-- ==== Proof.Value.RefValue.lean ====
/- The reference's two results at the extended reals, in terms of its arguments. -/
module

public import proofs.«01_k».proof.Proof.Value.Choice
public import proofs.«01_k».proof.Proof.Value.Args

@[expose] public section

set_option maxRecDepth 40000

noncomputable section

namespace Cert.ReferenceIdeal.Straight

open Cert.ReferenceIdeal Cert.ReferenceIdeal.Gen Cert.Head
open Idealize.ShloMosaic hiding ix0 ix1 ix2 ix3
open Idealize.ShloMosaic.TcCoe Idealize.ShloMosaic.StableHlo Idealize.SL.Sem Idealize.ShloMosaic.ValueIdx
open scoped BigOperators

/-- The head's arguments, from the reference's memory. -/
def paramsOf (V : Valuation τ sig (Elt Ideal)) : Params :=
  Params.of (V (main_arg2 : DevRef τ sig)) (V (main_arg3 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig))

/-- The unit row depends on the weights alone. -/
theorem unit_congr {v w : Fin 16384 → EReal} (h : ∀ e, v e = w e) (e : Fin 16384) : unit v e = unit w e := by
  rw [funext h]

/-- The query that the reference forms. -/
theorem query_value (V : Valuation τ sig (Elt Ideal)) (j : Fin 32) :
    after opsQuery (after opsHidden (after opsForget (after opsX (after opsKeys V)))) (main_v100 : DevRef τ sig) (ix1 j) = query (paramsOf V) j := by
  obtain ⟨V1, hV1⟩ : ∃ W, W = after opsKeys V := ⟨_, rfl⟩
  obtain ⟨V2, hV2⟩ : ∃ W, W = after opsX V1 := ⟨_, rfl⟩
  obtain ⟨V3, hV3⟩ : ∃ W, W = after opsForget V2 := ⟨_, rfl⟩
  obtain ⟨V4, hV4⟩ : ∃ W, W = after opsHidden V3 := ⟨_, rfl⟩
  rw [← hV1, ← hV2, ← hV3, ← hV4]
  have a3 : V1 (main_arg3 : DevRef τ sig) = V (main_arg3 : DevRef τ sig) := by
    rw [hV1, opsKeys_keep V (by decide)]
  have a7 : V1 (main_arg7 : DevRef τ sig) = V (main_arg7 : DevRef τ sig) := by
    rw [hV1, opsKeys_keep V (by decide)]
  have a8 : V1 (main_arg8 : DevRef τ sig) = V (main_arg8 : DevRef τ sig) := by
    rw [hV1, opsKeys_keep V (by decide)]
  have a9 : V1 (main_arg9 : DevRef τ sig) = V (main_arg9 : DevRef τ sig) := by
    rw [hV1, opsKeys_keep V (by decide)]
  have a10 : V1 (main_arg10 : DevRef τ sig) = V (main_arg10 : DevRef τ sig) := by
    rw [hV1, opsKeys_keep V (by decide)]
  have a13 : V3 (main_arg13 : DevRef τ sig) = V (main_arg13 : DevRef τ sig) := by
    rw [hV3, opsForget_keep V2 (by decide), hV2, opsX_keep V1 (by decide), hV1, opsKeys_keep V (by decide)]
  have a14 : V3 (main_arg14 : DevRef τ sig) = V (main_arg14 : DevRef τ sig) := by
    rw [hV3, opsForget_keep V2 (by decide), hV2, opsX_keep V1 (by decide), hV1, opsKeys_keep V (by decide)]
  have a15 : V3 (main_arg15 : DevRef τ sig) = V (main_arg15 : DevRef τ sig) := by
    rw [hV3, opsForget_keep V2 (by decide), hV2, opsX_keep V1 (by decide), hV1, opsKeys_keep V (by decide)]
  have a16 : V3 (main_arg16 : DevRef τ sig) = V (main_arg16 : DevRef τ sig) := by
    rw [hV3, opsForget_keep V2 (by decide), hV2, opsX_keep V1 (by decide), hV1, opsKeys_keep V (by decide)]
  have a19 : V3 (main_arg19 : DevRef τ sig) = V (main_arg19 : DevRef τ sig) := by
    rw [hV3, opsForget_keep V2 (by decide), hV2, opsX_keep V1 (by decide), hV1, opsKeys_keep V (by decide)]
  have a20 : V3 (main_arg20 : DevRef τ sig) = V (main_arg20 : DevRef τ sig) := by
    rw [hV3, opsForget_keep V2 (by decide), hV2, opsX_keep V1 (by decide), hV1, opsKeys_keep V (by decide)]
  have a17 : V4 (main_arg17 : DevRef τ sig) = V (main_arg17 : DevRef τ sig) := by
    rw [hV4, opsHidden_keep V3 (by decide), hV3, opsForget_keep V2 (by decide), hV2, opsX_keep V1 (by decide), hV1, opsKeys_keep V (by decide)]
  have a18 : V4 (main_arg18 : DevRef τ sig) = V (main_arg18 : DevRef τ sig) := by
    rw [hV4, opsHidden_keep V3 (by decide), hV3, opsForget_keep V2 (by decide), hV2, opsX_keep V1 (by decide), hV1, opsKeys_keep V (by decide)]
  have c19 : V4 (main_arg19 : DevRef τ sig) = V (main_arg19 : DevRef τ sig) := by
    rw [hV4, opsHidden_keep V3 (by decide), hV3, opsForget_keep V2 (by decide), hV2, opsX_keep V1 (by decide), hV1, opsKeys_keep V (by decide)]
  have c20 : V4 (main_arg20 : DevRef τ sig) = V (main_arg20 : DevRef τ sig) := by
    rw [hV4, opsHidden_keep V3 (by decide), hV3, opsForget_keep V2 (by decide), hV2, opsX_keep V1 (by decide), hV1, opsKeys_keep V (by decide)]
  have z8 : V2 (main_v8 : DevRef τ sig) = V1 (main_v8 : DevRef τ sig) := by
    rw [hV2, opsX_keep V1 (by decide)]
  have x3 : V3 (main_v19 : DevRef τ sig) = V2 (main_v19 : DevRef τ sig) := by
    rw [hV3, opsForget_keep V2 (by decide)]
  have x4 : V4 (main_v19 : DevRef τ sig) = V2 (main_v19 : DevRef τ sig) := by
    rw [hV4, opsHidden_keep V3 (by decide), hV3, opsForget_keep V2 (by decide)]
  have z : ∀ i, V1 (main_v9 : DevRef τ sig) i = (0 : EReal) := fun i => by rw [hV1, keys_v9]; exact zeros32_apply i
  have hx : ∀ k : Fin 64, V2 (main_v19 : DevRef τ sig) (ix1 k) = feat (paramsOf V) k := fun k => by
    rw [hV2, x_v19, a3, a7, a8, a9, a10]
    exact feat_apply _ _ _ (layer1_apply _ _ _ _ _ _ (layer0_apply _ _ _ _ _ _ (fun _ => rfl) (fun _ _ => rfl) (fun _ => rfl)) (fun _ _ => rfl) (fun _ => rfl)) z k
  have hf : ∀ i, V3 (main_v44 : DevRef τ sig) i = (0 : EReal) := fun i => by
    obtain ⟨u, hu⟩ := forget_v44 V2
    rw [hV3, hu, z8, hV1, keys_v8]
    exact (congrArg (fun y : EReal => u i * y) (zeros32_apply i)).trans (mul_zero (u i : EReal))
  have hh : ∀ j : Fin 32, V4 (main_v75 : DevRef τ sig) (ix1 j) = Ideal.tanh (lnorm (paramsOf V).lnw (paramsOf V).lnb (gated (paramsOf V)) j) := fun j => by
    rw [hV4, hidden_v75, x3, a13, a14, a15, a16, a19, a20]
    refine congrArg Ideal.tanh ((congrArg₂ (fun a b : EReal => a + b) (norm_apply _ _ _ _ _ _ (fun i => ?_) (fun _ => rfl) (fun _ => rfl) j) (hf _)).trans (add_zero _))
    exact congrArg₂ (fun a b : EReal => a * b) ((sig_apply _ _).trans (congrArg Ideal.logistic (lin_apply _ _ _ _ _ _ hx (fun _ _ => rfl) (fun _ => rfl) i)))
      (congrArg Ideal.tanh (lin_apply _ _ _ _ _ _ hx (fun _ _ => rfl) (fun _ => rfl) i))
  rw [query_v100, x4, a17, a18, c19, c20]
  refine congrArg₂ (fun a b : EReal => a * b) (hh j) (norm_apply _ _ _ _ _ _ (fun i => ?_) (fun _ => rfl) (fun _ => rfl) j)
  exact (sig_apply _ _).trans (congrArg Ideal.logistic (lin_apply _ _ _ _ _ _ hx (fun _ _ => rfl) (fun _ => rfl) i))

/-- The weights that the reference forms. -/
theorem weight_value (V : Valuation τ sig (Elt Ideal)) (e : Fin 16384) :
    after opsWeight (after opsQuery (after opsHidden (after opsForget (after opsX (after opsKeys V))))) (main_v112 : DevRef τ sig) (ix2 0 e)
      = weight (simKeys (paramsOf V) e) := by
  have hq := query_value V
  obtain ⟨V1, hV1⟩ : ∃ W, W = after opsKeys V := ⟨_, rfl⟩
  obtain ⟨V2, hV2⟩ : ∃ W, W = after opsX V1 := ⟨_, rfl⟩
  obtain ⟨V3, hV3⟩ : ∃ W, W = after opsForget V2 := ⟨_, rfl⟩
  obtain ⟨V4, hV4⟩ : ∃ W, W = after opsHidden V3 := ⟨_, rfl⟩
  obtain ⟨V5, hV5⟩ : ∃ W, W = after opsQuery V4 := ⟨_, rfl⟩
  rw [← hV1, ← hV2, ← hV3, ← hV4, ← hV5] at hq ⊢
  have k5 : V5 (main_v7 : DevRef τ sig) = V1 (main_v7 : DevRef τ sig) := by
    rw [hV5, opsQuery_keep V4 (by decide), hV4, opsHidden_keep V3 (by decide), hV3, opsForget_keep V2 (by decide), hV2, opsX_keep V1 (by decide)]
  rw [weight_v112, k5, hV1, keys_v7, weight_apply]
  exact congrArg weight (Finset.sum_congr rfl fun j _ => congrArg₂ (fun a b : EReal => a * b) (hq j)
    (keys_apply _ _ _ _ _ _ (fun _ _ => rfl) (fun _ _ => rfl) (fun _ => rfl) j e))

/-- The two results: the unit row of the weights, and the one at their first maximum where the mask is clear. -/
theorem results (V : Valuation τ sig (Elt Ideal)) :
    (∀ e : Fin 16384, after ops V (main_v118 : DevRef τ sig) (ix2 0 e) = unit (fun e => weight (simKeys (paramsOf V) e)) e)
      ∧ ∃ p, FirstMax (fun e => weight (simKeys (paramsOf V) e)) p ∧ ∀ e : Fin 16384, after ops V (main_v131 : DevRef τ sig) (ix1 e)
        = if e = p ∧ (V (main_arg1 : DevRef τ sig) : IVec S16384 1) (ix1 e) = 0#1 then (1 : EReal) else 0 := by
  have hw := weight_value V
  have hpos : ∀ e, ∃ r : ℝ, 0 ≤ r ∧ weight (simKeys (paramsOf V) e) = (r : EReal) := fun e => weight_nonneg _
  rw [after_ops]
  obtain ⟨V1, hV1⟩ : ∃ W, W = after opsKeys V := ⟨_, rfl⟩
  obtain ⟨V2, hV2⟩ : ∃ W, W = after opsX V1 := ⟨_, rfl⟩
  obtain ⟨V3, hV3⟩ : ∃ W, W = after opsForget V2 := ⟨_, rfl⟩
  obtain ⟨V4, hV4⟩ : ∃ W, W = after opsHidden V3 := ⟨_, rfl⟩
  obtain ⟨V5, hV5⟩ : ∃ W, W = after opsQuery V4 := ⟨_, rfl⟩
  obtain ⟨V6, hV6⟩ : ∃ W, W = after opsWeight V5 := ⟨_, rfl⟩
  obtain ⟨V7, hV7⟩ : ∃ W, W = after opsUnit V6 := ⟨_, rfl⟩
  rw [← hV1, ← hV2, ← hV3, ← hV4, ← hV5, ← hV6] at hw
  rw [← hV1, ← hV2, ← hV3, ← hV4, ← hV5, ← hV6, ← hV7]
  have m7 : V7 (main_v1 : DevRef τ sig) = V1 (main_v1 : DevRef τ sig) := by
    rw [hV7, opsUnit_keep V6 (by decide), hV6, opsWeight_keep V5 (by decide), hV5, opsQuery_keep V4 (by decide), hV4, opsHidden_keep V3 (by decide), hV3, opsForget_keep V2 (by decide), hV2, opsX_keep V1 (by decide)]
  have z7 : V7 (main_v10 : DevRef τ sig) = V1 (main_v10 : DevRef τ sig) := by
    rw [hV7, opsUnit_keep V6 (by decide), hV6, opsWeight_keep V5 (by decide), hV5, opsQuery_keep V4 (by decide), hV4, opsHidden_keep V3 (by decide), hV3, opsForget_keep V2 (by decide), hV2, opsX_keep V1 (by decide)]
  have hu : ∀ e : Fin 16384, V7 (main_v118 : DevRef τ sig) (ix2 0 e) = unit (fun e => weight (simKeys (paramsOf V) e)) e := fun e => by
    rw [hV7, opsUnit_eq, after_append, divide_v118, clean_v113, clean_real]
    · exact unit_apply _ _ hw e
    · intro i
      obtain ⟨r, -, hr⟩ := hpos (i 1)
      rw [Cert.KernelIdeal.Dma.row_idx i]
      exact ⟨r, (hw (i 1)).trans hr⟩
  have k118 : after opsTarget V7 (main_v118 : DevRef τ sig) = V7 (main_v118 : DevRef τ sig) := opsTarget_keep V7 (by decide)
  refine ⟨fun e => by rw [k118]; exact hu e, ?_⟩
  have hm : after opsMark (after opsPick V7) (main_v1 : DevRef τ sig) = V7 (main_v1 : DevRef τ sig) := by
    unfold opsMark opsPick; after_results_simp
  have hz : after opsMark (after opsPick V7) (main_v10 : DevRef τ sig) = V7 (main_v10 : DevRef τ sig) := by
    unfold opsMark opsPick; after_results_simp
  obtain ⟨p, hp, ht⟩ := target_apply (shapeCast S16384 (V7 (main_v118 : DevRef τ sig)) shapeCasts_S1x16384_S16384)
    (unit (fun e => weight (simKeys (paramsOf V) e))) (fun e => (shapeCast_apply _ _ (ix1 e) (ix2 (0 : Fin 1) e) (by rw [Shape.rowMajor_val_one, Shape.rowMajor_val_two]; show 0 * 16384 + e.val = e.val; omega)).trans (hu e))
    (unit_order hpos).2 (V (main_arg1 : DevRef τ sig)) (V7 (main_v1 : DevRef τ sig)) (V7 (main_v10 : DevRef τ sig))
    (by rw [m7, hV1, keys_v1]) (by rw [z7, hV1, keys_v10])
  refine ⟨p, hp.congr fun a b => ((unit_order hpos).1 a b).symm, fun e => ?_⟩
  rw [opsTarget_eq, after_append, after_append, meet_v131, mark_v126, pick_v120, hm, hz]
  exact ht e

end Cert.ReferenceIdeal.Straight

end
-- ==== Proof.Value.Pre.lean ====
/- The precondition read: where it holds, the table, the key layer's matrix and the norm's weights are real. -/
module

public import proofs.«01_k».proof.Pre_finite
public import proofs.«01_k».proof.Proof.Value.Math
public import Idealize.ShloMosaic.Lib.ReduceAll
public import Idealize.ShloMosaic.Lib.IdealHost

@[expose] public section

noncomputable section

namespace Cert.Pre_finite

open Idealize.ShloMosaic Cert.Head

/-- The precondition's own shape relations. -/
instance facts : Facts where
  bcast_S_S16384x256 := by decide
  reducesTo_S16384x256_S_d0_1 := by decide
  h_S_ := by decide
  bcast_S_S32x256 := by decide
  reducesTo_S32x256_S_d0_1 := by decide
  bcast_S_S32 := by decide
  reducesTo_S32_S_d0 := by decide

/-- A value whose magnitude is below the infinity's word is real. -/
theorem real_of_bit {x : EReal} (h : Ideal.cmp .olt (max x (-x)) (Ideal.ofBits .f32 0x7F800000#32) = 1#1) : IsReal x := by
  have top : Ideal.ofBits .f32 0x7F800000#32 = ⊤ := by simp [Ideal.ofBits, Ideal.ieee]
  rw [top] at h
  induction x with
  | bot => simp [Ideal.cmp] at h
  | top => simp [Ideal.cmp] at h
  | coe r => exact ⟨r, rfl⟩

/-- One array's test: every entry is real. -/
theorem real_of_all {s t : Shape} {axes : List (Fin s.rank)} [Subsingleton t.Idx] (x : FVec Ideal s .f32) (hb : (⟨0, ![]⟩ : Shape).BroadcastsInDim s ![])
    (hr : s.ReducesTo axes t) (hu : 0 < (⟨0, ![]⟩ : Shape).numel) (j : t.Idx)
    (e : Host.reduce IntOp.andi (cmpf .olt (Host.absf x) (broadcastInDim s ![] hb (constant (F := Ideal) ⟨0, ![]⟩ .f32 0x7F800000#32)))
      (constantI ⟨0, ![]⟩ 1 1#1) hr hu j = 1#1) (i : s.Idx) : IsReal (x i) := by
  have h := Host.reduce_andi_all _ _ hr hu j e i
  refine real_of_bit (Eq.trans ?_ h)
  show _ = Ideal.cmp .olt (max (x i) (-(x i)) : EReal) (broadcastInDim s ![] hb (constant (F := Ideal) ⟨0, ![]⟩ .f32 0x7F800000#32) i)
  rw [ValueIdx.broadcastInDim_scalar_apply]
  rfl

/-- The precondition gives that the four arrays it names are real. -/
theorem reals (a0 a1 : IVec S16384 1) (a2 : FVec Ideal S16384x256 .f32) (a3 : FVec Ideal S1024 .f32) (a4 : IVec S_ 32) (a5 : FVec Ideal S32x256 .f32)
    (a6 : FVec Ideal S32 .f32) (a7 : FVec Ideal S256x1024 .f32) (a8 : FVec Ideal S256 .f32) (a9 : FVec Ideal S32x256 .f32) (a10 : FVec Ideal S32 .f32)
    (a11 : FVec Ideal S32x64 .f32) (a12 : FVec Ideal S32 .f32) (a13 : FVec Ideal S32x64 .f32) (a14 : FVec Ideal S32 .f32) (a15 : FVec Ideal S32x64 .f32)
    (a16 : FVec Ideal S32 .f32) (a17 : FVec Ideal S32x64 .f32) (a18 a19 a20 : FVec Ideal S32 .f32)
    (h : fn (F := Ideal) a0 a1 a2 a3 a4 a5 a6 a7 a8 a9 a10 a11 a12 a13 a14 a15 a16 a17 a18 a19 a20 = fun _ => 1#1) :
    (∀ i, IsReal (a2 i)) ∧ (∀ i, IsReal (a5 i)) ∧ (∀ i, IsReal (a19 i)) ∧ (∀ i, IsReal (a20 i)) := by
  have hs : Subsingleton S_.Idx := ⟨fun a b => funext fun i => i.elim0⟩
  have h0 := congrFun h (fun i => i.elim0)
  obtain ⟨h1, h20⟩ := IntOp.andi_eq_one.1 h0
  obtain ⟨h2, h19⟩ := IntOp.andi_eq_one.1 h1
  obtain ⟨h2', h5⟩ := IntOp.andi_eq_one.1 h2
  exact ⟨real_of_all a2 _ _ _ _ h2', real_of_all a5 _ _ _ _ h5, real_of_all a19 _ _ _ _ h19, real_of_all a20 _ _ _ _ h20⟩

end Cert.Pre_finite

end
-- ==== Proof.Value.Algebraic.lean ====
/- The kernel and the reference over the extended reals: from the same arguments they give the same results. -/
module

public import proofs.«01_k».proof.Defs
public import proofs.«01_k».proof.Proof.Value.KerValue
public import proofs.«01_k».proof.Proof.Value.RefValue
public import proofs.«01_k».proof.Proof.Value.Pre

@[expose] public section

set_option maxRecDepth 40000

noncomputable section

namespace Cert.Head

open Idealize.ShloMosaic hiding ix0 ix1 ix2 ix3
open Idealize.ShloMosaic.ValueIdx Idealize.SL.Sem

/-- The precondition makes the kernel's parameters real. -/
theorem params_real (m : (ℓ : Loc Cert.KernelIdeal.nD Cert.KernelIdeal.τ Cert.KernelIdeal.sig) → Buf (Elt Ideal) ℓ)
    (h : Cert.Pre_KernelIdeal_finite m) (c : Dev Cert.KernelIdeal.nD) : (Cert.KernelIdeal.Dma.paramsOf m c).Real := by
  obtain ⟨h2, h5, h19, h20⟩ := Cert.Pre_finite.reals _ _ _ _ _ _ _ _ _ _ _ _ _ _ _ _ _ _ _ _ _ (h c)
  exact ⟨fun e k => h2 (ix2 e k), fun j k => h5 (ix2 j k), fun j => h19 (ix1 j), fun j => h20 (ix1 j)⟩

/-- The kernel and the reference, run from memories that agree on the arguments, give the same two results and keep their arguments. -/
theorem algebraic : Cert.algebraic_KernelIdeal_ReferenceIdeal_pre_finite := by
  intro m g m' g' hpre hargs
  refine ⟨fun c => Cert.KernelIdeal.Gen.k0_pay2 (F := Ideal) (Cert.KernelIdeal.Dma.rowV m c),
    fun c => shapeCast Cert.KernelIdeal.S16384 (Cert.KernelIdeal.Gen.k0_pay3 (F := Ideal) (Cert.KernelIdeal.Dma.rowV m c)
      (Cert.KernelIdeal.Gen.iblk m c 0 Cert.KernelIdeal.Dma.tLast)) Cert.KernelIdeal.Gen.shapeCasts_S1x16384_S16384, ?_, ?_⟩
  · refine (θ_run _ _ _).mono (fun r h c => ?_) (Cert.KernelIdeal.Dma.run_main m g)
    exact ⟨Cert.KernelIdeal.Dma.final_v12_0 m h.1 c, Cert.KernelIdeal.Dma.final_v13 m h.1 c, Cert.KernelIdeal.Dma.kept m h.1 c⟩
  · refine (θ_run _ _ _).mono (fun r h c => ?_) (Cert.ReferenceIdeal.Straight.run_main m' g')
    have hp := params_real m hpre c
    have hV : Cert.ReferenceIdeal.Straight.paramsOf (StableHlo.launchContents m' c) = Cert.KernelIdeal.Dma.paramsOf m c := by
      obtain ⟨h0, h1, h2, h3, h4, h5, h6, h7, h8, h9, h10, h11, h12, h13, h14, h15, h16, h17, h18, h19, h20⟩ := hargs c
      show Params.of (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) = _
      rw [h2, h3, h5, h6, h7, h8, h9, h10, h13, h14, h15, h16, h17, h18, h19, h20]
      rfl
    have hmask : StableHlo.launchContents m' c (Proc.devRef .tc Cert.ReferenceIdeal.main_arg1)
        = m ((c.tc : Thread Cert.KernelIdeal.nD Cert.KernelIdeal.τ).loc Cert.KernelIdeal.main_arg1) := (hargs c).2.1
    obtain ⟨r0, p, rp, r1⟩ := Cert.ReferenceIdeal.Straight.results (StableHlo.launchContents m' c)
    obtain ⟨k0, q, kq, k1⟩ := Cert.KernelIdeal.Dma.results m c hp
    rw [hV] at r0 rp
    rw [hmask] at r1
    obtain rfl := rp.unique kq
    refine ⟨(h c Cert.ReferenceIdeal.main_v118).trans (funext fun i => ?_), (h c Cert.ReferenceIdeal.main_v131).trans (funext fun i => ?_),
      Cert.ReferenceIdeal.Straight.kept m' h c⟩
    · rw [Cert.KernelIdeal.Dma.row_idx i]
      exact (r0 _).trans (k0 _).symm
    · rw [ValueIdx.eq_ix1 i]
      exact (r1 _).trans (k1 _).symm

end Cert.Head

end
-- ==== Proof.lean ====
/- The proof of the certificate's claims.

   The frames of the kernel over words and over the extended reals are in `Proof.Bits.Final` and `Proof.Ideal.Final` (the
   same text at two instances), that of the reference in `Proof.Ref.Run`. What the two programs compute is stated over
   plain functions in `Proof.Value.Math`; `Proof.Value.KerValue` and `Proof.Value.RefValue` bring each of them there, and
   `Proof.Value.Algebraic` compares the two. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Bits.Final
public import proofs.«01_k».proof.Proof.Ideal.Final
public import proofs.«01_k».proof.Proof.Ref.Run
public import proofs.«01_k».proof.Proof.Value.Algebraic

@[expose] public section

noncomputable section

namespace Cert.Proof

open Idealize.ShloMosaic Idealize.SL.Sem Cert.Kernel

/-- The certificate's claims. -/
theorem claim : Cert.Claim :=
  ⟨Cert.Kernel.Gen.facts, Cert.KernelIdeal.Gen.facts, Cert.ReferenceIdeal.Gen.facts, Cert.Pre_finite.facts,
    fun m ρ _ => Cert.Kernel.Dma.frame m ρ,
    fun m ρ _ => Cert.KernelIdeal.Dma.frame m ρ,
    fun m ρ _ => Cert.KernelIdeal.Dma.frame m ρ,
    fun m ρ _ => Cert.ReferenceIdeal.Straight.frame m ρ,
    fun m ρ _ => Cert.ReferenceIdeal.Straight.frame m ρ,
    trivial,
    Cert.Head.algebraic⟩

end Cert.Proof

end
